-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norm_w [hPre_finite_norm_w : Cert.Pre_finite_norm_w.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norm_w.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norm_w [hPre_finite_norm_w : Cert.Pre_finite_norm_w.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norm_w.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_norm_w [hKernelIdeal : Cert.KernelIdeal.Facts] [hPre_finite_norm_w : Cert.Pre_finite_norm_w.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norm_w m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_norm_w [hReferenceIdeal : Cert.ReferenceIdeal.Facts] [hPre_finite_norm_w : Cert.Pre_finite_norm_w.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norm_w m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_norm_w [hKernelIdeal : Cert.KernelIdeal.Facts] [hReferenceIdeal : Cert.ReferenceIdeal.Facts] [hPre_finite_norm_w : Cert.Pre_finite_norm_w.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norm_w m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_norm_w : Cert.Pre_finite_norm_w.Facts),
    quiescent_Kernel (hKernel := hKernel)
    ∧ quiescent_KernelIdeal (hKernelIdeal := hKernelIdeal)
    ∧ quiescent_KernelIdeal_pre_finite_norm_w (hKernelIdeal := hKernelIdeal) (hPre_finite_norm_w := hPre_finite_norm_w)
    ∧ quiescent_ReferenceIdeal (hReferenceIdeal := hReferenceIdeal)
    ∧ quiescent_ReferenceIdeal_pre_finite_norm_w (hReferenceIdeal := hReferenceIdeal) (hPre_finite_norm_w := hPre_finite_norm_w)
    ∧ preserves_Kernel_KernelIdeal
    ∧ algebraic_KernelIdeal_ReferenceIdeal_pre_finite_norm_w (hKernelIdeal := hKernelIdeal) (hReferenceIdeal := hReferenceIdeal) (hPre_finite_norm_w := hPre_finite_norm_w)
-- ==== Pre_finite_norm_w.lean ====
abbrev S2x128x8192 : Shape := ⟨3, ![2, 128, 8192]⟩
abbrev S2x128x64 : Shape := ⟨3, ![2, 128, 64]⟩
abbrev S8192x3072 : Shape := ⟨2, ![8192, 3072]⟩
abbrev S64x24 : Shape := ⟨2, ![64, 24]⟩
abbrev S2x128x3072 : Shape := ⟨3, ![2, 128, 3072]⟩
abbrev S3072 : Shape := ⟨1, ![3072]⟩
abbrev S3072x4608 : Shape := ⟨2, ![3072, 4608]⟩
abbrev S24x36 : Shape := ⟨2, ![24, 36]⟩
abbrev S2x128 : Shape := ⟨2, ![2, 128]⟩
abbrev S_ : Shape := ⟨0, ![]⟩

class Facts : Prop where
  bcast_S_S3072 : S_.BroadcastsInDim S3072 (![] : Fin 0 → Fin S3072.rank)
  reducesTo_S3072_S_d0 : S3072.ReducesTo [0] S_
  h_S_ : 0 < S_.numel

variable [Facts]

def fn {F : FTy → Type} [FloatOps F] (main_arg0 : FVec F S2x128x8192 .fp8e4m3) (main_arg1 : FVec F S2x128x64 .f32) (main_arg2 : FVec F S8192x3072 .fp8e4m3) (main_arg3 : FVec F S64x24 .f32) (main_arg4 : FVec F S2x128x3072 .bf16) (main_arg5 : FVec F S3072 .f32) (main_arg6 : FVec F S3072x4608 .fp8e4m3) (main_arg7 : FVec F S24x36 .f32) (main_arg8 : IVec S2x128 32) : IVec S_ 1 :=
  let main_v0 : FVec F S3072 .f32 := Host.absf main_arg5
  let main_cst : FVec F S_ .f32 := constant S_ .f32 0x7F7FFFFF#32
  let main_v1 : FVec F S3072 .f32 := broadcastInDim S3072 ![] bcast_S_S3072 main_cst
  let main_v2 : IVec S3072 1 := cmpf .ole main_v0 main_v1
  let main_c : IVec S_ 1 := constantI S_ 1 1#1
  let main_v3 : IVec S_ 1 := (fun x v => Host.reduce IntOp.andi x v reducesTo_S3072_S_d0 h_S_) main_v2 main_c
  main_v3
-- ==== Kernel.lean ====
abbrev S2x128x8192 : Shape := ⟨3, ![2, 128, 8192]⟩
abbrev S2x128x64 : Shape := ⟨3, ![2, 128, 64]⟩
abbrev S8192x3072 : Shape := ⟨2, ![8192, 3072]⟩
abbrev S64x24 : Shape := ⟨2, ![64, 24]⟩
abbrev S2x128x3072 : Shape := ⟨3, ![2, 128, 3072]⟩
abbrev S3072 : Shape := ⟨1, ![3072]⟩
abbrev S3072x4608 : Shape := ⟨2, ![3072, 4608]⟩
abbrev S24x36 : Shape := ⟨2, ![24, 36]⟩
abbrev S2x128 : Shape := ⟨2, ![2, 128]⟩
abbrev S48x128 : Shape := ⟨2, ![48, 128]⟩
abbrev S256x8192 : Shape := ⟨2, ![256, 8192]⟩
abbrev S2x64x128 : Shape := ⟨3, ![2, 64, 128]⟩
abbrev S24x64 : Shape := ⟨2, ![24, 64]⟩
abbrev S256x3072 : Shape := ⟨2, ![256, 3072]⟩
abbrev S24x128 : Shape := ⟨2, ![24, 128]⟩
abbrev S2x24x128 : Shape := ⟨3, ![2, 24, 128]⟩
abbrev S16x256x512 : Shape := ⟨3, ![16, 256, 512]⟩
abbrev S256x128 : Shape := ⟨2, ![256, 128]⟩
abbrev S16x512x2048 : Shape := ⟨3, ![16, 512, 2048]⟩
abbrev S16x512x1024 : Shape := ⟨3, ![16, 512, 1024]⟩
abbrev S12x256x4608 : Shape := ⟨3, ![12, 256, 4608]⟩
abbrev S12x256x256 : Shape := ⟨3, ![12, 256, 256]⟩
abbrev S2x48x128 : Shape := ⟨3, ![2, 48, 128]⟩
abbrev S6 : Shape := ⟨1, ![6]⟩
abbrev S2x16 : Shape := ⟨2, ![2, 16]⟩
abbrev S16 : Shape := ⟨1, ![16]⟩
abbrev S_ : Shape := ⟨0, ![]⟩
abbrev S12 : Shape := ⟨1, ![12]⟩
abbrev S4 : Shape := ⟨1, ![4]⟩
abbrev S1 : Shape := ⟨1, ![1]⟩
abbrev S1x1 : Shape := ⟨2, ![1, 1]⟩
abbrev S1x256x512 : Shape := ⟨3, ![1, 256, 512]⟩
abbrev S256x512 : Shape := ⟨2, ![256, 512]⟩
abbrev S1x512x2048 : Shape := ⟨3, ![1, 512, 2048]⟩
abbrev S512x2048 : Shape := ⟨2, ![512, 2048]⟩
abbrev S1x512x1024 : Shape := ⟨3, ![1, 512, 1024]⟩
abbrev S512x1024 : Shape := ⟨2, ![512, 1024]⟩
abbrev S1x256x4608 : Shape := ⟨3, ![1, 256, 4608]⟩
abbrev S256x4608 : Shape := ⟨2, ![256, 4608]⟩
abbrev S256x256 : Shape := ⟨2, ![256, 256]⟩
abbrev S8x128 : Shape := ⟨2, ![8, 128]⟩
abbrev S1x64x128 : Shape := ⟨3, ![1, 64, 128]⟩
abbrev S64x128 : Shape := ⟨2, ![64, 128]⟩
abbrev S128x128 : Shape := ⟨2, ![128, 128]⟩
abbrev S16x128 : Shape := ⟨2, ![16, 128]⟩
abbrev S1x256x128 : Shape := ⟨3, ![1, 256, 128]⟩
abbrev S16x128x1 : Shape := ⟨3, ![16, 128, 1]⟩
abbrev S1x16x128 : Shape := ⟨3, ![1, 16, 128]⟩
abbrev S1x256x256 : Shape := ⟨3, ![1, 256, 256]⟩
abbrev S8x16x128 : Shape := ⟨3, ![8, 16, 128]⟩
abbrev S128x256 : Shape := ⟨2, ![128, 256]⟩
abbrev S1x128 : Shape := ⟨2, ![1, 128]⟩
abbrev S1x48x128 : Shape := ⟨3, ![1, 48, 128]⟩
abbrev S256 : Shape := ⟨1, ![256]⟩
abbrev S256x1 : Shape := ⟨2, ![256, 1]⟩
abbrev S1x8x128 : Shape := ⟨3, ![1, 8, 128]⟩
abbrev S32x8x128 : Shape := ⟨3, ![32, 8, 128]⟩
abbrev S1x24x128 : Shape := ⟨3, ![1, 24, 128]⟩

abbrev nBuf : Space → Nat
  | .hbm => 18
  | .vmem => 20
  | .smem => 2
  | _ => 0

abbrev bufTy : (tb : Table) → Fin (tcTables nBuf tb) → BufTy
  | .hbm, ⟨0, _⟩ => ⟨S2x128x8192, .fp8e4m3⟩
  | .hbm, ⟨1, _⟩ => ⟨S2x128x64, .f32⟩
  | .hbm, ⟨2, _⟩ => ⟨S8192x3072, .fp8e4m3⟩
  | .hbm, ⟨3, _⟩ => ⟨S64x24, .f32⟩
  | .hbm, ⟨4, _⟩ => ⟨S2x128x3072, .bf16⟩
  | .hbm, ⟨5, _⟩ => ⟨S3072, .f32⟩
  | .hbm, ⟨6, _⟩ => ⟨S3072x4608, .fp8e4m3⟩
  | .hbm, ⟨7, _⟩ => ⟨S24x36, .f32⟩
  | .hbm, ⟨8, _⟩ => ⟨S2x128, .i32⟩
  | .hbm, ⟨9, _⟩ => ⟨S48x128, .f32⟩
  | .hbm, ⟨10, _⟩ => ⟨S256x8192, .fp8e4m3⟩
  | .hbm, ⟨11, _⟩ => ⟨S2x64x128, .f32⟩
  | .hbm, ⟨12, _⟩ => ⟨S24x64, .f32⟩
  | .hbm, ⟨13, _⟩ => ⟨S256x3072, .bf16⟩
  | .hbm, ⟨14, _⟩ => ⟨S24x128, .f32⟩
  | .hbm, ⟨15, _⟩ => ⟨S256x3072, .bf16⟩
  | .hbm, ⟨16, _⟩ => ⟨S256x3072, .fp8e4m3⟩
  | .hbm, ⟨17, _⟩ => ⟨S2x24x128, .f32⟩
  | .local _ .vmem, ⟨0, _⟩ => ⟨S16x256x512, .fp8e4m3⟩
  | .local _ .vmem, ⟨1, _⟩ => ⟨S2x64x128, .f32⟩
  | .local _ .vmem, ⟨2, _⟩ => ⟨S256x128, .bf16⟩
  | .local _ .vmem, ⟨3, _⟩ => ⟨S16x256x512, .bf16⟩
  | .local _ .vmem, ⟨4, _⟩ => ⟨S16x512x2048, .fp8e4m3⟩
  | .local _ .vmem, ⟨5, _⟩ => ⟨S16x512x1024, .fp8e4m3⟩
  | .local _ .vmem, ⟨6, _⟩ => ⟨S256x3072, .bf16⟩
  | .local _ .vmem, ⟨7, _⟩ => ⟨S24x128, .f32⟩
  | .local _ .vmem, ⟨8, _⟩ => ⟨S12x256x4608, .fp8e4m3⟩
  | .local _ .vmem, ⟨9, _⟩ => ⟨S2x128, .i32⟩
  | .local _ .vmem, ⟨10, _⟩ => ⟨S48x128, .f32⟩
  | .local _ .vmem, ⟨11, _⟩ => ⟨S256x3072, .bf16⟩
  | .local _ .vmem, ⟨12, _⟩ => ⟨S256x128, .f32⟩
  | .local _ .vmem, ⟨13, _⟩ => ⟨S256x128, .f32⟩
  | .local _ .vmem, ⟨14, _⟩ => ⟨S12x256x256, .bf16⟩
  | .local _ .vmem, ⟨15, _⟩ => ⟨S256x3072, .fp8e4m3⟩
  | .local _ .vmem, ⟨16, _⟩ => ⟨S256x128, .f32⟩
  | .local _ .vmem, ⟨17, _⟩ => ⟨S2x24x128, .f32⟩
  | .local _ .vmem, ⟨18, _⟩ => ⟨S2x48x128, .f32⟩
  | .local _ .vmem, ⟨19, _⟩ => ⟨S2x48x128, .f32⟩
  | .local _ .smem, ⟨0, _⟩ => ⟨S24x64, .f32⟩
  | .local _ .smem, ⟨1, _⟩ => ⟨S24x36, .f32⟩
  | _, _ => ⟨S2x128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch16 : Ref sig .tc := ⟨.vmem, 14, rfl⟩
abbrev cc0_scratch17 : Ref sig .tc := ⟨.vmem, 15, rfl⟩
abbrev cc0_scratch18 : Ref sig .tc := ⟨.vmem, 16, rfl⟩
abbrev cc0_scratch19 : Ref sig .tc := ⟨.vmem, 17, rfl⟩
abbrev cc0_scratch20 : Ref sig .tc := ⟨.vmem, 18, rfl⟩
abbrev cc0_scratch21 : Ref sig .tc := ⟨.vmem, 19, rfl⟩
abbrev cc0_scratch6 : Ref sig .tc := ⟨.smem, 0, rfl⟩
abbrev cc0_scratch10 : Ref sig .tc := ⟨.smem, 1, rfl⟩

abbrev nD : Nat := 1
abbrev τ : Topo := Topo.v7x

variable {F : FTy → Type} [FloatOps F]

abbrev grid0 : Pipeline.Grid := .none

@[reducible] def k0_t1_loop : Scf.Loop 32 :=
  let c0_i32_732_r0 : BitVec 32 := 0#32
  let c15_i32_733_r0 : BitVec 32 := 15#32
  let v1427_r0 : BitVec 32 := Scalar.addi c0_i32_732_r0 c15_i32_733_r0
  let c1_i32_734_r0 : BitVec 32 := 1#32
  ⟨c0_i32_732_r0, v1427_r0, c1_i32_734_r0⟩
def k0_off1 (k0_t1 : Fin k0_t1_loop.trips) : Fin 2 → Nat :=
  let c0_i32_2055_r0 : BitVec 32 := 0#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  ![0, v5634_r0.toNat]
def k0_off2 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let c0_i32_2056_r0 : BitVec 32 := 0#32
  let c0_i32_2057_r0 : BitVec 32 := 0#32
  ![v5634_r0.toNat, 0, 0]
def k0_off3 (k0_t1 : Fin k0_t1_loop.trips) : Fin 2 → Nat :=
  let c0_i32_2058_r0 : BitVec 32 := 0#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let c512_i32_2054_r0 : BitVec 32 := 512#32
  let v5635_r0 : BitVec 32 := Scalar.muli v5634_r0 c512_i32_2054_r0
  ![0, v5635_r0.toNat]
def k0_off4 (k0_t1 : Fin k0_t1_loop.trips) : Fin 2 → Nat :=
  let c1_i32_2060_r0 : BitVec 32 := 1#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  ![1, v5634_r0.toNat]
def k0_off5 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let c0_i32_2061_r0 : BitVec 32 := 0#32
  let c0_i32_2062_r0 : BitVec 32 := 0#32
  ![v5634_r0.toNat, 0, 0]
def k0_off6 (k0_t1 : Fin k0_t1_loop.trips) : Fin 2 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let c512_i32_2059_r0 : BitVec 32 := 512#32
  let v5641_r0 : BitVec 32 := Scalar.muli v5634_r0 c512_i32_2059_r0
  let c0_i32_2063_r0 : BitVec 32 := 0#32
  ![v5641_r0.toNat, 0]
def k0_off7 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5651_r0 : Index := Scalar.indexCast v5647_r0
  let c0_2067_r0 : Index := 0#32
  let c0_2068_r0 : Index := 0#32
  ![v5651_r0.toNat, 0, 0]
def k0_off8 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5669_r0 : Index := Scalar.indexCast v5647_r0
  let c0_2073_r0 : Index := 0#32
  let c0_2074_r0 : Index := 0#32
  ![v5669_r0.toNat, 0, 0]
def k0_off9 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5685_r0 : Index := Scalar.indexCast v5647_r0
  let c16_2077_r0 : Index := 16#32
  let c0_2078_r0 : Index := 0#32
  ![v5685_r0.toNat, 16, 0]
def k0_off10 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5701_r0 : Index := Scalar.indexCast v5647_r0
  let c32_2081_r0 : Index := 32#32
  let c0_2082_r0 : Index := 0#32
  ![v5701_r0.toNat, 32, 0]
def k0_off11 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5717_r0 : Index := Scalar.indexCast v5647_r0
  let c48_2085_r0 : Index := 48#32
  let c0_2086_r0 : Index := 0#32
  ![v5717_r0.toNat, 48, 0]
def k0_off12 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5733_r0 : Index := Scalar.indexCast v5647_r0
  let c64_2089_r0 : Index := 64#32
  let c0_2090_r0 : Index := 0#32
  ![v5733_r0.toNat, 64, 0]
def k0_off13 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5749_r0 : Index := Scalar.indexCast v5647_r0
  let c80_2093_r0 : Index := 80#32
  let c0_2094_r0 : Index := 0#32
  ![v5749_r0.toNat, 80, 0]
def k0_off14 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5765_r0 : Index := Scalar.indexCast v5647_r0
  let c96_2097_r0 : Index := 96#32
  let c0_2098_r0 : Index := 0#32
  ![v5765_r0.toNat, 96, 0]
def k0_off15 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5781_r0 : Index := Scalar.indexCast v5647_r0
  let c112_2101_r0 : Index := 112#32
  let c0_2102_r0 : Index := 0#32
  ![v5781_r0.toNat, 112, 0]
def k0_off16 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5797_r0 : Index := Scalar.indexCast v5647_r0
  let c128_2105_r0 : Index := 128#32
  let c0_2106_r0 : Index := 0#32
  ![v5797_r0.toNat, 128, 0]
def k0_off17 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5813_r0 : Index := Scalar.indexCast v5647_r0
  let c144_2109_r0 : Index := 144#32
  let c0_2110_r0 : Index := 0#32
  ![v5813_r0.toNat, 144, 0]
def k0_off18 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5829_r0 : Index := Scalar.indexCast v5647_r0
  let c160_2113_r0 : Index := 160#32
  let c0_2114_r0 : Index := 0#32
  ![v5829_r0.toNat, 160, 0]
def k0_off19 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5845_r0 : Index := Scalar.indexCast v5647_r0
  let c176_2117_r0 : Index := 176#32
  let c0_2118_r0 : Index := 0#32
  ![v5845_r0.toNat, 176, 0]
def k0_off20 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5861_r0 : Index := Scalar.indexCast v5647_r0
  let c192_2121_r0 : Index := 192#32
  let c0_2122_r0 : Index := 0#32
  ![v5861_r0.toNat, 192, 0]
def k0_off21 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5877_r0 : Index := Scalar.indexCast v5647_r0
  let c208_2125_r0 : Index := 208#32
  let c0_2126_r0 : Index := 0#32
  ![v5877_r0.toNat, 208, 0]
def k0_off22 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5893_r0 : Index := Scalar.indexCast v5647_r0
  let c224_2129_r0 : Index := 224#32
  let c0_2130_r0 : Index := 0#32
  ![v5893_r0.toNat, 224, 0]
def k0_off23 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5909_r0 : Index := Scalar.indexCast v5647_r0
  let c240_2133_r0 : Index := 240#32
  let c0_2134_r0 : Index := 0#32
  ![v5909_r0.toNat, 240, 0]
def k0_off24 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5916_r0 : Index := Scalar.indexCast v5647_r0
  let c0_2137_r0 : Index := 0#32
  let c128_2138_r0 : Index := 128#32
  ![v5916_r0.toNat, 0, 128]
def k0_off25 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5934_r0 : Index := Scalar.indexCast v5647_r0
  let c0_2143_r0 : Index := 0#32
  let c128_2144_r0 : Index := 128#32
  ![v5934_r0.toNat, 0, 128]
def k0_off26 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5950_r0 : Index := Scalar.indexCast v5647_r0
  let c16_2147_r0 : Index := 16#32
  let c128_2148_r0 : Index := 128#32
  ![v5950_r0.toNat, 16, 128]
def k0_off27 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5966_r0 : Index := Scalar.indexCast v5647_r0
  let c32_2151_r0 : Index := 32#32
  let c128_2152_r0 : Index := 128#32
  ![v5966_r0.toNat, 32, 128]
def k0_off28 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5982_r0 : Index := Scalar.indexCast v5647_r0
  let c48_2155_r0 : Index := 48#32
  let c128_2156_r0 : Index := 128#32
  ![v5982_r0.toNat, 48, 128]
def k0_off29 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v5998_r0 : Index := Scalar.indexCast v5647_r0
  let c64_2159_r0 : Index := 64#32
  let c128_2160_r0 : Index := 128#32
  ![v5998_r0.toNat, 64, 128]
def k0_off30 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6014_r0 : Index := Scalar.indexCast v5647_r0
  let c80_2163_r0 : Index := 80#32
  let c128_2164_r0 : Index := 128#32
  ![v6014_r0.toNat, 80, 128]
def k0_off31 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6030_r0 : Index := Scalar.indexCast v5647_r0
  let c96_2167_r0 : Index := 96#32
  let c128_2168_r0 : Index := 128#32
  ![v6030_r0.toNat, 96, 128]
def k0_off32 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6046_r0 : Index := Scalar.indexCast v5647_r0
  let c112_2171_r0 : Index := 112#32
  let c128_2172_r0 : Index := 128#32
  ![v6046_r0.toNat, 112, 128]
def k0_off33 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6062_r0 : Index := Scalar.indexCast v5647_r0
  let c128_2175_r0 : Index := 128#32
  let c128_2176_r0 : Index := 128#32
  ![v6062_r0.toNat, 128, 128]
def k0_off34 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6078_r0 : Index := Scalar.indexCast v5647_r0
  let c144_2179_r0 : Index := 144#32
  let c128_2180_r0 : Index := 128#32
  ![v6078_r0.toNat, 144, 128]
def k0_off35 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6094_r0 : Index := Scalar.indexCast v5647_r0
  let c160_2183_r0 : Index := 160#32
  let c128_2184_r0 : Index := 128#32
  ![v6094_r0.toNat, 160, 128]
def k0_off36 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6110_r0 : Index := Scalar.indexCast v5647_r0
  let c176_2187_r0 : Index := 176#32
  let c128_2188_r0 : Index := 128#32
  ![v6110_r0.toNat, 176, 128]
def k0_off37 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6126_r0 : Index := Scalar.indexCast v5647_r0
  let c192_2191_r0 : Index := 192#32
  let c128_2192_r0 : Index := 128#32
  ![v6126_r0.toNat, 192, 128]
def k0_off38 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6142_r0 : Index := Scalar.indexCast v5647_r0
  let c208_2195_r0 : Index := 208#32
  let c128_2196_r0 : Index := 128#32
  ![v6142_r0.toNat, 208, 128]
def k0_off39 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6158_r0 : Index := Scalar.indexCast v5647_r0
  let c224_2199_r0 : Index := 224#32
  let c128_2200_r0 : Index := 128#32
  ![v6158_r0.toNat, 224, 128]
def k0_off40 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6174_r0 : Index := Scalar.indexCast v5647_r0
  let c240_2203_r0 : Index := 240#32
  let c128_2204_r0 : Index := 128#32
  ![v6174_r0.toNat, 240, 128]
def k0_off41 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6181_r0 : Index := Scalar.indexCast v5647_r0
  let c0_2207_r0 : Index := 0#32
  let c256_2208_r0 : Index := 256#32
  ![v6181_r0.toNat, 0, 256]
def k0_off42 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6199_r0 : Index := Scalar.indexCast v5647_r0
  let c0_2213_r0 : Index := 0#32
  let c256_2214_r0 : Index := 256#32
  ![v6199_r0.toNat, 0, 256]
def k0_off43 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6215_r0 : Index := Scalar.indexCast v5647_r0
  let c16_2217_r0 : Index := 16#32
  let c256_2218_r0 : Index := 256#32
  ![v6215_r0.toNat, 16, 256]
def k0_off44 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6231_r0 : Index := Scalar.indexCast v5647_r0
  let c32_2221_r0 : Index := 32#32
  let c256_2222_r0 : Index := 256#32
  ![v6231_r0.toNat, 32, 256]
def k0_off45 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6247_r0 : Index := Scalar.indexCast v5647_r0
  let c48_2225_r0 : Index := 48#32
  let c256_2226_r0 : Index := 256#32
  ![v6247_r0.toNat, 48, 256]
def k0_off46 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6263_r0 : Index := Scalar.indexCast v5647_r0
  let c64_2229_r0 : Index := 64#32
  let c256_2230_r0 : Index := 256#32
  ![v6263_r0.toNat, 64, 256]
def k0_off47 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6279_r0 : Index := Scalar.indexCast v5647_r0
  let c80_2233_r0 : Index := 80#32
  let c256_2234_r0 : Index := 256#32
  ![v6279_r0.toNat, 80, 256]
def k0_off48 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6295_r0 : Index := Scalar.indexCast v5647_r0
  let c96_2237_r0 : Index := 96#32
  let c256_2238_r0 : Index := 256#32
  ![v6295_r0.toNat, 96, 256]
def k0_off49 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6311_r0 : Index := Scalar.indexCast v5647_r0
  let c112_2241_r0 : Index := 112#32
  let c256_2242_r0 : Index := 256#32
  ![v6311_r0.toNat, 112, 256]
def k0_off50 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6327_r0 : Index := Scalar.indexCast v5647_r0
  let c128_2245_r0 : Index := 128#32
  let c256_2246_r0 : Index := 256#32
  ![v6327_r0.toNat, 128, 256]
def k0_off51 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6343_r0 : Index := Scalar.indexCast v5647_r0
  let c144_2249_r0 : Index := 144#32
  let c256_2250_r0 : Index := 256#32
  ![v6343_r0.toNat, 144, 256]
def k0_off52 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6359_r0 : Index := Scalar.indexCast v5647_r0
  let c160_2253_r0 : Index := 160#32
  let c256_2254_r0 : Index := 256#32
  ![v6359_r0.toNat, 160, 256]
def k0_off53 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6375_r0 : Index := Scalar.indexCast v5647_r0
  let c176_2257_r0 : Index := 176#32
  let c256_2258_r0 : Index := 256#32
  ![v6375_r0.toNat, 176, 256]
def k0_off54 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6391_r0 : Index := Scalar.indexCast v5647_r0
  let c192_2261_r0 : Index := 192#32
  let c256_2262_r0 : Index := 256#32
  ![v6391_r0.toNat, 192, 256]
def k0_off55 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6407_r0 : Index := Scalar.indexCast v5647_r0
  let c208_2265_r0 : Index := 208#32
  let c256_2266_r0 : Index := 256#32
  ![v6407_r0.toNat, 208, 256]
def k0_off56 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6423_r0 : Index := Scalar.indexCast v5647_r0
  let c224_2269_r0 : Index := 224#32
  let c256_2270_r0 : Index := 256#32
  ![v6423_r0.toNat, 224, 256]
def k0_off57 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6439_r0 : Index := Scalar.indexCast v5647_r0
  let c240_2273_r0 : Index := 240#32
  let c256_2274_r0 : Index := 256#32
  ![v6439_r0.toNat, 240, 256]
def k0_off58 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6446_r0 : Index := Scalar.indexCast v5647_r0
  let c0_2277_r0 : Index := 0#32
  let c384_2278_r0 : Index := 384#32
  ![v6446_r0.toNat, 0, 384]
def k0_off59 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6464_r0 : Index := Scalar.indexCast v5647_r0
  let c0_2283_r0 : Index := 0#32
  let c384_2284_r0 : Index := 384#32
  ![v6464_r0.toNat, 0, 384]
def k0_off60 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6480_r0 : Index := Scalar.indexCast v5647_r0
  let c16_2287_r0 : Index := 16#32
  let c384_2288_r0 : Index := 384#32
  ![v6480_r0.toNat, 16, 384]
def k0_off61 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6496_r0 : Index := Scalar.indexCast v5647_r0
  let c32_2291_r0 : Index := 32#32
  let c384_2292_r0 : Index := 384#32
  ![v6496_r0.toNat, 32, 384]
def k0_off62 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6512_r0 : Index := Scalar.indexCast v5647_r0
  let c48_2295_r0 : Index := 48#32
  let c384_2296_r0 : Index := 384#32
  ![v6512_r0.toNat, 48, 384]
def k0_off63 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6528_r0 : Index := Scalar.indexCast v5647_r0
  let c64_2299_r0 : Index := 64#32
  let c384_2300_r0 : Index := 384#32
  ![v6528_r0.toNat, 64, 384]
def k0_off64 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6544_r0 : Index := Scalar.indexCast v5647_r0
  let c80_2303_r0 : Index := 80#32
  let c384_2304_r0 : Index := 384#32
  ![v6544_r0.toNat, 80, 384]
def k0_off65 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6560_r0 : Index := Scalar.indexCast v5647_r0
  let c96_2307_r0 : Index := 96#32
  let c384_2308_r0 : Index := 384#32
  ![v6560_r0.toNat, 96, 384]
def k0_off66 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6576_r0 : Index := Scalar.indexCast v5647_r0
  let c112_2311_r0 : Index := 112#32
  let c384_2312_r0 : Index := 384#32
  ![v6576_r0.toNat, 112, 384]
def k0_off67 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6592_r0 : Index := Scalar.indexCast v5647_r0
  let c128_2315_r0 : Index := 128#32
  let c384_2316_r0 : Index := 384#32
  ![v6592_r0.toNat, 128, 384]
def k0_off68 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6608_r0 : Index := Scalar.indexCast v5647_r0
  let c144_2319_r0 : Index := 144#32
  let c384_2320_r0 : Index := 384#32
  ![v6608_r0.toNat, 144, 384]
def k0_off69 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6624_r0 : Index := Scalar.indexCast v5647_r0
  let c160_2323_r0 : Index := 160#32
  let c384_2324_r0 : Index := 384#32
  ![v6624_r0.toNat, 160, 384]
def k0_off70 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6640_r0 : Index := Scalar.indexCast v5647_r0
  let c176_2327_r0 : Index := 176#32
  let c384_2328_r0 : Index := 384#32
  ![v6640_r0.toNat, 176, 384]
def k0_off71 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6656_r0 : Index := Scalar.indexCast v5647_r0
  let c192_2331_r0 : Index := 192#32
  let c384_2332_r0 : Index := 384#32
  ![v6656_r0.toNat, 192, 384]
def k0_off72 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6672_r0 : Index := Scalar.indexCast v5647_r0
  let c208_2335_r0 : Index := 208#32
  let c384_2336_r0 : Index := 384#32
  ![v6672_r0.toNat, 208, 384]
def k0_off73 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6688_r0 : Index := Scalar.indexCast v5647_r0
  let c224_2339_r0 : Index := 224#32
  let c384_2340_r0 : Index := 384#32
  ![v6688_r0.toNat, 224, 384]
def k0_off74 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2064_r0 : BitVec 32 := 1#32
  let v5647_r0 : BitVec 32 := Scalar.addi v5633_r0 c1_i32_2064_r0
  let v6704_r0 : Index := Scalar.indexCast v5647_r0
  let c240_2343_r0 : Index := 240#32
  let c384_2344_r0 : Index := 384#32
  ![v6704_r0.toNat, 240, 384]
def k0_off75 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v6708_r0 : Index := Scalar.indexCast v5633_r0
  let c0_2345_r0 : Index := 0#32
  let c0_2346_r0 : Index := 0#32
  ![v6708_r0.toNat, 0, 0]
def k0_off76 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v6711_r0 : Index := Scalar.indexCast v5633_r0
  let c0_2347_r0 : Index := 0#32
  let c512_2348_r0 : Index := 512#32
  ![v6711_r0.toNat, 0, 512]
def k0_off77 (k0_t1 : Fin k0_t1_loop.trips) (c0_i32_2350_r0 : BitVec 32) (c0_i32_2352_r0 : BitVec 32) : Fin 2 → Nat :=
  let c4_2353_r0 : Index := 4#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2349_r0 : BitVec 32 := 2#32
  let v6715_r0 : BitVec 32 := Scalar.muli v5633_r0 c2_i32_2349_r0
  let v6716_r0 : BitVec 32 := Scalar.addi v6715_r0 c0_i32_2350_r0
  let c2_i32_2351_r0 : BitVec 32 := 2#32
  let v6717_r0 : BitVec 32 := Scalar.muli v6716_r0 c2_i32_2351_r0
  let v6718_r0 : BitVec 32 := Scalar.addi v6717_r0 c0_i32_2352_r0
  let v6719_r0 : Index := Scalar.indexCast v6718_r0
  ![4, v6719_r0.toNat]
def k0_off78 (k0_t1 : Fin k0_t1_loop.trips) (c0_i32_2355_r0 : BitVec 32) (c0_i32_2357_r0 : BitVec 32) : Fin 2 → Nat :=
  let c5_2358_r0 : Index := 5#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2354_r0 : BitVec 32 := 2#32
  let v6730_r0 : BitVec 32 := Scalar.muli v5633_r0 c2_i32_2354_r0
  let v6731_r0 : BitVec 32 := Scalar.addi v6730_r0 c0_i32_2355_r0
  let c2_i32_2356_r0 : BitVec 32 := 2#32
  let v6732_r0 : BitVec 32 := Scalar.muli v6731_r0 c2_i32_2356_r0
  let v6733_r0 : BitVec 32 := Scalar.addi v6732_r0 c0_i32_2357_r0
  let v6734_r0 : Index := Scalar.indexCast v6733_r0
  ![5, v6734_r0.toNat]
def k0_off79 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v6777_r0 : Index := Scalar.indexCast v5633_r0
  let c0_2369_r0 : Index := 0#32
  let c768_2370_r0 : Index := 768#32
  ![v6777_r0.toNat, 0, 768]
def k0_off80 (k0_t1 : Fin k0_t1_loop.trips) (c0_i32_2372_r0 : BitVec 32) (c0_i32_2374_r0 : BitVec 32) : Fin 2 → Nat :=
  let c6_2375_r0 : Index := 6#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2371_r0 : BitVec 32 := 2#32
  let v6781_r0 : BitVec 32 := Scalar.muli v5633_r0 c2_i32_2371_r0
  let v6782_r0 : BitVec 32 := Scalar.addi v6781_r0 c0_i32_2372_r0
  let c2_i32_2373_r0 : BitVec 32 := 2#32
  let v6783_r0 : BitVec 32 := Scalar.muli v6782_r0 c2_i32_2373_r0
  let v6784_r0 : BitVec 32 := Scalar.addi v6783_r0 c0_i32_2374_r0
  let v6785_r0 : Index := Scalar.indexCast v6784_r0
  ![6, v6785_r0.toNat]
def k0_off81 (k0_t1 : Fin k0_t1_loop.trips) (c0_i32_2377_r0 : BitVec 32) (c0_i32_2379_r0 : BitVec 32) : Fin 2 → Nat :=
  let c7_2380_r0 : Index := 7#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2376_r0 : BitVec 32 := 2#32
  let v6796_r0 : BitVec 32 := Scalar.muli v5633_r0 c2_i32_2376_r0
  let v6797_r0 : BitVec 32 := Scalar.addi v6796_r0 c0_i32_2377_r0
  let c2_i32_2378_r0 : BitVec 32 := 2#32
  let v6798_r0 : BitVec 32 := Scalar.muli v6797_r0 c2_i32_2378_r0
  let v6799_r0 : BitVec 32 := Scalar.addi v6798_r0 c0_i32_2379_r0
  let v6800_r0 : Index := Scalar.indexCast v6799_r0
  ![7, v6800_r0.toNat]
def k0_off82 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v6846_r0 : Index := Scalar.indexCast v5633_r0
  let c0_2393_r0 : Index := 0#32
  let c1024_2394_r0 : Index := 1024#32
  ![v6846_r0.toNat, 0, 1024]
def k0_off83 (k0_t1 : Fin k0_t1_loop.trips) (c0_i32_2396_r0 : BitVec 32) (c0_i32_2398_r0 : BitVec 32) : Fin 2 → Nat :=
  let c8_2399_r0 : Index := 8#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2395_r0 : BitVec 32 := 2#32
  let v6850_r0 : BitVec 32 := Scalar.muli v5633_r0 c2_i32_2395_r0
  let v6851_r0 : BitVec 32 := Scalar.addi v6850_r0 c0_i32_2396_r0
  let c2_i32_2397_r0 : BitVec 32 := 2#32
  let v6852_r0 : BitVec 32 := Scalar.muli v6851_r0 c2_i32_2397_r0
  let v6853_r0 : BitVec 32 := Scalar.addi v6852_r0 c0_i32_2398_r0
  let v6854_r0 : Index := Scalar.indexCast v6853_r0
  ![8, v6854_r0.toNat]
def k0_off84 (k0_t1 : Fin k0_t1_loop.trips) (c0_i32_2401_r0 : BitVec 32) (c0_i32_2403_r0 : BitVec 32) : Fin 2 → Nat :=
  let c9_2404_r0 : Index := 9#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2400_r0 : BitVec 32 := 2#32
  let v6865_r0 : BitVec 32 := Scalar.muli v5633_r0 c2_i32_2400_r0
  let v6866_r0 : BitVec 32 := Scalar.addi v6865_r0 c0_i32_2401_r0
  let c2_i32_2402_r0 : BitVec 32 := 2#32
  let v6867_r0 : BitVec 32 := Scalar.muli v6866_r0 c2_i32_2402_r0
  let v6868_r0 : BitVec 32 := Scalar.addi v6867_r0 c0_i32_2403_r0
  let v6869_r0 : Index := Scalar.indexCast v6868_r0
  ![9, v6869_r0.toNat]
def k0_off85 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v6912_r0 : Index := Scalar.indexCast v5633_r0
  let c0_2415_r0 : Index := 0#32
  let c1280_2416_r0 : Index := 1280#32
  ![v6912_r0.toNat, 0, 1280]
def k0_off86 (k0_t1 : Fin k0_t1_loop.trips) (c0_i32_2418_r0 : BitVec 32) (c0_i32_2420_r0 : BitVec 32) : Fin 2 → Nat :=
  let c10_2421_r0 : Index := 10#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2417_r0 : BitVec 32 := 2#32
  let v6916_r0 : BitVec 32 := Scalar.muli v5633_r0 c2_i32_2417_r0
  let v6917_r0 : BitVec 32 := Scalar.addi v6916_r0 c0_i32_2418_r0
  let c2_i32_2419_r0 : BitVec 32 := 2#32
  let v6918_r0 : BitVec 32 := Scalar.muli v6917_r0 c2_i32_2419_r0
  let v6919_r0 : BitVec 32 := Scalar.addi v6918_r0 c0_i32_2420_r0
  let v6920_r0 : Index := Scalar.indexCast v6919_r0
  ![10, v6920_r0.toNat]
def k0_off87 (k0_t1 : Fin k0_t1_loop.trips) (c0_i32_2423_r0 : BitVec 32) (c0_i32_2425_r0 : BitVec 32) : Fin 2 → Nat :=
  let c11_2426_r0 : Index := 11#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2422_r0 : BitVec 32 := 2#32
  let v6931_r0 : BitVec 32 := Scalar.muli v5633_r0 c2_i32_2422_r0
  let v6932_r0 : BitVec 32 := Scalar.addi v6931_r0 c0_i32_2423_r0
  let c2_i32_2424_r0 : BitVec 32 := 2#32
  let v6933_r0 : BitVec 32 := Scalar.muli v6932_r0 c2_i32_2424_r0
  let v6934_r0 : BitVec 32 := Scalar.addi v6933_r0 c0_i32_2425_r0
  let v6935_r0 : Index := Scalar.indexCast v6934_r0
  ![11, v6935_r0.toNat]
def k0_off88 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v6981_r0 : Index := Scalar.indexCast v5633_r0
  let c0_2439_r0 : Index := 0#32
  let c1536_2440_r0 : Index := 1536#32
  ![v6981_r0.toNat, 0, 1536]
def k0_off89 (k0_t1 : Fin k0_t1_loop.trips) (c0_i32_2442_r0 : BitVec 32) (c0_i32_2444_r0 : BitVec 32) : Fin 2 → Nat :=
  let c12_2445_r0 : Index := 12#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2441_r0 : BitVec 32 := 2#32
  let v6985_r0 : BitVec 32 := Scalar.muli v5633_r0 c2_i32_2441_r0
  let v6986_r0 : BitVec 32 := Scalar.addi v6985_r0 c0_i32_2442_r0
  let c2_i32_2443_r0 : BitVec 32 := 2#32
  let v6987_r0 : BitVec 32 := Scalar.muli v6986_r0 c2_i32_2443_r0
  let v6988_r0 : BitVec 32 := Scalar.addi v6987_r0 c0_i32_2444_r0
  let v6989_r0 : Index := Scalar.indexCast v6988_r0
  ![12, v6989_r0.toNat]
def k0_off90 (k0_t1 : Fin k0_t1_loop.trips) (c0_i32_2447_r0 : BitVec 32) (c0_i32_2449_r0 : BitVec 32) : Fin 2 → Nat :=
  let c13_2450_r0 : Index := 13#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2446_r0 : BitVec 32 := 2#32
  let v7000_r0 : BitVec 32 := Scalar.muli v5633_r0 c2_i32_2446_r0
  let v7001_r0 : BitVec 32 := Scalar.addi v7000_r0 c0_i32_2447_r0
  let c2_i32_2448_r0 : BitVec 32 := 2#32
  let v7002_r0 : BitVec 32 := Scalar.muli v7001_r0 c2_i32_2448_r0
  let v7003_r0 : BitVec 32 := Scalar.addi v7002_r0 c0_i32_2449_r0
  let v7004_r0 : Index := Scalar.indexCast v7003_r0
  ![13, v7004_r0.toNat]
def k0_off91 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7047_r0 : Index := Scalar.indexCast v5633_r0
  let c0_2461_r0 : Index := 0#32
  let c1792_2462_r0 : Index := 1792#32
  ![v7047_r0.toNat, 0, 1792]
def k0_off92 (k0_t1 : Fin k0_t1_loop.trips) (c0_i32_2464_r0 : BitVec 32) (c0_i32_2466_r0 : BitVec 32) : Fin 2 → Nat :=
  let c14_2467_r0 : Index := 14#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2463_r0 : BitVec 32 := 2#32
  let v7051_r0 : BitVec 32 := Scalar.muli v5633_r0 c2_i32_2463_r0
  let v7052_r0 : BitVec 32 := Scalar.addi v7051_r0 c0_i32_2464_r0
  let c2_i32_2465_r0 : BitVec 32 := 2#32
  let v7053_r0 : BitVec 32 := Scalar.muli v7052_r0 c2_i32_2465_r0
  let v7054_r0 : BitVec 32 := Scalar.addi v7053_r0 c0_i32_2466_r0
  let v7055_r0 : Index := Scalar.indexCast v7054_r0
  ![14, v7055_r0.toNat]
def k0_off93 (k0_t1 : Fin k0_t1_loop.trips) (c0_i32_2469_r0 : BitVec 32) (c0_i32_2471_r0 : BitVec 32) : Fin 2 → Nat :=
  let c15_2472_r0 : Index := 15#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2468_r0 : BitVec 32 := 2#32
  let v7066_r0 : BitVec 32 := Scalar.muli v5633_r0 c2_i32_2468_r0
  let v7067_r0 : BitVec 32 := Scalar.addi v7066_r0 c0_i32_2469_r0
  let c2_i32_2470_r0 : BitVec 32 := 2#32
  let v7068_r0 : BitVec 32 := Scalar.muli v7067_r0 c2_i32_2470_r0
  let v7069_r0 : BitVec 32 := Scalar.addi v7068_r0 c0_i32_2471_r0
  let v7070_r0 : Index := Scalar.indexCast v7069_r0
  ![15, v7070_r0.toNat]
def k0_off94 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7116_r0 : Index := Scalar.indexCast v5633_r0
  let c256_2485_r0 : Index := 256#32
  let c0_2486_r0 : Index := 0#32
  ![v7116_r0.toNat, 256, 0]
def k0_off95 (k0_t1 : Fin k0_t1_loop.trips) (c0_i32_2490_r0 : BitVec 32) : Fin 2 → Nat :=
  let c0_2491_r0 : Index := 0#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2487_r0 : BitVec 32 := 2#32
  let v7120_r0 : BitVec 32 := Scalar.muli v5633_r0 c2_i32_2487_r0
  let c1_i32_2488_r0 : BitVec 32 := 1#32
  let v7121_r0 : BitVec 32 := Scalar.addi v7120_r0 c1_i32_2488_r0
  let c2_i32_2489_r0 : BitVec 32 := 2#32
  let v7122_r0 : BitVec 32 := Scalar.muli v7121_r0 c2_i32_2489_r0
  let v7123_r0 : BitVec 32 := Scalar.addi v7122_r0 c0_i32_2490_r0
  let v7124_r0 : Index := Scalar.indexCast v7123_r0
  ![0, v7124_r0.toNat]
def k0_off96 (k0_t1 : Fin k0_t1_loop.trips) (c0_i32_2495_r0 : BitVec 32) : Fin 2 → Nat :=
  let c1_2496_r0 : Index := 1#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2492_r0 : BitVec 32 := 2#32
  let v7135_r0 : BitVec 32 := Scalar.muli v5633_r0 c2_i32_2492_r0
  let c1_i32_2493_r0 : BitVec 32 := 1#32
  let v7136_r0 : BitVec 32 := Scalar.addi v7135_r0 c1_i32_2493_r0
  let c2_i32_2494_r0 : BitVec 32 := 2#32
  let v7137_r0 : BitVec 32 := Scalar.muli v7136_r0 c2_i32_2494_r0
  let v7138_r0 : BitVec 32 := Scalar.addi v7137_r0 c0_i32_2495_r0
  let v7139_r0 : Index := Scalar.indexCast v7138_r0
  ![1, v7139_r0.toNat]
def k0_off97 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7182_r0 : Index := Scalar.indexCast v5633_r0
  let c256_2507_r0 : Index := 256#32
  let c256_2508_r0 : Index := 256#32
  ![v7182_r0.toNat, 256, 256]
def k0_off98 (k0_t1 : Fin k0_t1_loop.trips) (c0_i32_2512_r0 : BitVec 32) : Fin 2 → Nat :=
  let c2_2513_r0 : Index := 2#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2509_r0 : BitVec 32 := 2#32
  let v7186_r0 : BitVec 32 := Scalar.muli v5633_r0 c2_i32_2509_r0
  let c1_i32_2510_r0 : BitVec 32 := 1#32
  let v7187_r0 : BitVec 32 := Scalar.addi v7186_r0 c1_i32_2510_r0
  let c2_i32_2511_r0 : BitVec 32 := 2#32
  let v7188_r0 : BitVec 32 := Scalar.muli v7187_r0 c2_i32_2511_r0
  let v7189_r0 : BitVec 32 := Scalar.addi v7188_r0 c0_i32_2512_r0
  let v7190_r0 : Index := Scalar.indexCast v7189_r0
  ![2, v7190_r0.toNat]
def k0_off99 (k0_t1 : Fin k0_t1_loop.trips) (c0_i32_2517_r0 : BitVec 32) : Fin 2 → Nat :=
  let c3_2518_r0 : Index := 3#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c2_i32_2514_r0 : BitVec 32 := 2#32
  let v7201_r0 : BitVec 32 := Scalar.muli v5633_r0 c2_i32_2514_r0
  let c1_i32_2515_r0 : BitVec 32 := 1#32
  let v7202_r0 : BitVec 32 := Scalar.addi v7201_r0 c1_i32_2515_r0
  let c2_i32_2516_r0 : BitVec 32 := 2#32
  let v7203_r0 : BitVec 32 := Scalar.muli v7202_r0 c2_i32_2516_r0
  let v7204_r0 : BitVec 32 := Scalar.addi v7203_r0 c0_i32_2517_r0
  let v7205_r0 : Index := Scalar.indexCast v7204_r0
  ![3, v7205_r0.toNat]
def k0_off100 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7248_r0 : Index := Scalar.indexCast v5633_r0
  let c0_2529_r0 : Index := 0#32
  let c256_2530_r0 : Index := 256#32
  ![v7248_r0.toNat, 0, 256]
def k0_off101 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7251_r0 : Index := Scalar.indexCast v5633_r0
  let c256_2531_r0 : Index := 256#32
  let c512_2532_r0 : Index := 512#32
  ![v7251_r0.toNat, 256, 512]
def k0_off102 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7317_r0 : Index := Scalar.indexCast v5633_r0
  let c256_2553_r0 : Index := 256#32
  let c768_2554_r0 : Index := 768#32
  ![v7317_r0.toNat, 256, 768]
def k0_off103 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7386_r0 : Index := Scalar.indexCast v5633_r0
  let c256_2577_r0 : Index := 256#32
  let c1024_2578_r0 : Index := 1024#32
  ![v7386_r0.toNat, 256, 1024]
def k0_off104 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7452_r0 : Index := Scalar.indexCast v5633_r0
  let c256_2599_r0 : Index := 256#32
  let c1280_2600_r0 : Index := 1280#32
  ![v7452_r0.toNat, 256, 1280]
def k0_off105 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7521_r0 : Index := Scalar.indexCast v5633_r0
  let c256_2623_r0 : Index := 256#32
  let c1536_2624_r0 : Index := 1536#32
  ![v7521_r0.toNat, 256, 1536]
def k0_off106 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let v7587_r0 : Index := Scalar.indexCast v5633_r0
  let c256_2645_r0 : Index := 256#32
  let c1792_2646_r0 : Index := 1792#32
  ![v7587_r0.toNat, 256, 1792]
def k0_off107 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2669_r0 : BitVec 32 := 1#32
  let v7656_r0 : BitVec 32 := Scalar.addi v5633_r0 c1_i32_2669_r0
  let v7657_r0 : Index := Scalar.indexCast v7656_r0
  let c0_2670_r0 : Index := 0#32
  let c0_2671_r0 : Index := 0#32
  ![v7657_r0.toNat, 0, 0]
def k0_off108 (k0_t1 : Fin k0_t1_loop.trips) (c0_i32_2675_r0 : BitVec 32) : Fin 2 → Nat :=
  let c0_2676_r0 : Index := 0#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2669_r0 : BitVec 32 := 1#32
  let v7656_r0 : BitVec 32 := Scalar.addi v5633_r0 c1_i32_2669_r0
  let c2_i32_2672_r0 : BitVec 32 := 2#32
  let v7661_r0 : BitVec 32 := Scalar.muli v7656_r0 c2_i32_2672_r0
  let c0_i32_2673_r0 : BitVec 32 := 0#32
  let v7662_r0 : BitVec 32 := Scalar.addi v7661_r0 c0_i32_2673_r0
  let c2_i32_2674_r0 : BitVec 32 := 2#32
  let v7663_r0 : BitVec 32 := Scalar.muli v7662_r0 c2_i32_2674_r0
  let v7664_r0 : BitVec 32 := Scalar.addi v7663_r0 c0_i32_2675_r0
  let v7665_r0 : Index := Scalar.indexCast v7664_r0
  ![0, v7665_r0.toNat]
def k0_off109 (k0_t1 : Fin k0_t1_loop.trips) (c0_i32_2680_r0 : BitVec 32) : Fin 2 → Nat :=
  let c1_2681_r0 : Index := 1#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2669_r0 : BitVec 32 := 1#32
  let v7656_r0 : BitVec 32 := Scalar.addi v5633_r0 c1_i32_2669_r0
  let c2_i32_2677_r0 : BitVec 32 := 2#32
  let v7676_r0 : BitVec 32 := Scalar.muli v7656_r0 c2_i32_2677_r0
  let c0_i32_2678_r0 : BitVec 32 := 0#32
  let v7677_r0 : BitVec 32 := Scalar.addi v7676_r0 c0_i32_2678_r0
  let c2_i32_2679_r0 : BitVec 32 := 2#32
  let v7678_r0 : BitVec 32 := Scalar.muli v7677_r0 c2_i32_2679_r0
  let v7679_r0 : BitVec 32 := Scalar.addi v7678_r0 c0_i32_2680_r0
  let v7680_r0 : Index := Scalar.indexCast v7679_r0
  ![1, v7680_r0.toNat]
def k0_off110 (k0_t1 : Fin k0_t1_loop.trips) : Fin 3 → Nat :=
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2692_r0 : BitVec 32 := 1#32
  let v7723_r0 : BitVec 32 := Scalar.addi v5633_r0 c1_i32_2692_r0
  let v7724_r0 : Index := Scalar.indexCast v7723_r0
  let c0_2693_r0 : Index := 0#32
  let c256_2694_r0 : Index := 256#32
  ![v7724_r0.toNat, 0, 256]
def k0_off111 (k0_t1 : Fin k0_t1_loop.trips) (c0_i32_2698_r0 : BitVec 32) : Fin 2 → Nat :=
  let c2_2699_r0 : Index := 2#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2692_r0 : BitVec 32 := 1#32
  let v7723_r0 : BitVec 32 := Scalar.addi v5633_r0 c1_i32_2692_r0
  let c2_i32_2695_r0 : BitVec 32 := 2#32
  let v7728_r0 : BitVec 32 := Scalar.muli v7723_r0 c2_i32_2695_r0
  let c0_i32_2696_r0 : BitVec 32 := 0#32
  let v7729_r0 : BitVec 32 := Scalar.addi v7728_r0 c0_i32_2696_r0
  let c2_i32_2697_r0 : BitVec 32 := 2#32
  let v7730_r0 : BitVec 32 := Scalar.muli v7729_r0 c2_i32_2697_r0
  let v7731_r0 : BitVec 32 := Scalar.addi v7730_r0 c0_i32_2698_r0
  let v7732_r0 : Index := Scalar.indexCast v7731_r0
  ![2, v7732_r0.toNat]
def k0_off112 (k0_t1 : Fin k0_t1_loop.trips) (c0_i32_2703_r0 : BitVec 32) : Fin 2 → Nat :=
  let c3_2704_r0 : Index := 3#32
  let c0_i32_2052_r0 : BitVec 32 := 0#32
  let c0_i32_732_r0 : BitVec 32 := 0#32
  let c1_i32_734_r0 : BitVec 32 := 1#32
  let arg41_r0 : BitVec 32 := Scf.iv c0_i32_732_r0 c1_i32_734_r0 k0_t1
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2692_r0 : BitVec 32 := 1#32
  let v7723_r0 : BitVec 32 := Scalar.addi v5633_r0 c1_i32_2692_r0
  let c2_i32_2700_r0 : BitVec 32 := 2#32
  let v7743_r0 : BitVec 32 := Scalar.muli v7723_r0 c2_i32_2700_r0
  let c0_i32_2701_r0 : BitVec 32 := 0#32
  let v7744_r0 : BitVec 32 := Scalar.addi v7743_r0 c0_i32_2701_r0
  let c2_i32_2702_r0 : BitVec 32 := 2#32
  let v7745_r0 : BitVec 32 := Scalar.muli v7744_r0 c2_i32_2702_r0
  let v7746_r0 : BitVec 32 := Scalar.addi v7745_r0 c0_i32_2703_r0
  let v7747_r0 : Index := Scalar.indexCast v7746_r0
  ![3, v7747_r0.toNat]
@[reducible] def k0_t2_loop : Scf.Loop 32 :=
  let c0_i32_1293_r0 : BitVec 32 := 0#32
  let c2_i32_1294_r0 : BitVec 32 := 2#32
  let v3156_r0 : BitVec 32 := Scalar.addi c0_i32_1293_r0 c2_i32_1294_r0
  let c1_i32_1295_r0 : BitVec 32 := 1#32
  ⟨c0_i32_1293_r0, v3156_r0, c1_i32_1295_r0⟩
def k0_off113 (k0_t2 : Fin k0_t2_loop.trips) (c0_i32_2054_r0 : BitVec 32) : Fin 3 → Nat :=
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5635_r0 : BitVec 32 := Scalar.addi v5634_r0 c0_i32_2054_r0
  let v5643_r0 : Index := Scalar.indexCast v5635_r0
  let c0_2062_r0 : Index := 0#32
  let c0_2063_r0 : Index := 0#32
  ![v5643_r0.toNat, 0, 0]
def k0_off114 (k0_t2 : Fin k0_t2_loop.trips) (c0_i32_2064_r0 : BitVec 32) : Fin 3 → Nat :=
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5646_r0 : BitVec 32 := Scalar.addi v5634_r0 c0_i32_2064_r0
  let v5647_r0 : Index := Scalar.indexCast v5646_r0
  let c256_2065_r0 : Index := 256#32
  let c0_2066_r0 : Index := 0#32
  ![v5647_r0.toNat, 256, 0]
def k0_off115 (k0_t2 : Fin k0_t2_loop.trips) (c0_i32_2064_r0 : BitVec 32) (c1_i32_2068_r0 : BitVec 32) (c0_i32_2070_r0 : BitVec 32) : Fin 2 → Nat :=
  let c16_2071_r0 : Index := 16#32
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5646_r0 : BitVec 32 := Scalar.addi v5634_r0 c0_i32_2064_r0
  let c2_i32_2067_r0 : BitVec 32 := 2#32
  let v5651_r0 : BitVec 32 := Scalar.muli v5646_r0 c2_i32_2067_r0
  let v5652_r0 : BitVec 32 := Scalar.addi v5651_r0 c1_i32_2068_r0
  let c2_i32_2069_r0 : BitVec 32 := 2#32
  let v5653_r0 : BitVec 32 := Scalar.muli v5652_r0 c2_i32_2069_r0
  let v5654_r0 : BitVec 32 := Scalar.addi v5653_r0 c0_i32_2070_r0
  let v5655_r0 : Index := Scalar.indexCast v5654_r0
  ![16, v5655_r0.toNat]
def k0_off115_at (r : Fin 16) : BitVec 32 × BitVec 32 × BitVec 32 :=
  if r.val < 8 then
    if r.val < 4 then
      if r.val < 2 then
        if r.val < 1 then
          (0#32, 1#32, 0#32)
        else
          (0#32, 1#32, 1#32)
      else
        if r.val < 3 then
          (1#32, 0#32, 0#32)
        else
          (1#32, 0#32, 1#32)
    else
      if r.val < 6 then
        if r.val < 5 then
          (1#32, 1#32, 0#32)
        else
          (1#32, 1#32, 1#32)
      else
        if r.val < 7 then
          (2#32, 0#32, 0#32)
        else
          (2#32, 0#32, 1#32)
  else
    if r.val < 12 then
      if r.val < 10 then
        if r.val < 9 then
          (2#32, 1#32, 0#32)
        else
          (2#32, 1#32, 1#32)
      else
        if r.val < 11 then
          (3#32, 0#32, 0#32)
        else
          (3#32, 0#32, 1#32)
    else
      if r.val < 14 then
        if r.val < 13 then
          (3#32, 1#32, 0#32)
        else
          (3#32, 1#32, 1#32)
      else
        if r.val < 15 then
          (4#32, 0#32, 0#32)
        else
          (4#32, 0#32, 1#32)
def k0_off116 (k0_t2 : Fin k0_t2_loop.trips) (c0_i32_2064_r0 : BitVec 32) (c1_i32_2073_r0 : BitVec 32) (c0_i32_2075_r0 : BitVec 32) : Fin 2 → Nat :=
  let c17_2076_r0 : Index := 17#32
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5646_r0 : BitVec 32 := Scalar.addi v5634_r0 c0_i32_2064_r0
  let c2_i32_2072_r0 : BitVec 32 := 2#32
  let v5666_r0 : BitVec 32 := Scalar.muli v5646_r0 c2_i32_2072_r0
  let v5667_r0 : BitVec 32 := Scalar.addi v5666_r0 c1_i32_2073_r0
  let c2_i32_2074_r0 : BitVec 32 := 2#32
  let v5668_r0 : BitVec 32 := Scalar.muli v5667_r0 c2_i32_2074_r0
  let v5669_r0 : BitVec 32 := Scalar.addi v5668_r0 c0_i32_2075_r0
  let v5670_r0 : Index := Scalar.indexCast v5669_r0
  ![17, v5670_r0.toNat]
def k0_off116_at (r : Fin 16) : BitVec 32 × BitVec 32 × BitVec 32 :=
  if r.val < 8 then
    if r.val < 4 then
      if r.val < 2 then
        if r.val < 1 then
          (0#32, 1#32, 0#32)
        else
          (0#32, 1#32, 1#32)
      else
        if r.val < 3 then
          (1#32, 0#32, 0#32)
        else
          (1#32, 0#32, 1#32)
    else
      if r.val < 6 then
        if r.val < 5 then
          (1#32, 1#32, 0#32)
        else
          (1#32, 1#32, 1#32)
      else
        if r.val < 7 then
          (2#32, 0#32, 0#32)
        else
          (2#32, 0#32, 1#32)
  else
    if r.val < 12 then
      if r.val < 10 then
        if r.val < 9 then
          (2#32, 1#32, 0#32)
        else
          (2#32, 1#32, 1#32)
      else
        if r.val < 11 then
          (3#32, 0#32, 0#32)
        else
          (3#32, 0#32, 1#32)
    else
      if r.val < 14 then
        if r.val < 13 then
          (3#32, 1#32, 0#32)
        else
          (3#32, 1#32, 1#32)
      else
        if r.val < 15 then
          (4#32, 0#32, 0#32)
        else
          (4#32, 0#32, 1#32)
def k0_off117 (k0_t2 : Fin k0_t2_loop.trips) (c0_i32_2087_r0 : BitVec 32) : Fin 3 → Nat :=
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5713_r0 : BitVec 32 := Scalar.addi v5634_r0 c0_i32_2087_r0
  let v5714_r0 : Index := Scalar.indexCast v5713_r0
  let c256_2088_r0 : Index := 256#32
  let c256_2089_r0 : Index := 256#32
  ![v5714_r0.toNat, 256, 256]
def k0_off118 (k0_t2 : Fin k0_t2_loop.trips) (c0_i32_2087_r0 : BitVec 32) (c1_i32_2091_r0 : BitVec 32) (c0_i32_2093_r0 : BitVec 32) : Fin 2 → Nat :=
  let c18_2094_r0 : Index := 18#32
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5713_r0 : BitVec 32 := Scalar.addi v5634_r0 c0_i32_2087_r0
  let c2_i32_2090_r0 : BitVec 32 := 2#32
  let v5718_r0 : BitVec 32 := Scalar.muli v5713_r0 c2_i32_2090_r0
  let v5719_r0 : BitVec 32 := Scalar.addi v5718_r0 c1_i32_2091_r0
  let c2_i32_2092_r0 : BitVec 32 := 2#32
  let v5720_r0 : BitVec 32 := Scalar.muli v5719_r0 c2_i32_2092_r0
  let v5721_r0 : BitVec 32 := Scalar.addi v5720_r0 c0_i32_2093_r0
  let v5722_r0 : Index := Scalar.indexCast v5721_r0
  ![18, v5722_r0.toNat]
def k0_off118_at (r : Fin 16) : BitVec 32 × BitVec 32 × BitVec 32 :=
  if r.val < 8 then
    if r.val < 4 then
      if r.val < 2 then
        if r.val < 1 then
          (0#32, 1#32, 0#32)
        else
          (0#32, 1#32, 1#32)
      else
        if r.val < 3 then
          (1#32, 0#32, 0#32)
        else
          (1#32, 0#32, 1#32)
    else
      if r.val < 6 then
        if r.val < 5 then
          (1#32, 1#32, 0#32)
        else
          (1#32, 1#32, 1#32)
      else
        if r.val < 7 then
          (2#32, 0#32, 0#32)
        else
          (2#32, 0#32, 1#32)
  else
    if r.val < 12 then
      if r.val < 10 then
        if r.val < 9 then
          (2#32, 1#32, 0#32)
        else
          (2#32, 1#32, 1#32)
      else
        if r.val < 11 then
          (3#32, 0#32, 0#32)
        else
          (3#32, 0#32, 1#32)
    else
      if r.val < 14 then
        if r.val < 13 then
          (3#32, 1#32, 0#32)
        else
          (3#32, 1#32, 1#32)
      else
        if r.val < 15 then
          (4#32, 0#32, 0#32)
        else
          (4#32, 0#32, 1#32)
def k0_off119 (k0_t2 : Fin k0_t2_loop.trips) (c0_i32_2087_r0 : BitVec 32) (c1_i32_2096_r0 : BitVec 32) (c0_i32_2098_r0 : BitVec 32) : Fin 2 → Nat :=
  let c19_2099_r0 : Index := 19#32
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5713_r0 : BitVec 32 := Scalar.addi v5634_r0 c0_i32_2087_r0
  let c2_i32_2095_r0 : BitVec 32 := 2#32
  let v5733_r0 : BitVec 32 := Scalar.muli v5713_r0 c2_i32_2095_r0
  let v5734_r0 : BitVec 32 := Scalar.addi v5733_r0 c1_i32_2096_r0
  let c2_i32_2097_r0 : BitVec 32 := 2#32
  let v5735_r0 : BitVec 32 := Scalar.muli v5734_r0 c2_i32_2097_r0
  let v5736_r0 : BitVec 32 := Scalar.addi v5735_r0 c0_i32_2098_r0
  let v5737_r0 : Index := Scalar.indexCast v5736_r0
  ![19, v5737_r0.toNat]
def k0_off119_at (r : Fin 16) : BitVec 32 × BitVec 32 × BitVec 32 :=
  if r.val < 8 then
    if r.val < 4 then
      if r.val < 2 then
        if r.val < 1 then
          (0#32, 1#32, 0#32)
        else
          (0#32, 1#32, 1#32)
      else
        if r.val < 3 then
          (1#32, 0#32, 0#32)
        else
          (1#32, 0#32, 1#32)
    else
      if r.val < 6 then
        if r.val < 5 then
          (1#32, 1#32, 0#32)
        else
          (1#32, 1#32, 1#32)
      else
        if r.val < 7 then
          (2#32, 0#32, 0#32)
        else
          (2#32, 0#32, 1#32)
  else
    if r.val < 12 then
      if r.val < 10 then
        if r.val < 9 then
          (2#32, 1#32, 0#32)
        else
          (2#32, 1#32, 1#32)
      else
        if r.val < 11 then
          (3#32, 0#32, 0#32)
        else
          (3#32, 0#32, 1#32)
    else
      if r.val < 14 then
        if r.val < 13 then
          (3#32, 1#32, 0#32)
        else
          (3#32, 1#32, 1#32)
      else
        if r.val < 15 then
          (4#32, 0#32, 0#32)
        else
          (4#32, 0#32, 1#32)
def k0_off120 (k0_t2 : Fin k0_t2_loop.trips) (c0_i32_2055_r0 : BitVec 32) : Fin 3 → Nat :=
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5636_r0 : BitVec 32 := Scalar.addi v5634_r0 c0_i32_2055_r0
  let v5780_r0 : Index := Scalar.indexCast v5636_r0
  let c0_2110_r0 : Index := 0#32
  let c256_2111_r0 : Index := 256#32
  ![v5780_r0.toNat, 0, 256]
def k0_off121 (k0_t2 : Fin k0_t2_loop.trips) (c1_i32_2112_r0 : BitVec 32) : Fin 3 → Nat :=
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5783_r0 : BitVec 32 := Scalar.addi v5634_r0 c1_i32_2112_r0
  let v5784_r0 : Index := Scalar.indexCast v5783_r0
  let c0_2113_r0 : Index := 0#32
  let c0_2114_r0 : Index := 0#32
  ![v5784_r0.toNat, 0, 0]
def k0_off122 (k0_t2 : Fin k0_t2_loop.trips) (c1_i32_2135_r0 : BitVec 32) : Fin 3 → Nat :=
  let c1_i32_2052_r0 : BitVec 32 := 1#32
  let c0_i32_1293_r0 : BitVec 32 := 0#32
  let c1_i32_1295_r0 : BitVec 32 := 1#32
  let arg41_r0 : BitVec 32 := Scf.iv c0_i32_1293_r0 c1_i32_1295_r0 k0_t2
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5850_r0 : BitVec 32 := Scalar.addi v5634_r0 c1_i32_2135_r0
  let v5851_r0 : Index := Scalar.indexCast v5850_r0
  let c0_2136_r0 : Index := 0#32
  let c256_2137_r0 : Index := 256#32
  ![v5851_r0.toNat, 0, 256]
@[reducible] def k0_t3_loop : Scf.Loop 32 :=
  let c0_i32_1697_r0 : BitVec 32 := 0#32
  let c2_i32_1698_r0 : BitVec 32 := 2#32
  let v4665_r0 : BitVec 32 := Scalar.addi c0_i32_1697_r0 c2_i32_1698_r0
  let c1_i32_1699_r0 : BitVec 32 := 1#32
  ⟨c0_i32_1697_r0, v4665_r0, c1_i32_1699_r0⟩
def k0_off123 (k0_t3 : Fin k0_t3_loop.trips) (c0_i32_2054_r0 : BitVec 32) : Fin 3 → Nat :=
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5635_r0 : BitVec 32 := Scalar.addi v5634_r0 c0_i32_2054_r0
  let v5643_r0 : Index := Scalar.indexCast v5635_r0
  let c0_2062_r0 : Index := 0#32
  let c0_2063_r0 : Index := 0#32
  ![v5643_r0.toNat, 0, 0]
def k0_off124 (k0_t3 : Fin k0_t3_loop.trips) (c0_i32_2064_r0 : BitVec 32) : Fin 3 → Nat :=
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5646_r0 : BitVec 32 := Scalar.addi v5634_r0 c0_i32_2064_r0
  let v5647_r0 : Index := Scalar.indexCast v5646_r0
  let c256_2065_r0 : Index := 256#32
  let c512_2066_r0 : Index := 512#32
  ![v5647_r0.toNat, 256, 512]
def k0_off125 (k0_t3 : Fin k0_t3_loop.trips) (c0_i32_2064_r0 : BitVec 32) (c1_i32_2068_r0 : BitVec 32) (c0_i32_2070_r0 : BitVec 32) : Fin 2 → Nat :=
  let c20_2071_r0 : Index := 20#32
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5646_r0 : BitVec 32 := Scalar.addi v5634_r0 c0_i32_2064_r0
  let c2_i32_2067_r0 : BitVec 32 := 2#32
  let v5651_r0 : BitVec 32 := Scalar.muli v5646_r0 c2_i32_2067_r0
  let v5652_r0 : BitVec 32 := Scalar.addi v5651_r0 c1_i32_2068_r0
  let c2_i32_2069_r0 : BitVec 32 := 2#32
  let v5653_r0 : BitVec 32 := Scalar.muli v5652_r0 c2_i32_2069_r0
  let v5654_r0 : BitVec 32 := Scalar.addi v5653_r0 c0_i32_2070_r0
  let v5655_r0 : Index := Scalar.indexCast v5654_r0
  ![20, v5655_r0.toNat]
def k0_off125_at (r : Fin 16) : BitVec 32 × BitVec 32 × BitVec 32 :=
  if r.val < 8 then
    if r.val < 4 then
      if r.val < 2 then
        if r.val < 1 then
          (0#32, 1#32, 0#32)
        else
          (0#32, 1#32, 1#32)
      else
        if r.val < 3 then
          (1#32, 0#32, 0#32)
        else
          (1#32, 0#32, 1#32)
    else
      if r.val < 6 then
        if r.val < 5 then
          (1#32, 1#32, 0#32)
        else
          (1#32, 1#32, 1#32)
      else
        if r.val < 7 then
          (2#32, 0#32, 0#32)
        else
          (2#32, 0#32, 1#32)
  else
    if r.val < 12 then
      if r.val < 10 then
        if r.val < 9 then
          (2#32, 1#32, 0#32)
        else
          (2#32, 1#32, 1#32)
      else
        if r.val < 11 then
          (3#32, 0#32, 0#32)
        else
          (3#32, 0#32, 1#32)
    else
      if r.val < 14 then
        if r.val < 13 then
          (3#32, 1#32, 0#32)
        else
          (3#32, 1#32, 1#32)
      else
        if r.val < 15 then
          (4#32, 0#32, 0#32)
        else
          (4#32, 0#32, 1#32)
def k0_off126 (k0_t3 : Fin k0_t3_loop.trips) (c0_i32_2064_r0 : BitVec 32) (c1_i32_2073_r0 : BitVec 32) (c0_i32_2075_r0 : BitVec 32) : Fin 2 → Nat :=
  let c21_2076_r0 : Index := 21#32
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5646_r0 : BitVec 32 := Scalar.addi v5634_r0 c0_i32_2064_r0
  let c2_i32_2072_r0 : BitVec 32 := 2#32
  let v5666_r0 : BitVec 32 := Scalar.muli v5646_r0 c2_i32_2072_r0
  let v5667_r0 : BitVec 32 := Scalar.addi v5666_r0 c1_i32_2073_r0
  let c2_i32_2074_r0 : BitVec 32 := 2#32
  let v5668_r0 : BitVec 32 := Scalar.muli v5667_r0 c2_i32_2074_r0
  let v5669_r0 : BitVec 32 := Scalar.addi v5668_r0 c0_i32_2075_r0
  let v5670_r0 : Index := Scalar.indexCast v5669_r0
  ![21, v5670_r0.toNat]
def k0_off126_at (r : Fin 16) : BitVec 32 × BitVec 32 × BitVec 32 :=
  if r.val < 8 then
    if r.val < 4 then
      if r.val < 2 then
        if r.val < 1 then
          (0#32, 1#32, 0#32)
        else
          (0#32, 1#32, 1#32)
      else
        if r.val < 3 then
          (1#32, 0#32, 0#32)
        else
          (1#32, 0#32, 1#32)
    else
      if r.val < 6 then
        if r.val < 5 then
          (1#32, 1#32, 0#32)
        else
          (1#32, 1#32, 1#32)
      else
        if r.val < 7 then
          (2#32, 0#32, 0#32)
        else
          (2#32, 0#32, 1#32)
  else
    if r.val < 12 then
      if r.val < 10 then
        if r.val < 9 then
          (2#32, 1#32, 0#32)
        else
          (2#32, 1#32, 1#32)
      else
        if r.val < 11 then
          (3#32, 0#32, 0#32)
        else
          (3#32, 0#32, 1#32)
    else
      if r.val < 14 then
        if r.val < 13 then
          (3#32, 1#32, 0#32)
        else
          (3#32, 1#32, 1#32)
      else
        if r.val < 15 then
          (4#32, 0#32, 0#32)
        else
          (4#32, 0#32, 1#32)
def k0_off127 (k0_t3 : Fin k0_t3_loop.trips) (c0_i32_2087_r0 : BitVec 32) : Fin 3 → Nat :=
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5713_r0 : BitVec 32 := Scalar.addi v5634_r0 c0_i32_2087_r0
  let v5714_r0 : Index := Scalar.indexCast v5713_r0
  let c256_2088_r0 : Index := 256#32
  let c768_2089_r0 : Index := 768#32
  ![v5714_r0.toNat, 256, 768]
def k0_off128 (k0_t3 : Fin k0_t3_loop.trips) (c0_i32_2087_r0 : BitVec 32) (c1_i32_2091_r0 : BitVec 32) (c0_i32_2093_r0 : BitVec 32) : Fin 2 → Nat :=
  let c22_2094_r0 : Index := 22#32
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5713_r0 : BitVec 32 := Scalar.addi v5634_r0 c0_i32_2087_r0
  let c2_i32_2090_r0 : BitVec 32 := 2#32
  let v5718_r0 : BitVec 32 := Scalar.muli v5713_r0 c2_i32_2090_r0
  let v5719_r0 : BitVec 32 := Scalar.addi v5718_r0 c1_i32_2091_r0
  let c2_i32_2092_r0 : BitVec 32 := 2#32
  let v5720_r0 : BitVec 32 := Scalar.muli v5719_r0 c2_i32_2092_r0
  let v5721_r0 : BitVec 32 := Scalar.addi v5720_r0 c0_i32_2093_r0
  let v5722_r0 : Index := Scalar.indexCast v5721_r0
  ![22, v5722_r0.toNat]
def k0_off128_at (r : Fin 16) : BitVec 32 × BitVec 32 × BitVec 32 :=
  if r.val < 8 then
    if r.val < 4 then
      if r.val < 2 then
        if r.val < 1 then
          (0#32, 1#32, 0#32)
        else
          (0#32, 1#32, 1#32)
      else
        if r.val < 3 then
          (1#32, 0#32, 0#32)
        else
          (1#32, 0#32, 1#32)
    else
      if r.val < 6 then
        if r.val < 5 then
          (1#32, 1#32, 0#32)
        else
          (1#32, 1#32, 1#32)
      else
        if r.val < 7 then
          (2#32, 0#32, 0#32)
        else
          (2#32, 0#32, 1#32)
  else
    if r.val < 12 then
      if r.val < 10 then
        if r.val < 9 then
          (2#32, 1#32, 0#32)
        else
          (2#32, 1#32, 1#32)
      else
        if r.val < 11 then
          (3#32, 0#32, 0#32)
        else
          (3#32, 0#32, 1#32)
    else
      if r.val < 14 then
        if r.val < 13 then
          (3#32, 1#32, 0#32)
        else
          (3#32, 1#32, 1#32)
      else
        if r.val < 15 then
          (4#32, 0#32, 0#32)
        else
          (4#32, 0#32, 1#32)
def k0_off129 (k0_t3 : Fin k0_t3_loop.trips) (c0_i32_2087_r0 : BitVec 32) (c1_i32_2096_r0 : BitVec 32) (c0_i32_2098_r0 : BitVec 32) : Fin 2 → Nat :=
  let c23_2099_r0 : Index := 23#32
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5713_r0 : BitVec 32 := Scalar.addi v5634_r0 c0_i32_2087_r0
  let c2_i32_2095_r0 : BitVec 32 := 2#32
  let v5733_r0 : BitVec 32 := Scalar.muli v5713_r0 c2_i32_2095_r0
  let v5734_r0 : BitVec 32 := Scalar.addi v5733_r0 c1_i32_2096_r0
  let c2_i32_2097_r0 : BitVec 32 := 2#32
  let v5735_r0 : BitVec 32 := Scalar.muli v5734_r0 c2_i32_2097_r0
  let v5736_r0 : BitVec 32 := Scalar.addi v5735_r0 c0_i32_2098_r0
  let v5737_r0 : Index := Scalar.indexCast v5736_r0
  ![23, v5737_r0.toNat]
def k0_off129_at (r : Fin 16) : BitVec 32 × BitVec 32 × BitVec 32 :=
  if r.val < 8 then
    if r.val < 4 then
      if r.val < 2 then
        if r.val < 1 then
          (0#32, 1#32, 0#32)
        else
          (0#32, 1#32, 1#32)
      else
        if r.val < 3 then
          (1#32, 0#32, 0#32)
        else
          (1#32, 0#32, 1#32)
    else
      if r.val < 6 then
        if r.val < 5 then
          (1#32, 1#32, 0#32)
        else
          (1#32, 1#32, 1#32)
      else
        if r.val < 7 then
          (2#32, 0#32, 0#32)
        else
          (2#32, 0#32, 1#32)
  else
    if r.val < 12 then
      if r.val < 10 then
        if r.val < 9 then
          (2#32, 1#32, 0#32)
        else
          (2#32, 1#32, 1#32)
      else
        if r.val < 11 then
          (3#32, 0#32, 0#32)
        else
          (3#32, 0#32, 1#32)
    else
      if r.val < 14 then
        if r.val < 13 then
          (3#32, 1#32, 0#32)
        else
          (3#32, 1#32, 1#32)
      else
        if r.val < 15 then
          (4#32, 0#32, 0#32)
        else
          (4#32, 0#32, 1#32)
def k0_off130 (k0_t3 : Fin k0_t3_loop.trips) (c0_i32_2055_r0 : BitVec 32) : Fin 3 → Nat :=
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5636_r0 : BitVec 32 := Scalar.addi v5634_r0 c0_i32_2055_r0
  let v5780_r0 : Index := Scalar.indexCast v5636_r0
  let c0_2110_r0 : Index := 0#32
  let c256_2111_r0 : Index := 256#32
  ![v5780_r0.toNat, 0, 256]
def k0_off131 (k0_t3 : Fin k0_t3_loop.trips) (c1_i32_2112_r0 : BitVec 32) : Fin 3 → Nat :=
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5783_r0 : BitVec 32 := Scalar.addi v5634_r0 c1_i32_2112_r0
  let v5784_r0 : Index := Scalar.indexCast v5783_r0
  let c0_2113_r0 : Index := 0#32
  let c512_2114_r0 : Index := 512#32
  ![v5784_r0.toNat, 0, 512]
def k0_off132 (k0_t3 : Fin k0_t3_loop.trips) (c1_i32_2135_r0 : BitVec 32) : Fin 3 → Nat :=
  let c1_i32_2052_r0 : BitVec 32 := 1#32
  let c0_i32_1697_r0 : BitVec 32 := 0#32
  let c1_i32_1699_r0 : BitVec 32 := 1#32
  let arg41_r0 : BitVec 32 := Scf.iv c0_i32_1697_r0 c1_i32_1699_r0 k0_t3
  let c1_i32_2051_r0 : BitVec 32 := 1#32
  let v5632_r0 : BitVec 32 := Scalar.muli arg41_r0 c1_i32_2051_r0
  let v5633_r0 : BitVec 32 := Scalar.addi c1_i32_2052_r0 v5632_r0
  let c4_i32_2053_r0 : BitVec 32 := 4#32
  let v5634_r0 : BitVec 32 := Scalar.muli v5633_r0 c4_i32_2053_r0
  let v5850_r0 : BitVec 32 := Scalar.addi v5634_r0 c1_i32_2135_r0
  let v5851_r0 : Index := Scalar.indexCast v5850_r0
  let c0_2136_r0 : Index := 0#32
  let c768_2137_r0 : Index := 768#32
  ![v5851_r0.toNat, 0, 768]
@[reducible] def k0_t4_loop : Scf.Loop 32 :=
  let c0_i32_2032_r0 : BitVec 32 := 0#32
  let c11_i32_2033_r0 : BitVec 32 := 11#32
  let v5609_r0 : BitVec 32 := Scalar.addi c0_i32_2032_r0 c11_i32_2033_r0
  let c1_i32_2034_r0 : BitVec 32 := 1#32
  ⟨c0_i32_2032_r0, v5609_r0, c1_i32_2034_r0⟩
def k0_off133 (k0_t4 : Fin k0_t4_loop.trips) (c0_i32_2055_r0 : BitVec 32) : Fin 2 → Nat :=
  let c0_i32_2052_r0 : BitVec 32 := 0#32
  let c0_i32_2032_r0 : BitVec 32 := 0#32
  let c1_i32_2034_r0 : BitVec 32 := 1#32
  let arg41_r0 : BitVec 32 := Scf.iv c0_i32_2032_r0 c1_i32_2034_r0 k0_t4
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let c2_i32_2054_r0 : BitVec 32 := 2#32
  let v5635_r0 : BitVec 32 := Scalar.muli v5634_r0 c2_i32_2054_r0
  let v5636_r0 : BitVec 32 := Scalar.addi v5635_r0 c0_i32_2055_r0
  let v5637_r0 : Index := Scalar.indexCast v5636_r0
  let c0_2056_r0 : Index := 0#32
  ![v5637_r0.toNat, 0]
def k0_mult1 (k0_t4 : Fin k0_t4_loop.trips) : BitVec 32 :=
  let c0_i32_2052_r0 : BitVec 32 := 0#32
  let c0_i32_2032_r0 : BitVec 32 := 0#32
  let c1_i32_2034_r0 : BitVec 32 := 1#32
  let arg41_r0 : BitVec 32 := Scf.iv c0_i32_2032_r0 c1_i32_2034_r0 k0_t4
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let c2_i32_2054_r0 : BitVec 32 := 2#32
  let v5635_r0 : BitVec 32 := Scalar.muli v5634_r0 c2_i32_2054_r0
  let c0_i32_2055_r0 : BitVec 32 := 0#32
  let v5636_r0 : BitVec 32 := Scalar.addi v5635_r0 c0_i32_2055_r0
  let c128_i32_2057_r0 : BitVec 32 := 128#32
  let v5639_r0 : BitVec 32 := Scalar.muli v5636_r0 c128_i32_2057_r0
  v5639_r0
def k0_off134 (k0_t4 : Fin k0_t4_loop.trips) (c0_i32_2055_r0 : BitVec 32) : Fin 2 → Nat :=
  let c0_2058_r0 : Index := 0#32
  let c0_i32_2052_r0 : BitVec 32 := 0#32
  let c0_i32_2032_r0 : BitVec 32 := 0#32
  let c1_i32_2034_r0 : BitVec 32 := 1#32
  let arg41_r0 : BitVec 32 := Scf.iv c0_i32_2032_r0 c1_i32_2034_r0 k0_t4
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let c2_i32_2054_r0 : BitVec 32 := 2#32
  let v5635_r0 : BitVec 32 := Scalar.muli v5634_r0 c2_i32_2054_r0
  let v5636_r0 : BitVec 32 := Scalar.addi v5635_r0 c0_i32_2055_r0
  let c128_i32_2057_r0 : BitVec 32 := 128#32
  let v5639_r0 : BitVec 32 := Scalar.muli v5636_r0 c128_i32_2057_r0
  let v5640_r0 : BitVec 32 := v5639_r0
  let v5641_r0 : Index := Scalar.indexCast v5640_r0
  ![0, v5641_r0.toNat]
def k0_off135 (k0_t4 : Fin k0_t4_loop.trips) : Fin 3 → Nat :=
  let c0_i32_2052_r0 : BitVec 32 := 0#32
  let c0_i32_2032_r0 : BitVec 32 := 0#32
  let c1_i32_2034_r0 : BitVec 32 := 1#32
  let arg41_r0 : BitVec 32 := Scf.iv c0_i32_2032_r0 c1_i32_2034_r0 k0_t4
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let v5719_r0 : Index := Scalar.indexCast v5634_r0
  let c0_2079_r0 : Index := 0#32
  let c0_2080_r0 : Index := 0#32
  ![v5719_r0.toNat, 0, 0]
def k0_mult2 (k0_t4 : Fin k0_t4_loop.trips) : BitVec 32 :=
  let c0_i32_2052_r0 : BitVec 32 := 0#32
  let c0_i32_2032_r0 : BitVec 32 := 0#32
  let c1_i32_2034_r0 : BitVec 32 := 1#32
  let arg41_r0 : BitVec 32 := Scf.iv c0_i32_2032_r0 c1_i32_2034_r0 k0_t4
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let c2_i32_2085_r0 : BitVec 32 := 2#32
  let v5734_r0 : BitVec 32 := Scalar.muli v5634_r0 c2_i32_2085_r0
  let c1_i32_2086_r0 : BitVec 32 := 1#32
  let v5735_r0 : BitVec 32 := Scalar.addi v5734_r0 c1_i32_2086_r0
  let c128_i32_2088_r0 : BitVec 32 := 128#32
  let v5738_r0 : BitVec 32 := Scalar.muli v5735_r0 c128_i32_2088_r0
  v5738_r0
def k0_off136 (k0_t4 : Fin k0_t4_loop.trips) : Fin 3 → Nat :=
  let c0_i32_2052_r0 : BitVec 32 := 0#32
  let c0_i32_2032_r0 : BitVec 32 := 0#32
  let c1_i32_2034_r0 : BitVec 32 := 1#32
  let arg41_r0 : BitVec 32 := Scf.iv c0_i32_2032_r0 c1_i32_2034_r0 k0_t4
  let c1_i32_2051_r0 : BitVec 32 := 1#32
  let v5632_r0 : BitVec 32 := Scalar.muli arg41_r0 c1_i32_2051_r0
  let v5633_r0 : BitVec 32 := Scalar.addi c0_i32_2052_r0 v5632_r0
  let c1_i32_2053_r0 : BitVec 32 := 1#32
  let v5634_r0 : BitVec 32 := Scalar.addi v5633_r0 c1_i32_2053_r0
  let v5818_r0 : Index := Scalar.indexCast v5634_r0
  let c0_2110_r0 : Index := 0#32
  let c128_2111_r0 : Index := 128#32
  ![v5818_r0.toNat, 0, 128]
-- ==== ReferenceIdeal.lean ====
abbrev S2x128x8192 : Shape := ⟨3, ![2, 128, 8192]⟩
abbrev S2x128x64 : Shape := ⟨3, ![2, 128, 64]⟩
abbrev S8192x3072 : Shape := ⟨2, ![8192, 3072]⟩
abbrev S64x24 : Shape := ⟨2, ![64, 24]⟩
abbrev S2x128x3072 : Shape := ⟨3, ![2, 128, 3072]⟩
abbrev S3072 : Shape := ⟨1, ![3072]⟩
abbrev S3072x4608 : Shape := ⟨2, ![3072, 4608]⟩
abbrev S24x36 : Shape := ⟨2, ![24, 36]⟩
abbrev S2x128 : Shape := ⟨2, ![2, 128]⟩
abbrev S256x3072 : Shape := ⟨2, ![256, 3072]⟩
abbrev S2x24x128 : Shape := ⟨3, ![2, 24, 128]⟩
abbrev S256x64x128 : Shape := ⟨3, ![256, 64, 128]⟩
abbrev S256x64 : Shape := ⟨2, ![256, 64]⟩
abbrev S256x64x1 : Shape := ⟨3, ![256, 64, 1]⟩
abbrev S256x8192 : Shape := ⟨2, ![256, 8192]⟩
abbrev S64x128x24x128 : Shape := ⟨4, ![64, 128, 24, 128]⟩
abbrev S64x1x24x1 : Shape := ⟨4, ![64, 1, 24, 1]⟩
abbrev S256 : Shape := ⟨1, ![256]⟩
abbrev S256x1 : Shape := ⟨2, ![256, 1]⟩
abbrev S1x3072 : Shape := ⟨2, ![1, 3072]⟩
abbrev S256x24x128 : Shape := ⟨3, ![256, 24, 128]⟩
abbrev S256x24 : Shape := ⟨2, ![256, 24]⟩
abbrev S256x24x1 : Shape := ⟨3, ![256, 24, 1]⟩
abbrev S2x128x24 : Shape := ⟨3, ![2, 128, 24]⟩

abbrev nBuf : Space → Nat
  | .hbm => 12
  | .vmem => 9
  | .smem => 0
  | _ => 0

abbrev bufTy : (tb : Table) → Fin (tcTables nBuf tb) → BufTy
  | .hbm, ⟨0, _⟩ => ⟨S2x128x8192, .fp8e4m3⟩
  | .hbm, ⟨1, _⟩ => ⟨S2x128x64, .f32⟩
  | .hbm, ⟨2, _⟩ => ⟨S8192x3072, .fp8e4m3⟩
  | .hbm, ⟨3, _⟩ => ⟨S64x24, .f32⟩
  | .hbm, ⟨4, _⟩ => ⟨S2x128x3072, .bf16⟩
  | .hbm, ⟨5, _⟩ => ⟨S3072, .f32⟩
  | .hbm, ⟨6, _⟩ => ⟨S3072x4608, .fp8e4m3⟩
  | .hbm, ⟨7, _⟩ => ⟨S24x36, .f32⟩
  | .hbm, ⟨8, _⟩ => ⟨S2x128, .i32⟩
  | .hbm, ⟨9, _⟩ => ⟨S256x3072, .bf16⟩
  | .hbm, ⟨10, _⟩ => ⟨S256x3072, .fp8e4m3⟩
  | .hbm, ⟨11, _⟩ => ⟨S2x24x128, .f32⟩
  | .local _ .vmem, ⟨0, _⟩ => ⟨S2x128x8192, .fp8e4m3⟩
  | .local _ .vmem, ⟨1, _⟩ => ⟨S2x128x64, .f32⟩
  | .local _ .vmem, ⟨2, _⟩ => ⟨S8192x3072, .fp8e4m3⟩
  | .local _ .vmem, ⟨3, _⟩ => ⟨S64x24, .f32⟩
  | .local _ .vmem, ⟨4, _⟩ => ⟨S2x128x3072, .bf16⟩
  | .local _ .vmem, ⟨5, _⟩ => ⟨S3072, .f32⟩
  | .local _ .vmem, ⟨6, _⟩ => ⟨S256x3072, .bf16⟩
  | .local _ .vmem, ⟨7, _⟩ => ⟨S256x3072, .fp8e4m3⟩
  | .local _ .vmem, ⟨8, _⟩ => ⟨S2x24x128, .f32⟩
  | _, _ => ⟨S2x128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x128x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x24x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Prog.lean ====
module

public import proofs.«01_k».proof.Defs
public import proofs.«01_k».proof.Proof.Gen.KernelIdeal.Skeleton

/-! The kernel's body written again as a short program over its chunks, tiles and units. -/

@[expose] public section

set_option maxRecDepth 65536

noncomputable section

namespace Cert.KernelIdeal.Hand

open Idealize.ShloMosaic Idealize.SL.Sem Cert.KernelIdeal Cert.KernelIdeal.Gen

variable {F : FTy → Type} [FloatOps F]

/-- Programs of the core. -/
abbrev PR (F : FTy → Type) [FloatOps F] (α : Type) := Prog (TpuEff nD τ sig (Elt F) Λ₀ .tc) α

/-! ## The buffers -/

abbrev mH : Memref sig .tc .hbm S256x8192 .fp8e4m3 := Memref.whole main_v0
abbrev mHS : Memref sig .tc .hbm S2x64x128 .f32 := Memref.whole main_v1
abbrev mWD : Memref sig .tc .hbm S8192x3072 .fp8e4m3 := Memref.whole main_arg2
abbrev mWS : Memref sig .tc .hbm S24x64 .f32 := Memref.whole main_v2
abbrev mRes : Memref sig .tc .hbm S256x3072 .bf16 := Memref.whole main_v3
abbrev mNW : Memref sig .tc .hbm S24x128 .f32 := Memref.whole main_v4
abbrev mWQ : Memref sig .tc .hbm S3072x4608 .fp8e4m3 := Memref.whole main_arg6
abbrev mQS : Memref sig .tc .hbm S24x36 .f32 := Memref.whole main_arg7
abbrev mPos : Memref sig .tc .hbm S2x128 .i32 := Memref.whole main_arg8
abbrev mIF : Memref sig .tc .hbm S48x128 .f32 := Memref.whole main_cst
abbrev mOut : Memref sig .tc .hbm S256x3072 .bf16 := Memref.whole main_v5_0
abbrev vH : Memref sig .tc .vmem S16x256x512 .fp8e4m3 := Memref.whole cc0_scratch0
abbrev vHS : Memref sig .tc .vmem S2x64x128 .f32 := Memref.whole cc0_scratch1
abbrev vHSB : Memref sig .tc .vmem S256x128 .bf16 := Memref.whole cc0_scratch2
abbrev vHP : Memref sig .tc .vmem S16x256x512 .bf16 := Memref.whole cc0_scratch3
abbrev vWA : Memref sig .tc .vmem S16x512x2048 .fp8e4m3 := Memref.whole cc0_scratch4
abbrev vWB : Memref sig .tc .vmem S16x512x1024 .fp8e4m3 := Memref.whole cc0_scratch5
abbrev sWS : Memref sig .tc .smem S24x64 .f32 := Memref.whole cc0_scratch6
abbrev vRes : Memref sig .tc .vmem S256x3072 .bf16 := Memref.whole cc0_scratch7
abbrev vNW : Memref sig .tc .vmem S24x128 .f32 := Memref.whole cc0_scratch8
abbrev vWQ : Memref sig .tc .vmem S12x256x4608 .fp8e4m3 := Memref.whole cc0_scratch9
abbrev sQS : Memref sig .tc .smem S24x36 .f32 := Memref.whole cc0_scratch10
abbrev vPos : Memref sig .tc .vmem S2x128 .i32 := Memref.whole cc0_scratch11
abbrev vIF : Memref sig .tc .vmem S48x128 .f32 := Memref.whole cc0_scratch12
abbrev vRO : Memref sig .tc .vmem S256x3072 .bf16 := Memref.whole cc0_scratch13
abbrev vSS : Memref sig .tc .vmem S256x128 .f32 := Memref.whole cc0_scratch14
abbrev mXC : Memref sig .tc .hbm S256x3072 .fp8e4m3 := Memref.whole main_v5_1
abbrev mXS : Memref sig .tc .hbm S2x24x128 .f32 := Memref.whole main_v5_2
abbrev vRS : Memref sig .tc .vmem S256x128 .f32 := Memref.whole cc0_scratch15
abbrev vXP : Memref sig .tc .vmem S12x256x256 .bf16 := Memref.whole cc0_scratch16
abbrev vXC : Memref sig .tc .vmem S256x3072 .fp8e4m3 := Memref.whole cc0_scratch17
abbrev vSC : Memref sig .tc .vmem S256x128 .f32 := Memref.whole cc0_scratch18
abbrev vXS : Memref sig .tc .vmem S2x24x128 .f32 := Memref.whole cc0_scratch19
abbrev vCos : Memref sig .tc .vmem S2x48x128 .f32 := Memref.whole cc0_scratch20
abbrev vSin : Memref sig .tc .vmem S2x48x128 .f32 := Memref.whole cc0_scratch21
theorem wmH : mH.IsWhole := Memref.isWhole_whole _
theorem wmHS : mHS.IsWhole := Memref.isWhole_whole _
theorem wmWD : mWD.IsWhole := Memref.isWhole_whole _
theorem wmWS : mWS.IsWhole := Memref.isWhole_whole _
theorem wmRes : mRes.IsWhole := Memref.isWhole_whole _
theorem wmNW : mNW.IsWhole := Memref.isWhole_whole _
theorem wmWQ : mWQ.IsWhole := Memref.isWhole_whole _
theorem wmQS : mQS.IsWhole := Memref.isWhole_whole _
theorem wmPos : mPos.IsWhole := Memref.isWhole_whole _
theorem wmIF : mIF.IsWhole := Memref.isWhole_whole _
theorem wmOut : mOut.IsWhole := Memref.isWhole_whole _
theorem wvH : vH.IsWhole := Memref.isWhole_whole _
theorem wvHS : vHS.IsWhole := Memref.isWhole_whole _
theorem wvHSB : vHSB.IsWhole := Memref.isWhole_whole _
theorem wvHP : vHP.IsWhole := Memref.isWhole_whole _
theorem wvWA : vWA.IsWhole := Memref.isWhole_whole _
theorem wvWB : vWB.IsWhole := Memref.isWhole_whole _
theorem wsWS : sWS.IsWhole := Memref.isWhole_whole _
theorem wvRes : vRes.IsWhole := Memref.isWhole_whole _
theorem wvNW : vNW.IsWhole := Memref.isWhole_whole _
theorem wvWQ : vWQ.IsWhole := Memref.isWhole_whole _
theorem wsQS : sQS.IsWhole := Memref.isWhole_whole _
theorem wvPos : vPos.IsWhole := Memref.isWhole_whole _
theorem wvIF : vIF.IsWhole := Memref.isWhole_whole _
theorem wvRO : vRO.IsWhole := Memref.isWhole_whole _
theorem wvSS : vSS.IsWhole := Memref.isWhole_whole _
theorem wmXC : mXC.IsWhole := Memref.isWhole_whole _
theorem wmXS : mXS.IsWhole := Memref.isWhole_whole _
theorem wvRS : vRS.IsWhole := Memref.isWhole_whole _
theorem wvXP : vXP.IsWhole := Memref.isWhole_whole _
theorem wvXC : vXC.IsWhole := Memref.isWhole_whole _
theorem wvSC : vSC.IsWhole := Memref.isWhole_whole _
theorem wvXS : vXS.IsWhole := Memref.isWhole_whole _
theorem wvCos : vCos.IsWhole := Memref.isWhole_whole _
theorem wvSin : vSin.IsWhole := Memref.isWhole_whole _

/-! ## The copies -/

theorem inbSmall (i : Fin 6) : ∀ a, (![i.1] : Fin 1 → Nat) a + S1.size a ≤ S6.size a := by revert i; decide
theorem inbSA (i : Fin 2) (g : Fin 16) : ∀ a, (![i.1, g.1] : Fin 2 → Nat) a + S1x1.size a ≤ S2x16.size a := by
  revert i g; decide
theorem inbSB (g : Fin 16) : ∀ a, (![g.1] : Fin 1 → Nat) a + S1.size a ≤ S16.size a := by revert g; decide
theorem inbSQ (t : Fin 12) : ∀ a, (![t.1] : Fin 1 → Nat) a + S1.size a ≤ S12.size a := by revert t; decide
theorem inbHV (g : Fin 16) : ∀ a, (![g.1, 0, 0] : Fin 3 → Nat) a + S1x256x512.size a ≤ S16x256x512.size a := by
  revert g; decide
theorem inbH (g : Fin 16) : ∀ a, (![0, g.1 * 512] : Fin 2 → Nat) a + S256x512.size a ≤ S256x8192.size a := by
  revert g; decide
theorem inbWAV (g : Fin 16) : ∀ a, (![g.1, 0, 0] : Fin 3 → Nat) a + S1x512x2048.size a ≤ S16x512x2048.size a := by
  revert g; decide
theorem inbWA (g : Fin 16) : ∀ a, (![g.1 * 512, 0] : Fin 2 → Nat) a + S512x2048.size a ≤ S8192x3072.size a := by
  revert g; decide
theorem inbWBV (g : Fin 16) : ∀ a, (![g.1, 0, 0] : Fin 3 → Nat) a + S1x512x1024.size a ≤ S16x512x1024.size a := by
  revert g; decide
theorem inbWB (g : Fin 16) : ∀ a, (![g.1 * 512, 2048] : Fin 2 → Nat) a + S512x1024.size a ≤ S8192x3072.size a := by
  revert g; decide
theorem inbWQV (t : Fin 12) : ∀ a, (![t.1, 0, 0] : Fin 3 → Nat) a + S1x256x4608.size a ≤ S12x256x4608.size a := by
  revert t; decide
theorem inbWQ (t : Fin 12) : ∀ a, (![t.1 * 256, 0] : Fin 2 → Nat) a + S256x4608.size a ≤ S3072x4608.size a := by
  revert t; decide

theorem wwH (g : Fin 16) : (Rect.unit (s := S256x8192) ![0, g.1 * 512] S256x512.size (inbH g)).WholeWords (EltTy.packing .fp8e4m3) := by
  revert g; decide
theorem wwHV (g : Fin 16) : (Rect.unit (s := S16x256x512) ![g.1, 0, 0] S1x256x512.size (inbHV g)).WholeWords (EltTy.packing .fp8e4m3) := by
  revert g; decide
theorem wwWA (g : Fin 16) : (Rect.unit (s := S8192x3072) ![g.1 * 512, 0] S512x2048.size (inbWA g)).WholeWords (EltTy.packing .fp8e4m3) := by
  revert g; decide
theorem wwWAV (g : Fin 16) : (Rect.unit (s := S16x512x2048) ![g.1, 0, 0] S1x512x2048.size (inbWAV g)).WholeWords (EltTy.packing .fp8e4m3) := by
  revert g; decide
theorem wwWB (g : Fin 16) : (Rect.unit (s := S8192x3072) ![g.1 * 512, 2048] S512x1024.size (inbWB g)).WholeWords (EltTy.packing .fp8e4m3) := by
  revert g; decide
theorem wwWBV (g : Fin 16) : (Rect.unit (s := S16x512x1024) ![g.1, 0, 0] S1x512x1024.size (inbWBV g)).WholeWords (EltTy.packing .fp8e4m3) := by
  revert g; decide
theorem wwWQ (t : Fin 12) : (Rect.unit (s := S3072x4608) ![t.1 * 256, 0] S256x4608.size (inbWQ t)).WholeWords (EltTy.packing .fp8e4m3) := by
  revert t; decide
theorem wwWQV (t : Fin 12) : (Rect.unit (s := S12x256x4608) ![t.1, 0, 0] S1x256x4608.size (inbWQV t)).WholeWords (EltTy.packing .fp8e4m3) := by
  revert t; decide

/-- The cells of the semaphores. -/
def semSmall (i : Fin 6) := ((cc0_scratch22.slice (Rect.unit (s := S6) ![i.1] S1.size (inbSmall i))).squeeze S_ squeezes_S1_S_).sem
def semA (i : Fin 2) (g : Fin 16) :=
  ((cc0_scratch23.slice (Rect.unit (s := S2x16) ![i.1, g.1] S1x1.size (inbSA i g))).squeeze S_ squeezes_S1x1_S_).sem
def semB (g : Fin 16) := ((cc0_scratch24.slice (Rect.unit (s := S16) ![g.1] S1.size (inbSB g))).squeeze S_ squeezes_S1_S_).sem
def semRes := cc0_scratch25.sem
def semQ (t : Fin 12) := ((cc0_scratch26.slice (Rect.unit (s := S12) ![t.1] S1.size (inbSQ t))).squeeze S_ squeezes_S1_S_).sem
def semOut := ((cc0_scratch27.slice (Rect.unit (s := S4) ![1] S1.size inb_S4_S1_1)).squeeze S_ squeezes_S1_S_).sem
def semXC := ((cc0_scratch27.slice (Rect.unit (s := S4) ![2] S1.size inb_S4_S1_2)).squeeze S_ squeezes_S1_S_).sem
def semXS := ((cc0_scratch27.slice (Rect.unit (s := S4) ![3] S1.size inb_S4_S1_3)).squeeze S_ squeezes_S1_S_).sem

/-- The two ends of the copies of a chunk. -/
def srcH (g : Fin 16) : Memref sig .tc .hbm S256x512 .fp8e4m3 :=
  mH.slice (Rect.unit (s := S256x8192) ![0, g.1 * 512] S256x512.size (inbH g)) (fun _ => rfl)
def dstH (g : Fin 16) : Memref sig .tc .vmem S256x512 .fp8e4m3 :=
  (vH.slice (Rect.unit (s := S16x256x512) ![g.1, 0, 0] S1x256x512.size (inbHV g)) (fun _ => rfl)).squeeze
    S256x512 squeezes_S1x256x512_S256x512
def srcWA (g : Fin 16) : Memref sig .tc .hbm S512x2048 .fp8e4m3 :=
  mWD.slice (Rect.unit (s := S8192x3072) ![g.1 * 512, 0] S512x2048.size (inbWA g)) (fun _ => rfl)
def dstWA (g : Fin 16) : Memref sig .tc .vmem S512x2048 .fp8e4m3 :=
  (vWA.slice (Rect.unit (s := S16x512x2048) ![g.1, 0, 0] S1x512x2048.size (inbWAV g)) (fun _ => rfl)).squeeze
    S512x2048 squeezes_S1x512x2048_S512x2048
def srcWB (g : Fin 16) : Memref sig .tc .hbm S512x1024 .fp8e4m3 :=
  mWD.slice (Rect.unit (s := S8192x3072) ![g.1 * 512, 2048] S512x1024.size (inbWB g)) (fun _ => rfl)
def dstWB (g : Fin 16) : Memref sig .tc .vmem S512x1024 .fp8e4m3 :=
  (vWB.slice (Rect.unit (s := S16x512x1024) ![g.1, 0, 0] S1x512x1024.size (inbWBV g)) (fun _ => rfl)).squeeze
    S512x1024 squeezes_S1x512x1024_S512x1024
def srcWQ (t : Fin 12) : Memref sig .tc .hbm S256x4608 .fp8e4m3 :=
  mWQ.slice (Rect.unit (s := S3072x4608) ![t.1 * 256, 0] S256x4608.size (inbWQ t)) (fun _ => rfl)
def dstWQ (t : Fin 12) : Memref sig .tc .vmem S256x4608 .fp8e4m3 :=
  (vWQ.slice (Rect.unit (s := S12x256x4608) ![t.1, 0, 0] S1x256x4608.size (inbWQV t)) (fun _ => rfl)).squeeze
    S256x4608 squeezes_S1x256x4608_S256x4608

theorem wsrcH (g : Fin 16) : (srcH g).view.WordExact := wmH.wordExact_slice rfl _ (wwH g)
theorem wdstH (g : Fin 16) : (dstH g).view.WordExact := (wvH.wordExact_slice rfl _ (wwHV g)).reshape _ _
theorem wsrcWA (g : Fin 16) : (srcWA g).view.WordExact := wmWD.wordExact_slice rfl _ (wwWA g)
theorem wdstWA (g : Fin 16) : (dstWA g).view.WordExact := (wvWA.wordExact_slice rfl _ (wwWAV g)).reshape _ _
theorem wsrcWB (g : Fin 16) : (srcWB g).view.WordExact := wmWD.wordExact_slice rfl _ (wwWB g)
theorem wdstWB (g : Fin 16) : (dstWB g).view.WordExact := (wvWB.wordExact_slice rfl _ (wwWBV g)).reshape _ _
theorem wsrcWQ (t : Fin 12) : (srcWQ t).view.WordExact := wmWQ.wordExact_slice rfl _ (wwWQ t)
theorem wdstWQ (t : Fin 12) : (dstWQ t).view.WordExact := (wvWQ.wordExact_slice rfl _ (wwWQV t)).reshape _ _

def startH (g : Fin 16) : PR F PUnit :=
  Prog.lift (.enqueueDma (srcH g) (.here (dstH g)) (.dma (semA 0 g)) (wsrcH g) (wdstH g) ⟨Or.inl rfl, trivial⟩)
def startWA (g : Fin 16) : PR F PUnit :=
  Prog.lift (.enqueueDma (srcWA g) (.here (dstWA g)) (.dma (semA 1 g)) (wsrcWA g) (wdstWA g) ⟨Or.inl rfl, trivial⟩)
def startWB (g : Fin 16) : PR F PUnit :=
  Prog.lift (.enqueueDma (srcWB g) (.here (dstWB g)) (.dma (semB g)) (wsrcWB g) (wdstWB g) ⟨Or.inl rfl, trivial⟩)
def startWQ (t : Fin 12) : PR F PUnit :=
  Prog.lift (.enqueueDma (srcWQ t) (.here (dstWQ t)) (.dma (semQ t)) (wsrcWQ t) (wdstWQ t) ⟨Or.inl rfl, trivial⟩)
def waitH (g : Fin 16) : PR F PUnit := Prog.lift (.waitDma2 (semA 0 g) (srcH g) (dstH g) (wsrcH g) (wdstH g))
def waitWA (g : Fin 16) : PR F PUnit := Prog.lift (.waitDma2 (semA 1 g) (srcWA g) (dstWA g) (wsrcWA g) (wdstWA g))
def waitWB (g : Fin 16) : PR F PUnit := Prog.lift (.waitDma2 (semB g) (srcWB g) (dstWB g) (wsrcWB g) (wdstWB g))
def waitWQ (t : Fin 12) : PR F PUnit := Prog.lift (.waitDma2 (semQ t) (srcWQ t) (dstWQ t) (wsrcWQ t) (wdstWQ t))

def startSmall0 : PR F PUnit :=
  Prog.lift (.enqueueDma mHS (.here vHS) (.dma (semSmall 0)) wmHS.wordExact wvHS.wordExact ⟨Or.inl rfl, trivial⟩)
def startSmall1 : PR F PUnit :=
  Prog.lift (.enqueueDma mWS (.here sWS) (.dma (semSmall 1)) wmWS.wordExact wsWS.wordExact ⟨Or.inl rfl, trivial⟩)
def startSmall2 : PR F PUnit :=
  Prog.lift (.enqueueDma mPos (.here vPos) (.dma (semSmall 2)) wmPos.wordExact wvPos.wordExact ⟨Or.inl rfl, trivial⟩)
def startSmall3 : PR F PUnit :=
  Prog.lift (.enqueueDma mIF (.here vIF) (.dma (semSmall 3)) wmIF.wordExact wvIF.wordExact ⟨Or.inl rfl, trivial⟩)
def startSmall4 : PR F PUnit :=
  Prog.lift (.enqueueDma mNW (.here vNW) (.dma (semSmall 4)) wmNW.wordExact wvNW.wordExact ⟨Or.inl rfl, trivial⟩)
def startSmall5 : PR F PUnit :=
  Prog.lift (.enqueueDma mQS (.here sQS) (.dma (semSmall 5)) wmQS.wordExact wsQS.wordExact ⟨Or.inl rfl, trivial⟩)
def startRes : PR F PUnit :=
  Prog.lift (.enqueueDma mRes (.here vRes) (.dma semRes) wmRes.wordExact wvRes.wordExact ⟨Or.inl rfl, trivial⟩)
def startOut : PR F PUnit :=
  Prog.lift (.enqueueDma vRO (.here mOut) (.dma semOut) wvRO.wordExact wmOut.wordExact ⟨Or.inl rfl, trivial⟩)
def startXC : PR F PUnit :=
  Prog.lift (.enqueueDma vXC (.here mXC) (.dma semXC) wvXC.wordExact wmXC.wordExact ⟨Or.inl rfl, trivial⟩)
def startXS : PR F PUnit :=
  Prog.lift (.enqueueDma vXS (.here mXS) (.dma semXS) wvXS.wordExact wmXS.wordExact ⟨Or.inl rfl, trivial⟩)
def waitXC : PR F PUnit := Prog.lift (.waitDma2 semXC vXC mXC wvXC.wordExact wmXC.wordExact)
def waitXS : PR F PUnit := Prog.lift (.waitDma2 semXS vXS mXS wvXS.wordExact wmXS.wordExact)
def waitSmall0 : PR F PUnit := Prog.lift (.waitDma2 (semSmall 0) mHS vHS wmHS.wordExact wvHS.wordExact)
def waitSmall1 : PR F PUnit := Prog.lift (.waitDma2 (semSmall 1) mWS sWS wmWS.wordExact wsWS.wordExact)
def waitSmall2 : PR F PUnit := Prog.lift (.waitDma2 (semSmall 2) mPos vPos wmPos.wordExact wvPos.wordExact)
def waitSmall3 : PR F PUnit := Prog.lift (.waitDma2 (semSmall 3) mIF vIF wmIF.wordExact wvIF.wordExact)
def waitSmall4 : PR F PUnit := Prog.lift (.waitDma2 (semSmall 4) mNW vNW wmNW.wordExact wvNW.wordExact)
def waitSmall5 : PR F PUnit := Prog.lift (.waitDma2 (semSmall 5) mQS sQS wmQS.wordExact wsQS.wordExact)
def waitRes : PR F PUnit := Prog.lift (.waitDma2 semRes mRes vRes wmRes.wordExact wvRes.wordExact)
def waitOut : PR F PUnit := Prog.lift (.waitDma2 semOut vRO mOut wvRO.wordExact wmOut.wordExact)

/-- One program after another over a list. -/
def each {α : Type} (f : α → PR F PUnit) : List α → PR F PUnit
  | [] => pure ⟨⟩
  | a :: l => f a >>= fun _ => each f l

/-! ## The scaled activations -/

theorem inbHl (g : Fin 16) (kg : Fin 4) :
    ∀ a, (![g.1, 0, kg.1 * 128] : Fin 3 → Nat) a + S1x256x128.size a ≤ S16x256x512.size a := by revert g kg; decide
theorem inbHPs (g : Fin 16) (m : Fin 16) (kg : Fin 4) :
    ∀ a, (![g.1, m.1 * 16, kg.1 * 128] : Fin 3 → Nat) a + S1x16x128.size a ≤ S16x256x512.size a := by
  intro a; have := g.2; have := m.2; have := kg.2
  fin_cases a <;> simp [S1x16x128, S16x256x512, Shape.size] <;> omega
theorem packHPs (g : Fin 16) (m : Fin 16) (kg : Fin 4) :
    (Rect.unit (s := S16x256x512) ![g.1, m.1 * 16, kg.1 * 128] S1x16x128.size (inbHPs g m kg)).PackedRows (EltTy.packing .bf16) := by
  revert g m kg; decide +kernel
theorem slices16 (m : Fin 16) : S256x128.Slices ![m.1 * 16, 0] S16x128 := by revert m; decide

/-- The scales of one block of 128 columns at 16 rows, one at each row. -/
def gath (hsb : Vec F S256x128 .bf16) (n : BitVec 32) (m : Fin 16) : FVec F S16x128 .bf16 :=
  let idx : IVec S16x128 32 := broadcast S16x128 n
  truncf .bf16 (dynamicGather 1
    (extractStridedSlice S16x128 ![m.1 * 16, 0] (extf .f32 (show FVec F S256x128 .bf16 from hsb) bitsLt_bf16_f32) (slices16 m) : FVec F S16x128 .f32)
    (shapeCast S16x128 (shapeCast S16x128x1
      (select (cmpi .slt idx (broadcast S16x128 0#32)) (addi idx (broadcast S16x128 128#32)) idx)
      shapeCasts_S16x128_S16x128x1) shapeCasts_S16x128x1_S16x128 : IVec S16x128 32)) bitsLt_bf16_f32

/-- What one store of the scaled activations writes. -/
def hpPay (codes : Vec F S1x256x128 .fp8e4m3) (hsb : Vec F S256x128 .bf16) (n : BitVec 32) (m : Fin 16) : FVec F S1x16x128 .bf16 :=
  shapeCast S1x16x128 (mulf
    (extractStridedSlice S16x128 ![m.1 * 16, 0]
      (extf .bf16 (shapeCast S256x128 codes shapeCasts_S1x256x128_S256x128 : FVec F S256x128 .fp8e4m3) bitsLt_fp8e4m3_bf16 : FVec F S256x128 .bf16)
      (slices16 m) : FVec F S16x128 .bf16)
    (gath hsb n m)) shapeCasts_S16x128_S1x16x128

abbrev rHPs (g m : Fin 16) (kg : Fin 4) : Rect S16x256x512 :=
  Rect.unit (s := S16x256x512) ![g.1, m.1 * 16, kg.1 * 128] S1x16x128.size (inbHPs g m kg)

def stHP (g m : Fin 16) (kg : Fin 4) (codes : Vec F S1x256x128 .fp8e4m3) (hsb : Vec F S256x128 .bf16) : PR F PUnit := do
  let _ : Vec F S1x16x128 .bf16 ← Prog.lift (.load vHP (rHPs g m kg).toLoadRect (View.loadsAt_vmem h_S1x16x128))
  Prog.lift (.store vHP (rHPs g m kg) (hpPay codes hsb (BitVec.ofNat 32 (g.1 * 4 + kg.1)) m) Finset.univ
    (View.stores_vmem h_S1x16x128 (wvHP.storeExact_slice rfl _ (packHPs g m kg)) (fun _ => rfl)) (.inl rfl))

def fins (n : Nat) : (k : Nat) → (k ≤ n) → List (Fin n)
  | 0, _ => []
  | k + 1, h => ⟨n - (k + 1), by omega⟩ :: fins n k (by omega)

/-- All of `Fin n`, in order. -/
def allF (n : Nat) : List (Fin n) := fins n n (Nat.le_refl n)

def makeKg (g : Fin 16) (kg : Fin 4) : PR F PUnit := do
  let codes : Vec F S1x256x128 .fp8e4m3 ← Prog.lift (.load vH
    (Rect.unit (s := S16x256x512) ![g.1, 0, kg.1 * 128] S1x256x128.size (inbHl g kg)).toLoadRect (View.loadsAt_vmem h_S1x256x128))
  let hsb : Vec F S256x128 .bf16 ← Prog.lift (.load vHSB
    (Rect.unit (s := S256x128) ![0, 0] S256x128.size inb_S256x128_S256x128_0_0).toLoadRect (View.loadsAt_vmem h_S256x128))
  each (fun m => stHP g m kg codes hsb) (allF 16)

def makeH (g : Fin 16) : PR F PUnit := each (makeKg g) (allF 4)

/-! ## The tiles and the stream -/

theorem inbAl (g : Fin 16) (kk : Fin 2) (t : Fin 8) :
    ∀ a, (![g.1, kk.1 * 256, t.1 * 256] : Fin 3 → Nat) a + S1x256x256.size a ≤ S16x512x2048.size a := by
  revert g kk t; decide +kernel
theorem inbBl (g : Fin 16) (kk : Fin 2) (t : Fin 4) :
    ∀ a, (![g.1, kk.1 * 256, t.1 * 256] : Fin 3 → Nat) a + S1x256x256.size a ≤ S16x512x1024.size a := by
  revert g kk t; decide +kernel
theorem inbHPl (g : Fin 16) (kk : Fin 2) :
    ∀ a, (![g.1, 0, kk.1 * 256] : Fin 3 → Nat) a + S1x256x256.size a ≤ S16x256x512.size a := by
  revert g kk; decide +kernel
theorem inbSc (r : Fin 24) (k : Fin 64) : ∀ a, (![r.1, k.1] : Fin 2 → Nat) a + S1x1.size a ≤ S24x64.size a := by
  revert r k; decide +kernel

def scaleAt (r : Fin 24) (k : Fin 64) : PR F (Elt F .f32) :=
  smemLoad sWS (Rect.unit (s := S24x64) ![r.1, k.1] S1x1.size (inbSc r k)) numel1_S1x1 rfl

/-- A tile of the weights times its four scales. -/
def tileV (codes : Vec F S1x256x256 .fp8e4m3) (s00 s01 s10 s11 : Elt F .f32) : FVec F S256x256 .bf16 :=
  k0_pay212 (k0_pay209 codes) (k0_pay210 codes s00) (k0_pay211 codes) s01 s10 s11

def codesAt (t : Fin 12) (g : Fin 16) (kk : Fin 2) : PR F (Vec F S1x256x256 .fp8e4m3) :=
  if h : t.1 < 8 then
    Prog.lift (.load vWA (Rect.unit (s := S16x512x2048) ![g.1, kk.1 * 256, t.1 * 256] S1x256x256.size
      (inbAl g kk ⟨t.1, h⟩)).toLoadRect (View.loadsAt_vmem h_S1x256x256))
  else
    Prog.lift (.load vWB (Rect.unit (s := S16x512x1024) ![g.1, kk.1 * 256, (t.1 - 8) * 256] S1x256x256.size
      (inbBl g kk ⟨t.1 - 8, by omega⟩)).toLoadRect (View.loadsAt_vmem h_S1x256x256))

/-- The tile `t` of columns at the unit `(g, kk)` of rows. -/
def tileP (t : Fin 12) (g : Fin 16) (kk : Fin 2) : PR F (FVec F S256x256 .bf16) := do
  let codes ← codesAt t g kk
  let s00 ← scaleAt ⟨t.1 * 2, by omega⟩ ⟨(g.1 * 2 + kk.1) * 2, by omega⟩
  let s01 ← scaleAt ⟨t.1 * 2 + 1, by omega⟩ ⟨(g.1 * 2 + kk.1) * 2, by omega⟩
  let s10 ← scaleAt ⟨t.1 * 2, by omega⟩ ⟨(g.1 * 2 + kk.1) * 2 + 1, by omega⟩
  let s11 ← scaleAt ⟨t.1 * 2 + 1, by omega⟩ ⟨(g.1 * 2 + kk.1) * 2 + 1, by omega⟩
  pure (tileV codes s00 s01 s10 s11)

/-- One accumulation: the chunk, the half of it, the pair of column tiles. -/
structure Un where
  g : Fin 16
  kk : Fin 2
  T : Fin 6

def pushU (u : Un) (r : Fin 2) (m : Mxu F) : PR F (Mxu F) := do
  let v0 ← tileP ⟨u.T.1 * 2, by have := u.T.2; omega⟩ u.g u.kk
  let m ← m.pushRhs 0 r false v0
  let v1 ← tileP ⟨u.T.1 * 2 + 1, by have := u.T.2; omega⟩ u.g u.kk
  m.pushRhs 1 r false v1

/-- The address of a pair's accumulator. -/
def addr (T : Fin 6) : Nat := (if T.1 < 4 then T.1 else T.1 - 4) * 64

theorem fitsAddr (T : Fin 6) : Mxu.Fits (addr T) 256 := by revert T; decide

def lhsV (v : Vec F S1x256x256 .bf16) : FVec F S256x256 .bf16 := k0_pay208 v

def ldHP (g : Fin 16) (kk : Fin 2) : PR F (Vec F S1x256x256 .bf16) :=
  Prog.lift (.load vHP (Rect.unit (s := S16x256x512) ![g.1, 0, kk.1 * 256] S1x256x256.size (inbHPl g kk)).toLoadRect
    (View.loadsAt_vmem h_S1x256x256))

def stepU (u : Un) (r r' : Fin 2) (nx : Option Un) (m : Mxu F) : PR F (Mxu F) := do
  let v ← ldHP u.g u.kk
  let m := (m.accLhs 0 r (addr u.T) (lhsV v) (fitsAddr u.T)).accLhs 1 r (addr u.T) (lhsV v) (fitsAddr u.T)
  match nx with
  | some n => pushU n r' m
  | none => pure m

/-- Pairs of accumulations, the first of each from register 0 and the second from register 1. -/
def streamP : List (Un × Un) → Option Un → Mxu F → PR F (Mxu F)
  | [], _, m => pure m
  | [(a, b)], nx, m => stepU a 0 1 (some b) m >>= fun m => stepU b 1 0 nx m
  | (a, b) :: (a', b') :: l, nx, m =>
    stepU a 0 1 (some b) m >>= fun m => stepU b 1 0 (some a') m >>= fun m => streamP ((a', b') :: l) nx m

def unitsA (g : Fin 16) : List (Un × Un) :=
  [(⟨g, 0, 0⟩, ⟨g, 0, 1⟩), (⟨g, 0, 2⟩, ⟨g, 0, 3⟩), (⟨g, 1, 0⟩, ⟨g, 1, 1⟩), (⟨g, 1, 2⟩, ⟨g, 1, 3⟩)]

def ch (i j : Fin 4) : Fin 16 := ⟨i.1 * 4 + j.1, by omega⟩

def unitsB (T : Fin 6) (i : Fin 4) : List (Un × Un) :=
  [(⟨ch i 0, 0, T⟩, ⟨ch i 0, 1, T⟩), (⟨ch i 1, 0, T⟩, ⟨ch i 1, 1, T⟩), (⟨ch i 2, 0, T⟩, ⟨ch i 2, 1, T⟩), (⟨ch i 3, 0, T⟩, ⟨ch i 3, 1, T⟩)]

/-! ## The loops -/

def tripA (g : Fin 15) (m : Mxu F) : PR F (Mxu F) := do
  waitH ⟨g.1 + 1, by omega⟩
  waitWA ⟨g.1 + 1, by omega⟩
  makeH ⟨g.1 + 1, by omega⟩
  streamP (unitsA ⟨g.1, by omega⟩) (some ⟨⟨g.1 + 1, by omega⟩, 0, 0⟩) m

def tripB (T : Fin 6) (k : Fin 2) (m : Mxu F) : PR F (Mxu F) :=
  streamP (unitsB T ⟨k.1 + 1, by omega⟩) (some ⟨ch ⟨k.1 + 2, by omega⟩ 0, 0, T⟩) m

/-! ## The ends of the phases -/

theorem inbRO (t : Fin 12) : ∀ a, (![0, t.1 * 256] : Fin 2 → Nat) a + S256x256.size a ≤ S256x3072.size a := by
  revert t; decide
theorem packRO (t : Fin 12) :
    (Rect.unit (s := S256x3072) ![0, t.1 * 256] S256x256.size (inbRO t)).PackedRows (EltTy.packing .bf16) := by
  revert t; decide
abbrev rRO (t : Fin 12) : Rect S256x3072 := Rect.unit (s := S256x3072) ![0, t.1 * 256] S256x256.size (inbRO t)
abbrev rSS : Rect S256x128 := Rect.unit (s := S256x128) ![0, 0] S256x128.size inb_S256x128_S256x128_0_0

/-- The matrix unit and the accumulator of a tile. -/
def unit (t : Fin 12) : Fin 2 := ⟨t.1 % 2, by omega⟩
def pairOf (t : Fin 12) : Fin 6 := ⟨t.1 / 2, by omega⟩

def readT (t : Fin 12) (m : Mxu F) : FVec F S256x256 .f32 := m.read (unit t) (addr (pairOf t)) (fitsAddr (pairOf t))
def popT (t : Fin 12) (m : Mxu F) : Mxu F := m.pop (unit t) (addr (pairOf t)) 256 (fitsAddr (pairOf t))

def roV (d : FVec F S256x256 .f32) (r : Vec F S256x256 .bf16) : FVec F S256x256 .bf16 := k0_pay628 d r

def ldSS : PR F (Vec F S256x128 .f32) := Prog.lift (.load vSS rSS.toLoadRect (View.loadsAt_vmem h_S256x128))
def stSS (v : FVec F S256x128 .f32) : PR F PUnit :=
  Prog.lift (.store vSS rSS v Finset.univ (View.stores_vmem_bits_univ h_S256x128 rfl) (.inl rfl))

def stRO (t : Fin 12) (d : FVec F S256x256 .f32) : PR F (Vec F S256x256 .bf16) := do
  let r : Vec F S256x256 .bf16 ← Prog.lift (.load vRes (rRO t).toLoadRect (View.loadsAt_vmem h_S256x256))
  let _ : Vec F S256x256 .bf16 ← Prog.lift (.load vRO (rRO t).toLoadRect (View.loadsAt_vmem h_S256x256))
  Prog.lift (.store vRO (rRO t) (roV d r) Finset.univ
    (View.stores_vmem h_S256x256 (wvRO.storeExact_slice rfl _ (packRO t)) (fun _ => rfl)) (.inl rfl))
  pure r

def epiFirst (t : Fin 12) (m : Mxu F) : PR F (Mxu F) := do
  let r ← stRO t (readT t m)
  let _ ← ldSS
  stSS (k0_pay629 (readT t m) r)
  pure (popT t m)

def epi (t : Fin 12) (m : Mxu F) : PR F (Mxu F) := do
  let r ← stRO t (readT t m)
  let s ← ldSS
  let _ ← ldSS
  stSS (shapeCast S256x128 (k0_pay632 (readT t m) r s) shapeCasts_S256x128_S256x128)
  pure (popT t m)

/-- The turns of the positions. -/
def rope : PR F PUnit := do
  let v0 : Vec F S1x128 .i32 ← Prog.lift (.load vPos (Rect.unit (s := S2x128) ![0, 0] S1x128.size inb_S2x128_S1x128_0_0).toLoadRect (View.loadsAt_vmem h_S1x128))
  let f0 : Vec F S48x128 .f32 ← Prog.lift (.load vIF (Rect.unit (s := S48x128) ![0, 0] S48x128.size inb_S48x128_S48x128_0_0).toLoadRect (View.loadsAt_vmem h_S48x128))
  let _ : Vec F S1x48x128 .f32 ← Prog.lift (.load vCos (Rect.unit (s := S2x48x128) ![0, 0, 0] S1x48x128.size inb_S2x48x128_S1x48x128_0_0_0).toLoadRect (View.loadsAt_vmem h_S1x48x128))
  Prog.lift (.store vCos (Rect.unit (s := S2x48x128) ![0, 0, 0] S1x48x128.size inb_S2x48x128_S1x48x128_0_0_0) (k0_pay654 v0 f0) Finset.univ (View.stores_vmem_bits_univ h_S1x48x128 rfl) (.inl rfl))
  let _ : Vec F S1x48x128 .f32 ← Prog.lift (.load vSin (Rect.unit (s := S2x48x128) ![0, 0, 0] S1x48x128.size inb_S2x48x128_S1x48x128_0_0_0).toLoadRect (View.loadsAt_vmem h_S1x48x128))
  Prog.lift (.store vSin (Rect.unit (s := S2x48x128) ![0, 0, 0] S1x48x128.size inb_S2x48x128_S1x48x128_0_0_0) (k0_pay655 v0 f0) Finset.univ (View.stores_vmem_bits_univ h_S1x48x128 rfl) (.inl rfl))
  let v1 : Vec F S1x128 .i32 ← Prog.lift (.load vPos (Rect.unit (s := S2x128) ![1, 0] S1x128.size inb_S2x128_S1x128_1_0).toLoadRect (View.loadsAt_vmem h_S1x128))
  let f1 : Vec F S48x128 .f32 ← Prog.lift (.load vIF (Rect.unit (s := S48x128) ![0, 0] S48x128.size inb_S48x128_S48x128_0_0).toLoadRect (View.loadsAt_vmem h_S48x128))
  let _ : Vec F S1x48x128 .f32 ← Prog.lift (.load vCos (Rect.unit (s := S2x48x128) ![1, 0, 0] S1x48x128.size inb_S2x48x128_S1x48x128_1_0_0).toLoadRect (View.loadsAt_vmem h_S1x48x128))
  Prog.lift (.store vCos (Rect.unit (s := S2x48x128) ![1, 0, 0] S1x48x128.size inb_S2x48x128_S1x48x128_1_0_0) (k0_pay657 v1 f1) Finset.univ (View.stores_vmem_bits_univ h_S1x48x128 rfl) (.inl rfl))
  let _ : Vec F S1x48x128 .f32 ← Prog.lift (.load vSin (Rect.unit (s := S2x48x128) ![1, 0, 0] S1x48x128.size inb_S2x48x128_S1x48x128_1_0_0).toLoadRect (View.loadsAt_vmem h_S1x48x128))
  Prog.lift (.store vSin (Rect.unit (s := S2x48x128) ![1, 0, 0] S1x48x128.size inb_S2x48x128_S1x48x128_1_0_0) (k0_pay658 v1 f1) Finset.univ (View.stores_vmem_bits_univ h_S1x48x128 rfl) (.inl rfl))

/-- The scales of the activations, turned. -/
def turnScales : PR F PUnit := do
  let v0 : Vec F S1x64x128 .f32 ← Prog.lift (.load vHS (Rect.unit (s := S2x64x128) ![0, 0, 0] S1x64x128.size inb_S2x64x128_S1x64x128_0_0_0).toLoadRect (View.loadsAt_vmem h_S1x64x128))
  let _ : Vec F S128x128 .bf16 ← Prog.lift (.load vHSB (Rect.unit (s := S256x128) ![0, 0] S128x128.size inb_S256x128_S128x128_0_0).toLoadRect (View.loadsAt_vmem h_S128x128))
  Prog.lift (.store vHSB (Rect.unit (s := S256x128) ![0, 0] S128x128.size inb_S256x128_S128x128_0_0) (k0_pay407 v0) Finset.univ (View.stores_vmem h_S128x128 (wvHSB.storeExact_slice rfl _ packedbf16_S256x128_S128x128_0_0) (fun _ => rfl)) (.inl rfl))
  let v1 : Vec F S1x64x128 .f32 ← Prog.lift (.load vHS (Rect.unit (s := S2x64x128) ![1, 0, 0] S1x64x128.size inb_S2x64x128_S1x64x128_1_0_0).toLoadRect (View.loadsAt_vmem h_S1x64x128))
  let _ : Vec F S128x128 .bf16 ← Prog.lift (.load vHSB (Rect.unit (s := S256x128) ![128, 0] S128x128.size inb_S256x128_S128x128_128_0).toLoadRect (View.loadsAt_vmem h_S128x128))
  Prog.lift (.store vHSB (Rect.unit (s := S256x128) ![128, 0] S128x128.size inb_S256x128_S128x128_128_0) (k0_pay408 v1) Finset.univ (View.stores_vmem h_S128x128 (wvHSB.storeExact_slice rfl _ packedbf16_S256x128_S128x128_128_0) (fun _ => rfl)) (.inl rfl))

def starts : PR F PUnit := do
  startSmall0
  startSmall1
  startH 0
  startWA 0
  startSmall2
  startSmall3
  startSmall4
  startSmall5
  each (fun g => startH g >>= fun _ => startWA g) (fins 16 15 (by decide))
  startRes
  each startWB (allF 16)
  each startWQ (allF 12)

/-- The accumulators cleared at the start. -/
def mxu0 : Mxu F :=
  popT 7 (popT 5 (popT 3 (popT 1 (popT 6 (popT 4 (popT 2 (popT 0 Mxu.init)))))))

def pre : PR F PUnit := do
  starts
  waitSmall0
  turnScales
  waitSmall1
  waitH 0
  waitWA 0
  makeH 0

def waitMid : PR F PUnit := do
  waitSmall2
  waitSmall3
  waitSmall4
  waitSmall5
  waitRes

/-! ## The norm and the quantiser -/

theorem inbNW (g : Fin 24) : ∀ a, (![g.1, 0] : Fin 2 → Nat) a + S1x128.size a ≤ S24x128.size a := by revert g; decide
theorem inbXG (g : Fin 24) : ∀ a, (![0, g.1 * 128] : Fin 2 → Nat) a + S256x128.size a ≤ S256x3072.size a := by
  revert g; decide
theorem inbXP (g : Fin 24) : ∀ a, (![g.1 / 2, 0, g.1 % 2 * 128] : Fin 3 → Nat) a + S1x256x128.size a ≤ S12x256x256.size a := by
  revert g; decide
theorem packXG (g : Fin 24) :
    (Rect.unit (s := S256x3072) ![0, g.1 * 128] S256x128.size (inbXG g)).PackedRows (EltTy.packing .fp8e4m3) := by
  revert g; decide
theorem packXP (g : Fin 24) :
    (Rect.unit (s := S12x256x256) ![g.1 / 2, 0, g.1 % 2 * 128] S1x256x128.size (inbXP g)).PackedRows (EltTy.packing .bf16) := by
  revert g; decide

abbrev rNW (g : Fin 24) : Rect S24x128 := Rect.unit (s := S24x128) ![g.1, 0] S1x128.size (inbNW g)
abbrev rXG (g : Fin 24) : Rect S256x3072 := Rect.unit (s := S256x3072) ![0, g.1 * 128] S256x128.size (inbXG g)
abbrev rXP (g : Fin 24) : Rect S12x256x256 := Rect.unit (s := S12x256x256) ![g.1 / 2, 0, g.1 % 2 * 128] S1x256x128.size (inbXP g)

/-- The number of each lane. -/
def lane : IVec S8x128 32 := iota .tc S8x128 32 [1] iota_S8x128_d1_w32

/-- The normed values of a group, the bound of each row, the bits of its scale, the clipped codes. -/
def qX (nw : Vec F S1x128 .f32) (ro : Vec F S256x128 .bf16) (rs : Vec F S256x128 .f32) : FVec F S256x128 .f32 := k0_pay930 nw ro rs
def qSc (nw : Vec F S1x128 .f32) (ro : Vec F S256x128 .bf16) (rs : Vec F S256x128 .f32) : FVec F S256x128 .f32 :=
  k0_pay935 (k0_pay931 nw ro rs) (k0_pay932 nw ro rs) (k0_pay933 nw ro rs)
def qCl (nw : Vec F S1x128 .f32) (ro : Vec F S256x128 .bf16) (rs : Vec F S256x128 .f32) : FVec F S256x128 .f32 :=
  k0_pay936 (k0_pay930 nw ro rs) (k0_pay931 nw ro rs) (k0_pay932 nw ro rs) (k0_pay933 nw ro rs)

/-- The scales with the lane of the group set. -/
def qSel (l : IVec S8x128 32) (g : Fin 24) (sc : FVec F S256x128 .f32) (s : Vec F S256x128 .f32) : FVec F S256x128 .f32 :=
  k0_pay955 l (BitVec.ofNat 32 g.1) sc s

def ldNW (g : Fin 24) : PR F (Vec F S1x128 .f32) := Prog.lift (.load vNW (rNW g).toLoadRect (View.loadsAt_vmem h_S1x128))
def ldROg (g : Fin 24) : PR F (Vec F S256x128 .bf16) := Prog.lift (.load vRO (rXG g).toLoadRect (View.loadsAt_vmem h_S256x128))
def ldRS : PR F (Vec F S256x128 .f32) := Prog.lift (.load vRS rSS.toLoadRect (View.loadsAt_vmem h_S256x128))
def stRS (v : FVec F S256x128 .f32) : PR F PUnit :=
  Prog.lift (.store vRS rSS v Finset.univ (View.stores_vmem_bits_univ h_S256x128 rfl) (.inl rfl))
def ldSC : PR F (Vec F S256x128 .f32) := Prog.lift (.load vSC rSS.toLoadRect (View.loadsAt_vmem h_S256x128))
def stSC (v : FVec F S256x128 .f32) : PR F PUnit :=
  Prog.lift (.store vSC rSS v Finset.univ (View.stores_vmem_bits_univ h_S256x128 rfl) (.inl rfl))
def stXC (g : Fin 24) (v : FVec F S256x128 .fp8e4m3) : PR F PUnit := do
  let _ : Vec F S256x128 .fp8e4m3 ← Prog.lift (.load vXC (rXG g).toLoadRect (View.loadsAt_vmem h_S256x128))
  Prog.lift (.store vXC (rXG g) v Finset.univ
    (View.stores_vmem h_S256x128 (wvXC.storeExact_slice rfl _ (packXG g)) (fun _ => rfl)) (.inl rfl))
def stXP (g : Fin 24) (v : FVec F S1x256x128 .bf16) : PR F PUnit := do
  let _ : Vec F S1x256x128 .bf16 ← Prog.lift (.load vXP (rXP g).toLoadRect (View.loadsAt_vmem h_S1x256x128))
  Prog.lift (.store vXP (rXP g) v Finset.univ
    (View.stores_vmem h_S1x256x128 (wvXP.storeExact_slice rfl _ (packXP g)) (fun _ => rfl)) (.inl rfl))

/-- What is kept of a group. -/
def quantSt (l : IVec S8x128 32) (g : Fin 24) (nw : Vec F S1x128 .f32) (ro : Vec F S256x128 .bf16) (rs : Vec F S256x128 .f32) : PR F PUnit := do
  stXC g (k0_pay938 (qCl nw ro rs))
  stXP g (k0_pay939 (qSc nw ro rs) (qCl nw ro rs))
  let s ← ldSC
  let _ ← ldSC
  stSC (qSel l g (qSc nw ro rs) s)

def quantG (l : IVec S8x128 32) (g : Fin 24) : PR F PUnit := do
  let nw ← ldNW g
  let ro ← ldROg g
  let rs ← ldRS
  quantSt l g nw ro rs

def quantInit : PR F PUnit := do
  let s ← ldSS
  let _ ← ldRS
  stRS (k0_pay928 s)
  let _ ← ldSC
  stSC k0_pay929

/-- Two groups. -/
def tripQ (k : Fin 11) : PR F PUnit := do
  quantG lane ⟨(k.1 + 1) * 2, by omega⟩
  quantG lane ⟨(k.1 + 1) * 2 + 1, by omega⟩

abbrev rSh0 : Rect S256x128 := Rect.unit (s := S256x128) ![0, 0] S128x128.size inb_S256x128_S128x128_0_0
abbrev rSh1 : Rect S256x128 := Rect.unit (s := S256x128) ![128, 0] S128x128.size inb_S256x128_S128x128_128_0
abbrev rXS0 : Rect S2x24x128 := Rect.unit (s := S2x24x128) ![0, 0, 0] S1x24x128.size inb_S2x24x128_S1x24x128_0_0_0
abbrev rXS1 : Rect S2x24x128 := Rect.unit (s := S2x24x128) ![1, 0, 0] S1x24x128.size inb_S2x24x128_S1x24x128_1_0_0

/-- The scales, turned. -/
def turnXS1 (v0 : FVec F S24x128 .f32) : PR F PUnit := do
  let _ : Vec F S1x24x128 .f32 ← Prog.lift (.load vXS rXS0.toLoadRect (View.loadsAt_vmem h_S1x24x128))
  Prog.lift (.store vXS rXS0 (k0_pay1 v0) Finset.univ (View.stores_vmem_bits_univ h_S1x24x128 rfl) (.inl rfl))
  let v1 : Vec F S128x128 .f32 ← Prog.lift (.load vSC rSh1.toLoadRect (View.loadsAt_vmem h_S128x128))
  let _ : Vec F S1x24x128 .f32 ← Prog.lift (.load vXS rXS1.toLoadRect (View.loadsAt_vmem h_S1x24x128))
  Prog.lift (.store vXS rXS1 (k0_pay2 v1) Finset.univ (View.stores_vmem_bits_univ h_S1x24x128 rfl) (.inl rfl))

def ldSh0 : PR F (Vec F S128x128 .f32) := Prog.lift (.load vSC rSh0.toLoadRect (View.loadsAt_vmem h_S128x128))
def turnXS : PR F PUnit := do
  let v0 ← ldSh0
  turnXS1 (k0_pay956 v0)

abbrev Reg1 (F : FTy → Type) [FloatOps F] := Mxu F → FVec F S256x256 .fp8e4m3 → FVec F S128x256 .bf16 →
  Fin k0_t1_loop.trips → Mxu F → PR F (Mxu F)
abbrev Reg2 (F : FTy → Type) [FloatOps F] := Mxu F → BitVec 32 → BitVec 32 → Fin k0_t2_loop.trips → Mxu F → PR F (Mxu F)
abbrev Reg3 (F : FTy → Type) [FloatOps F] := Mxu F → FVec F S256x256 .fp8e4m3 → FVec F S128x256 .bf16 → FVec F S8x16x128 .bf16 →
  Fin k0_t3_loop.trips → Mxu F → PR F (Mxu F)
abbrev Reg4 (F : FTy → Type) [FloatOps F] := IVec S8x128 32 → FVec F S256x128 .f32 → FVec F S256x128 .f32 → FVec F S256x128 .f32 →
  Fin k0_t4_loop.trips → Unit → PR F Unit

/-! The body in three stretches, cut where the printed one is. -/

def stretch1 (B1 : Reg1 F) : PR F (Σ' (_ : IVec S8x128 32) (_ : Mxu F), FVec F S256x128 .f32) := do
  pre
  let v0 ← tileP 0 0 0
  let m ← (mxu0 (F := F)).pushRhs 0 0 false v0
  let codes ← codesAt 1 0 0
  let s00 ← scaleAt 2 0
  let s01 ← scaleAt 3 0
  let s10 ← scaleAt 2 1
  let s11 ← scaleAt 3 1
  let m' ← m.pushRhs 1 0 false (tileV codes s00 s01 s10 s11)
  let m ← (do
    let m ← Scf.Loop.for k0_t1_loop k0_t1_ok m' (B1 m (k0_pay524 codes) (k0_pay525 codes s00 s01))
    waitMid
    pure m)
  each waitWB (allF 16)
  let m ← streamP (unitsA 15) (some ⟨0, 0, 4⟩) m
  let m ← epiFirst 0 m
  let r ← stRO 1 (readT 1 m)
  let s ← ldSS
  pure ⟨lane, popT 1 m, k0_pay632 (readT 1 m) r s⟩

def stretch2 (B2 : Reg2 F) (B3 : Reg3 F) (m : Mxu F) (v : FVec F S256x128 .f32) :
    PR F (Σ' (_ : Mxu F), FVec F S256x256 .fp8e4m3) := do
  let _ ← ldSS
  stSS (shapeCast S256x128 v shapeCasts_S256x128_S256x128)
  let m ← epi 2 m
  let m ← epi 3 m
  let m ← epi 4 m
  let m ← epi 5 m
  let m ← epi 6 m
  let m ← epi 7 m
  rope
  let m ← streamP (unitsB 4 0) none m
  let v0 ← tileP 8 4 0
  let m ← m.pushRhs 0 0 false v0
  let v1 ← tileP 9 4 0
  let m' ← m.pushRhs 1 0 false v1
  let ⟨m, x0, x1, x2, x3⟩ ← (do
    let m ← Scf.Loop.for k0_t2_loop k0_t2_ok m' (B2 m' 0#32 1#32)
    let v ← ldHP 12 0
    let m := (m.accLhs 0 0 (addr 4) (lhsV v) (fitsAddr 4)).accLhs 1 0 (addr 4) (lhsV v) (fitsAddr 4)
    let codes ← codesAt 8 12 1
    let s00 ← scaleAt 16 50
    let s01 ← scaleAt 17 50
    let s10 ← scaleAt 16 51
    let s11 ← scaleAt 17 51
    pure (⟨m, k0_pay693 codes s00 s01, k0_pay694 codes s10, k0_pay695 codes, k0_pay696 s11⟩ :
      Σ' (_ : Mxu F) (_ : FVec F S128x256 .bf16) (_ : FVec F S128x128 .bf16) (_ : FVec F S8x16x128 .bf16), FVec F S1x16x128 .bf16))
  let m ← m.pushRhs 0 1 false (k0_pay697 x0 x1 x2 x3)
  let v1 ← tileP 9 12 1
  let m ← m.pushRhs 1 1 false v1
  let m ← stepU ⟨12, 1, 4⟩ 1 0 (some ⟨13, 0, 4⟩) m
  let m ← streamP [(⟨13, 0, 4⟩, ⟨13, 1, 4⟩), (⟨14, 0, 4⟩, ⟨14, 1, 4⟩), (⟨15, 0, 4⟩, ⟨15, 1, 4⟩)] (some ⟨0, 0, 5⟩) m
  let m ← epi 8 m
  let m ← epi 9 m
  let m ← streamP (unitsB 5 0) none m
  let v0 ← tileP 10 4 0
  let m ← m.pushRhs 0 0 false v0
  let codes ← codesAt 11 4 0
  let s00 ← scaleAt 22 16
  let s01 ← scaleAt 23 16
  let s10 ← scaleAt 22 17
  let s11 ← scaleAt 23 17
  let m' ← m.pushRhs 1 0 false (tileV codes s00 s01 s10 s11)
  let m ← (do
    let m ← Scf.Loop.for k0_t3_loop k0_t3_ok m' (B3 m (k0_pay879 codes) (k0_pay880 codes s00 s01) (k0_pay881 codes s10))
    waitWQ 0
    waitWQ 1
    waitWQ 2
    pure m)
  each waitWQ (fins 12 9 (by decide))
  let m ← stepU ⟨12, 0, 5⟩ 0 1 (some ⟨12, 1, 5⟩) m
  let m ← stepU ⟨12, 1, 5⟩ 1 0 (some ⟨13, 0, 5⟩) m
  let v ← ldHP 13 0
  let m := (m.accLhs 0 0 (addr 5) (lhsV v) (fitsAddr 5)).accLhs 1 0 (addr 5) (lhsV v) (fitsAddr 5)
  let codes ← codesAt 10 13 1
  pure ⟨m, k0_pay899 codes⟩

/-- The end, up to the loop over the groups. -/
def tailA : PR F PUnit := do
  quantInit
  quantG lane 0
  quantG lane 1
  startOut

def tailB : PR F PUnit := do
  startXC
  turnXS
  startXS
  waitOut
  waitXC
  waitXS

def stretch3 (B4 : Reg4 F) (l : IVec S8x128 32) (m : Mxu F) (a : FVec F S256x256 .fp8e4m3) : PR F PUnit := do
  let s00 ← scaleAt 20 54
  let s01 ← scaleAt 21 54
  let s10 ← scaleAt 20 55
  let s11 ← scaleAt 21 55
  let m ← m.pushRhs 0 1 false (k0_pay900 a s00 s01 s10 s11)
  let v1 ← tileP 11 13 1
  let m ← m.pushRhs 1 1 false v1
  let m ← stepU ⟨13, 1, 5⟩ 1 0 (some ⟨14, 0, 5⟩) m
  let m ← streamP [(⟨14, 0, 5⟩, ⟨14, 1, 5⟩), (⟨15, 0, 5⟩, ⟨15, 1, 5⟩)] none m
  let m ← epi 10 m
  let m ← epi 11 m
  quantInit
  quantG l 0
  let nw ← ldNW 1
  let ro ← ldROg 1
  let rs ← ldRS
  quantSt l 1 nw ro rs
  startOut
  let p ← (do
    Scf.Loop.for k0_t4_loop k0_t4_ok ⟨⟩ (B4 l (k0_pay941 nw ro rs)
      (k0_pay946 (k0_pay942 nw ro rs) k0_pay943 k0_pay944) (k0_pay947 (k0_pay942 nw ro rs) k0_pay943 k0_pay944))
    startXC
    let v0 ← ldSh0
    pure (k0_pay956 v0))
  turnXS1 p
  startXS
  waitOut
  waitXC
  waitXS
  m.exit
  pure ⟨⟩

def rootP (B1 : Reg1 F) (B2 : Reg2 F) (B3 : Reg3 F) (B4 : Reg4 F) : PR F PUnit := do
  let ⟨l, m, v⟩ ← stretch1 B1
  let ⟨m, a⟩ ← stretch2 B2 B3 m v
  stretch3 B4 l m a

end Cert.KernelIdeal.Hand
-- ==== Proof.Unit.lean ====
module

public import proofs.«01_k».proof.Proof.Prog
public import Idealize.ShloMosaic.Lib.Mxu.Lemmas

/-! What the two matrix units hold, said by their eight accumulators and four registers. -/

@[expose] public section

set_option maxRecDepth 65536

noncomputable section

namespace Cert.KernelIdeal.Hand

open Idealize.ShloMosaic Idealize.SL.Sem Cert.KernelIdeal Cert.KernelIdeal.Gen

variable {F : FTy → Type} [FloatOps F]

/-- The accumulators: by unit and by one of the four addresses, none when nothing was added since the last pop. -/
abbrev Acc (F : FTy → Type) := Fin 2 → Fin 4 → Option (FVec F S256x256 .f32)
/-- The registers: the tile staged in each. -/
abbrev Regs (F : FTy → Type) := Fin 2 → Fin 2 → Option (FVec F S256x256 .bf16)

theorem fits4 (a : Fin 4) : Mxu.Fits (a.1 * 64) 256 := by revert a; decide

/-- The accumulator of a pair of column tiles. -/
def slot (T : Fin 6) : Fin 4 := ⟨if T.1 < 4 then T.1 else T.1 - 4, by split <;> omega⟩

theorem addr_eq (T : Fin 6) : addr T = (slot T).1 * 64 := rfl

/-- One pass of the unit. -/
def passV (l v : FVec F S256x256 .bf16) : FVec F S256x256 .f32 :=
  FloatOps.mxuPass (DotDims.plain 256 256 256) (show FVec F (Mxu.STile 256) .bf16 from l) (show FVec F (Mxu.STile 256) .bf16 from v)

/-- What a deposit leaves. -/
def dep (o : Option (FVec F S256x256 .f32)) (p : FVec F S256x256 .f32) : FVec F S256x256 .f32 :=
  match o with
  | none => p
  | some v => addf v p

def oneAcc (m : Mxu F) (q : Fin 2) (a : Fin 4) : Option (FVec F S256x256 .f32) → Prop
  | none => ∀ r : Fin 256, m.live q (Mxu.row (fits4 a) r) = false
  | some v => (∀ r : Fin 256, m.live q (Mxu.row (fits4 a) r) = true) ∧ m.read q (a.1 * 64) (fits4 a) = v

/-- The state `m` holds the accumulators `D` and the registers `R`. -/
structure Rep (m : Mxu F) (D : Acc F) (R : Regs F) : Prop where
  reg : ∀ q r, m.reg q r = (R q r).map fun v => ⟨.bf16, false, v⟩
  acc : ∀ q a, oneAcc m q a (D q a)

def setR (R : Regs F) (q r : Fin 2) (o : Option (FVec F S256x256 .bf16)) : Regs F :=
  fun q' r' => if q' = q ∧ r' = r then o else R q' r'
def setD (D : Acc F) (q : Fin 2) (a : Fin 4) (o : Option (FVec F S256x256 .f32)) : Acc F :=
  fun q' a' => if q' = q ∧ a' = a then o else D q' a'

variable {m : Mxu F} {D : Acc F} {R : Regs F}

theorem oneAcc_congr {m m' : Mxu F} {q : Fin 2} {a : Fin 4} {o : Option (FVec F S256x256 .f32)} (h : oneAcc m q a o)
    (hl : ∀ r : Fin 256, m'.live q (Mxu.row (fits4 a) r) = m.live q (Mxu.row (fits4 a) r))
    (hr : m'.read q (a.1 * 64) (fits4 a) = m.read q (a.1 * 64) (fits4 a)) : oneAcc m' q a o := by
  cases o with
  | none => intro r; rw [hl]; exact h r
  | some v => exact ⟨fun r => by rw [hl]; exact h.1 r, by rw [hr]; exact h.2⟩

theorem Rep.pushOk (h : Rep m D R) (q r : Fin 2) : m.PushOk q r false := by
  intro t ht
  rw [h.reg] at ht
  cases e : R q r with
  | none => rw [e] at ht; simp at ht
  | some v => rw [e] at ht; simp at ht; rw [← ht]

theorem Rep.push (h : Rep m D R) {q r : Fin 2} (hn : R q r = none) (v : FVec F S256x256 .bf16) :
    Rep (m.pushed q r false (φ := .bf16) v) D (setR R q r (some v)) := by
  have hm : m.reg q r = none := by rw [h.reg, hn]; rfl
  refine ⟨fun q' r' => ?_, fun q' a => oneAcc_congr (h.acc q' a) (fun _ => by rw [Mxu.live_pushed]) (by rw [Mxu.read_pushed])⟩
  by_cases e : q' = q ∧ r' = r
  · obtain ⟨rfl, rfl⟩ := e
    rw [Mxu.reg_pushed_of_none _ _ _ _ _ hm]; simp [setR]
  · rw [Mxu.reg_pushed_ne _ _ _ _ _ _ _ e, h.reg]; simp [setR, e]

theorem far {a b : Fin 4} (h : b ≠ a) : 4 * (b.1 * 64) + 256 ≤ 4 * (a.1 * 64) ∨ 4 * (a.1 * 64) + 256 ≤ 4 * (b.1 * 64) := by
  have := fun e : b.1 = a.1 => h (Fin.ext e)
  omega

theorem Rep.accum (h : Rep m D R) {q r : Fin 2} (a : Fin 4) {t : FVec F S256x256 .bf16} (ht : R q r = some t) (l : FVec F S256x256 .bf16) :
    Rep (m.accLhs q r (a.1 * 64) (φ := .bf16) l (fits4 a)) (setD D q a (some (dep (D q a) (passV l t)))) (setR R q r none) := by
  have hs : m.staged q r = ⟨.bf16, false, t⟩ := by rw [Mxu.staged_eq, h.reg, ht]; rfl
  refine ⟨fun q' r' => ?_, fun q' b => ?_⟩
  · by_cases e : q' = q ∧ r' = r
    · obtain ⟨rfl, rfl⟩ := e
      rw [Mxu.reg_accLhs]; simp [setR]
    · rw [Mxu.reg_accLhs_ne _ _ _ _ _ _ _ _ e, h.reg]; simp [setR, e]
  · by_cases e : q' = q ∧ b = a
    · obtain ⟨rfl, rfl⟩ := e
      have hD := h.acc q' b
      have : setD D q' b (some (dep (D q' b) (passV l t))) q' b = some (dep (D q' b) (passV l t)) := by simp [setD]
      rw [this]
      refine ⟨fun r' => Mxu.live_accLhs_row _ _ _ _ _ _ _, ?_⟩
      cases e : D q' b with
      | none =>
        rw [e] at hD
        rw [Mxu.read_accLhs_of_not_live _ _ _ _ _ _ hD, hs]; rfl
      | some v =>
        rw [e] at hD
        rw [Mxu.read_accLhs_of_live _ _ _ _ _ _ hD.1, hs, hD.2]; rfl
    · have : setD D q a (some (dep (D q a) (passV l t))) q' b = D q' b := by simp [setD, e]
      rw [this]
      refine oneAcc_congr (h.acc q' b) (fun r' => ?_) ?_
      · rw [Mxu.live_accLhs, if_neg]
        rintro ⟨rfl, h1, h2⟩
        have hb : b ≠ a := fun hb => e ⟨rfl, hb⟩
        have := far hb
        have := r'.2
        dsimp only [Mxu.row] at h1 h2
        omega
      · refine Mxu.read_accLhs_ne _ _ _ _ _ _ _ _ _ ?_
        by_cases hq : q' = q
        · exact Or.inr (far fun hb => e ⟨hq, hb⟩)
        · exact Or.inl hq

theorem Rep.popped (h : Rep m D R) (q : Fin 2) (a : Fin 4) :
    Rep (m.pop q (a.1 * 64) 256 (fits4 a)) (setD D q a none) R := by
  refine ⟨fun q' r' => by rw [Mxu.reg_pop]; exact h.reg q' r', fun q' b => ?_⟩
  by_cases e : q' = q ∧ b = a
  · obtain ⟨rfl, rfl⟩ := e
    have : setD D q' b none q' b = none := by simp [setD]
    rw [this]
    exact fun r' => Mxu.live_pop_row _ _ _ _ _
  · have : setD D q a none q' b = D q' b := by simp [setD, e]
    rw [this]
    refine oneAcc_congr (h.acc q' b) (fun r' => ?_) ?_
    · rw [Mxu.live_pop, if_neg]
      rintro ⟨rfl, h1, h2⟩
      have hb : b ≠ a := fun hb => e ⟨rfl, hb⟩
      have := far hb
      have := r'.2
      dsimp only [Mxu.row] at h1 h2
      omega
    · refine Mxu.read_pop_ne _ _ _ _ _ _ _ ?_
      by_cases hq : q' = q
      · exact Or.inr (far fun hb => e ⟨hq, hb⟩)
      · exact Or.inl hq

theorem Rep.readV (h : Rep m D R) {q : Fin 2} {a : Fin 4} {v : FVec F S256x256 .f32} (e : D q a = some v) :
    m.read q (a.1 * 64) (fits4 a) = v := by
  have := h.acc q a
  rw [e] at this
  exact this.2

theorem Rep.init : Rep (Mxu.init : Mxu F) (fun _ _ => none) (fun _ _ => none) :=
  ⟨fun _ _ => Mxu.reg_init _ _, fun _ _ _ => rfl⟩

theorem setD_none (q : Fin 2) (a : Fin 4) : setD (F := F) (fun _ _ => none) q a none = fun _ _ => none := by
  funext q' a'; simp [setD]

theorem Rep.pop0 (h : Rep m (fun _ _ => none) R) (q : Fin 2) (a : Fin 4) :
    Rep (m.pop q (a.1 * 64) 256 (fits4 a)) (fun _ _ => none) R := by
  have := h.popped q a
  rwa [setD_none] at this

theorem Rep.drained (h : Rep m (fun _ _ => none) (fun _ _ => none)) : m.Drained := by
  refine ⟨fun q r => by rw [h.reg]; rfl, fun q X => ?_⟩
  have hX := X.2
  have := h.acc q ⟨X.1 / 256, by omega⟩ ⟨X.1 % 256, by omega⟩
  rw [← this]
  congr 1
  apply Fin.ext
  simp only [Mxu.row]
  omega

theorem rep_mxu0 : Rep (mxu0 : Mxu F) (fun _ _ => none) (fun _ _ => none) :=
  (((((((Rep.init.pop0 0 0).pop0 0 1).pop0 0 2).pop0 0 3).pop0 1 0).pop0 1 1).pop0 1 2).pop0 1 3

end Cert.KernelIdeal.Hand
-- ==== Proof.Rules.lean ====
module

public import proofs.«01_k».proof.Proof.Unit
public import proofs.«01_k».proof.Proof.Gen.KernelIdeal.Launch
public import Idealize.ShloMosaic.Lib.Pipeline.Routed
public import Idealize.ShloMosaic.Lib.Transfers
public import Idealize.ShloMosaic.Lib.Ring
public import Idealize.ShloMosaic.Lib.Tactic

/-! The rules of the short program's steps. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
abbrev MM (F : FTy → Type) := MT nD τ sig Unit (Elt F) ℕ (Pipeline.UC sig nD τ) ℕ

/-- Where the counters of the copies in flight live. -/
abbrev EC : UEmb Counters (MM F) := countersEmb

/-- The program `p` run on core `c` ends in `Q`. -/
abbrev W (c : Dev nD) {α : Type} (p : PR F α) (Q : α → sProp (MM F)) : sProp (MM F) :=
  wp frame (wpE (defs₀ (F := F)) Variants.none (c : Thread nD τ) none) Set.univ p Q

variable {c : Dev nD} {α β : Type}

theorem seq {x : PR F α} {f : α → PR F β} {P : sProp (MM F)} {R : α → sProp (MM F)} {Q : β → sProp (MM F)}
    (h : P ⊢ W c x R) (k : ∀ a, R a ⊢ W c (f a) Q) : P ⊢ W c (x >>= f) Q := by
  unfold W; rw [wp_bind]
  exact h.trans (wp_mono _ _ _ k)

theorem seqF {x : PR F α} {f : α → PR F β} {P Fr : sProp (MM F)} {R : α → sProp (MM F)} {Q : β → sProp (MM F)}
    (h : P ⊢ W c x R) (k : ∀ a, iprop(R a ∗ Fr) ⊢ W c (f a) Q) : iprop(P ∗ Fr) ⊢ W c (x >>= f) Q := by
  refine seq (R := fun a => iprop(R a ∗ Fr)) ?_ k
  exact (sep_mono h .rfl).trans (wp_frame_r _ _ _)

theorem frameR {x : PR F α} {P Fr : sProp (MM F)} {R : α → sProp (MM F)} (h : P ⊢ W c x R) :
    iprop(P ∗ Fr) ⊢ W c x (fun a => iprop(R a ∗ Fr)) :=
  (sep_mono h .rfl).trans (wp_frame_r _ _ _)

theorem conseq {x : PR F α} {P : sProp (MM F)} {R Q : α → sProp (MM F)} (h : P ⊢ W c x R) (k : ∀ a, R a ⊢ Q a) : P ⊢ W c x Q :=
  h.trans (wp_mono _ _ _ k)

theorem ret {a : α} {P : sProp (MM F)} {Q : α → sProp (MM F)} (h : P ⊢ Q a) : P ⊢ W c (pure a : PR F α) Q := by
  show P ⊢ wp _ _ _ (.ret a) Q
  rw [wp_ret]
  refine h.trans ?_
  iintro H; imodintro; iexact H

theorem useT {x : PR F α} {P : sProp (MM F)} {R Q : α → sProp (MM F)} (h : P ⊢ W c x R) :
    P ⊢ iprop((∀ a, R a -∗ Q a) -∗ W c x Q) := by
  exact h.trans (wp_wand (Fr := frame) (wpE := wpE (defs₀ (F := F)) Variants.none (c : Thread nD τ) none) (E := Set.univ))

theorem useB {x : PR F α} {f : α → PR F β} {P : sProp (MM F)} {R : α → sProp (MM F)} {Q : β → sProp (MM F)}
    (h : P ⊢ W c x R) : P ⊢ iprop((∀ a, R a -∗ W c (f a) Q) -∗ W c (x >>= f) Q) := by
  unfold W; rw [wp_bind]
  exact useT h

/-- A load through a rectangle. -/
theorem spec_load {cs : CoreSpace} {s : Shape} {e : EltTy} {m : Memref sig .tc cs s e} {r : Rect s} {hl : m.view.LoadsAt r.toLoadRect}
    {S : Finset (Idx ((m.access r).loc (c : Thread nD τ)))} {f : Buf (Elt F) ((m.access r).loc (c : Thread nD τ))}
    (hS : (m.access r).set ⊆ S) :
    ((m.access r).loc (c : Thread nD τ) ↦[S]{fullShare} f : sProp (MM F))
      ⊢ W c (Prog.lift (.load m r.toLoadRect hl)) (fun v => iprop(⌜v = (m.access r).read (Elt F) f⌝
          ∗ ((m.access r).loc (c : Thread nD τ) ↦[S]{fullShare} f))) := by
  iintro H
  iapply (wp_load_rect Variants.none (c : Thread nD τ) none Set.univ hS) $$ H
  iintro H
  rw [wp_ret]; imodintro
  isplitr
  · ipureintro; rfl
  iexact H

/-- A store through a rectangle of a buffer held whole. -/
theorem spec_store {cs : CoreSpace} {s : Shape} {e : EltTy} {m : Memref sig .tc cs s e} {r : Rect s} {w : r.shape.Idx → Elt F e}
    {hx : (m.access r).Stores Finset.univ} {hm}
    {f : Buf (Elt F) ((m.access r).loc (c : Thread nD τ))} :
    ((m.access r).loc (c : Thread nD τ) ↦{fullShare} f : sProp (MM F))
      ⊢ W c (Prog.lift (.store m r w Finset.univ hx hm)) (fun _ =>
          ((m.access r).loc (c : Thread nD τ) ↦{fullShare} (m.access r).write (Elt F) f w Finset.univ)) := by
  iintro H
  iapply (wp_store Variants.none (c : Thread nD τ) none Set.univ (Finset.subset_univ _)) $$ H
  iintro H
  rw [wp_ret]; imodintro
  iexact H

/-- A word of scalar memory. -/
theorem spec_word {s : Shape} {e : EltTy} {m : Memref sig .tc .smem s e} {r : Rect s} {h1 : r.shape.numel = 1} {hp : e.packing = 1}
    {f : Buf (Elt F) ((m.access r).loc (c : Thread nD τ))} :
    ((m.access r).loc (c : Thread nD τ) ↦{fullShare} f : sProp (MM F))
      ⊢ W c (smemLoad m r h1 hp) (fun v => iprop(⌜v = (m.access r).read (Elt F) f (Shape.Idx.first (h1.symm ▸ Nat.one_pos))⌝
          ∗ ((m.access r).loc (c : Thread nD τ) ↦{fullShare} f))) := by
  iintro H
  unfold smemLoad
  iapply (wp_smemLoadElt Variants.none (c : Thread nD τ) none Set.univ (Finset.subset_univ _)) $$ H
  iintro H
  rw [wp_ret]; imodintro
  isplitr
  · ipureintro; rfl
  iexact H

/-- The core's waits, whichever they were. -/
def Ow (c : Dev nD) : sProp (MM F) := iprop(∃ W', owes (c : Thread nD τ) 0 W')

/-- A copy from `src` at `fs` in flight to `dst`, which will hold `G`. -/
def Fly (c : Dev nD) {sp sp' : Space} {s : Shape} {e : EltTy} (src : Memref sig .tc sp s e) (dst : Memref sig .tc sp' s e) (sm : DmaSem sig)
    (fs : Buf (Elt F) (src.view.loc (c : Thread nD τ))) (G : Buf (Elt F) (dst.view.loc (c : Thread nD τ))) : sProp (MM F) :=
  Transfers.Flight EC (c : Thread nD τ) (.dma sm) () (dst.view.dmaCredit)
    iprop((dst.view.loc (c : Thread nD τ) ↦[dst.view.set]{fullShare} G) ∗ (src.view.loc (c : Thread nD τ) ↦[src.view.set]{fullShare} fs))

/-- The two ends and the cell of a copy before it starts. -/
def Ends0 (c : Dev nD) {sp sp' : Space} {s : Shape} {e : EltTy} (src : Memref sig .tc sp s e) (dst : Memref sig .tc sp' s e) (sm : DmaSem sig)
    (fs : Buf (Elt F) (src.view.loc (c : Thread nD τ))) : sProp (MM F) :=
  iprop((src.view.loc (c : Thread nD τ) ↦[src.view.set]{fullShare} fs)
    ∗ (∃ fd : Buf (Elt F) (dst.view.loc (c : Thread nD τ)), dst.view.loc (c : Thread nD τ) ↦[dst.view.set]{fullShare} fd)
    ∗ semVal ((c : Thread nD τ), SemLoc.dma sm) 0)

/-- The same after it landed. -/
def Ends1 (c : Dev nD) {sp sp' : Space} {s : Shape} {e : EltTy} (src : Memref sig .tc sp s e) (dst : Memref sig .tc sp' s e) (sm : DmaSem sig)
    (fs : Buf (Elt F) (src.view.loc (c : Thread nD τ))) (G : Buf (Elt F) (dst.view.loc (c : Thread nD τ))) : sProp (MM F) :=
  iprop((src.view.loc (c : Thread nD τ) ↦[src.view.set]{fullShare} fs)
    ∗ (dst.view.loc (c : Thread nD τ) ↦[dst.view.set]{fullShare} G)
    ∗ semVal ((c : Thread nD τ), SemLoc.dma sm) 0)

theorem spec_start {sp sp' : Space} {s : Shape} {e : EltTy} {src : Memref sig .tc sp s e} {dst : Memref sig .tc sp' s e} {sm : DmaSem sig}
    {hs hd ht} {fs : Buf (Elt F) (src.view.loc (c : Thread nD τ))} (G : Buf (Elt F) (dst.view.loc (c : Thread nD τ)))
    (hG : dst.view.read (Elt F) G = src.view.read (Elt F) fs) (hN : 0 < dst.view.dmaCredit) :
    (Ends0 c src dst sm fs : sProp (MM F))
      ⊢ W c (Prog.lift (.enqueueDma src (.here dst) (.dma sm) hs hd ht)) (fun _ => Fly c src dst sm fs G) := by
  unfold Ends0
  iintro ⟨Hs, ⟨%fd, Hd⟩, Hv⟩
  iapply (Transfers.wp_dmaLocal EC Variants.none (c : Thread nD τ) none () (dst.view.dmaCredit) rfl hN (Finset.Subset.refl _)) $$ [Hs Hd Hv]
  · isplitl [Hs]; · iexact Hs
    isplitl [Hd]; · iexact Hd
    iexact Hv
  iintro H
  rw [wp_ret]; imodintro
  unfold Fly
  have e1 : ∀ i ∈ dst.view.set, dst.view.write (Elt F) fd (ReadAs.same.apply (src.view.read (Elt F) fs)) Finset.univ i = G i := by
    intro i hi
    show dst.view.write (Elt F) fd (src.view.read (Elt F) fs) Finset.univ i = G i
    rw [← hG, View.write_read_eq_piecewise]
    exact Finset.piecewise_eq_of_mem _ _ _ hi
  rw [pointsTo_congr e1]
  iexact H

theorem spec_wait {sp sp' : Space} {s : Shape} {e : EltTy} {src : Memref sig .tc sp s e} {dst : Memref sig .tc sp' s e} {sm : DmaSem sig}
    {hs hd} {fs : Buf (Elt F) (src.view.loc (c : Thread nD τ))} {G : Buf (Elt F) (dst.view.loc (c : Thread nD τ))} :
    iprop(Fly c src dst sm fs G ∗ Ow c : sProp (MM F))
      ⊢ W c (Prog.lift (.waitDma2 sm src dst hs hd)) (fun _ => iprop(Ends1 c src dst sm fs G ∗ Ow c)) := by
  unfold Fly Ends1 Ow
  iintro ⟨H, ⟨%W', Ho⟩⟩
  iapply (Transfers.wp_waitLocal EC Variants.none (c : Thread nD τ) none () rfl) $$ [H Ho]
  · isplitl [H]; · iexact H
    iexact Ho
  iintro ⟨⟨Hd, Hs⟩, Hv, Ho⟩
  rw [wp_ret]; imodintro
  isplitr [Ho]
  · isplitl [Hs]; · iexact Hs
    isplitl [Hd]; · iexact Hd
    iexact Hv
  iexists _; iexact Ho

/-! ## Lists -/

/-- One resource per entry of a list. -/
def bigL {ι : Type} (Φ : ι → sProp (MM F)) : List ι → sProp (MM F)
  | [] => iprop(emp)
  | a :: l => iprop(Φ a ∗ bigL Φ l)

theorem spec_each {ι : Type} {f : ι → PR F PUnit} {Φ Ψ : ι → sProp (MM F)} {Fr : sProp (MM F)}
    (h : ∀ a, iprop(Φ a ∗ Fr) ⊢ W c (f a) (fun _ => iprop(Ψ a ∗ Fr))) :
    ∀ l, iprop(bigL Φ l ∗ Fr) ⊢ W c (each f l) (fun _ => iprop(bigL Ψ l ∗ Fr))
  | [] => ret .rfl
  | a :: l => by
    have e1 : iprop((Φ a ∗ bigL Φ l) ∗ Fr) ⊢ iprop((Φ a ∗ Fr) ∗ bigL Φ l) := by
      iintro ⟨⟨H1, H2⟩, H3⟩
      isplitr [H2]
      · isplitl [H1] <;> iassumption
      iexact H2
    have e2 : iprop((Ψ a ∗ Fr) ∗ bigL Φ l) ⊢ iprop((bigL Φ l ∗ Fr) ∗ Ψ a) := by
      iintro ⟨⟨H1, H2⟩, H3⟩
      isplitr [H1]
      · isplitl [H3] <;> iassumption
      iexact H1
    have e3 : iprop((bigL Ψ l ∗ Fr) ∗ Ψ a) ⊢ iprop((Ψ a ∗ bigL Ψ l) ∗ Fr) := by
      iintro ⟨⟨H1, H2⟩, H3⟩
      isplitr [H2]
      · isplitl [H3] <;> iassumption
      iexact H2
    exact e1.trans (seqF (h a) fun _ => e2.trans (conseq (frameR (spec_each h l)) fun _ => e3))

/-- A list run with an invariant that names what is left. -/
theorem spec_inv {ι : Type} {f : ι → PR F PUnit} (I : List ι → sProp (MM F))
    (h : ∀ a l, I (a :: l) ⊢ W c (f a) (fun _ => I l)) : ∀ l, I l ⊢ W c (each f l) (fun _ => I [])
  | [] => ret .rfl
  | a :: l => seq (h a l) fun _ => spec_inv I h l

end Cert.KernelIdeal.Hand
-- ==== Proof.Stream.lean ====
module

public import proofs.«01_k».proof.Proof.Rules

/-! The tiles, the accumulations and the streams of them, run. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the buffers of the down projection hold once everything landed. -/
structure Env (F : FTy → Type) where
  ws : S24x64.Idx → Elt F .f32
  wa : S16x512x2048.Idx → Elt F .fp8e4m3
  wb : S16x512x1024.Idx → Elt F .fp8e4m3
  hp : S16x256x512.Idx → Elt F .bf16

abbrev rA (g : Fin 16) (kk : Fin 2) (t : Fin 8) : Rect S16x512x2048 :=
  Rect.unit (s := S16x512x2048) ![g.1, kk.1 * 256, t.1 * 256] S1x256x256.size (inbAl g kk t)
abbrev rB (g : Fin 16) (kk : Fin 2) (t : Fin 4) : Rect S16x512x1024 :=
  Rect.unit (s := S16x512x1024) ![g.1, kk.1 * 256, t.1 * 256] S1x256x256.size (inbBl g kk t)
abbrev rHPl (g : Fin 16) (kk : Fin 2) : Rect S16x256x512 :=
  Rect.unit (s := S16x256x512) ![g.1, 0, kk.1 * 256] S1x256x256.size (inbHPl g kk)
abbrev rSc (r : Fin 24) (k : Fin 64) : Rect S24x64 := Rect.unit (s := S24x64) ![r.1, k.1] S1x1.size (inbSc r k)

variable (e : Env F)

def codesG (t : Fin 12) (g : Fin 16) (kk : Fin 2) : Vec F S1x256x256 .fp8e4m3 :=
  if h : t.1 < 8 then (vWA.access (rA g kk ⟨t.1, h⟩)).read (Elt F) e.wa
  else (vWB.access (rB g kk ⟨t.1 - 8, by omega⟩)).read (Elt F) e.wb

def scaleG (r : Fin 24) (k : Fin 64) : Elt F .f32 :=
  (sWS.access (rSc r k)).read (Elt F) e.ws (Shape.Idx.first (numel1_S1x1.symm ▸ Nat.one_pos))

/-- A tile of the scaled weights. -/
def tileG (t : Fin 12) (g : Fin 16) (kk : Fin 2) : FVec F S256x256 .bf16 :=
  tileV (codesG e t g kk)
    (scaleG e ⟨t.1 * 2, by omega⟩ ⟨(g.1 * 2 + kk.1) * 2, by omega⟩)
    (scaleG e ⟨t.1 * 2 + 1, by omega⟩ ⟨(g.1 * 2 + kk.1) * 2, by omega⟩)
    (scaleG e ⟨t.1 * 2, by omega⟩ ⟨(g.1 * 2 + kk.1) * 2 + 1, by omega⟩)
    (scaleG e ⟨t.1 * 2 + 1, by omega⟩ ⟨(g.1 * 2 + kk.1) * 2 + 1, by omega⟩)

/-- A tile of the scaled activations. -/
def lhsG (g : Fin 16) (kk : Fin 2) : FVec F S256x256 .bf16 := lhsV ((vHP.access (rHPl g kk)).read (Elt F) e.hp)

def tcol (T : Fin 6) (q : Fin 2) : Fin 12 := ⟨T.1 * 2 + q.1, by omega⟩
def tileU (u : Un) (q : Fin 2) : FVec F S256x256 .bf16 := tileG e (tcol u.T q) u.g u.kk
def passU (u : Un) (q : Fin 2) : FVec F S256x256 .f32 := passV (lhsG e u.g u.kk) (tileU e u q)

/-- The registers between two accumulations. -/
def RR (r : Fin 2) (o : Option Un) : Regs F := fun q r' => if r' = r then o.map (fun u => tileU e u q) else none

/-- The accumulators after one more. -/
def addU (D : Acc F) (u : Un) : Acc F := fun q a => if a = slot u.T then some (dep (D q a) (passU e u q)) else D q a

def addL (D : Acc F) : List (Un × Un) → Acc F
  | [] => D
  | (a, b) :: l => addL (addU e (addU e D a) b) l

def firstU : List (Un × Un) → Option Un → Option Un
  | [], o => o
  | (a, _) :: _, _ => some a

/-! ## What is held -/

/-- The chunks below `n` of a buffer of chunks. -/
def lowHP (n : Nat) : Finset (S16x256x512.Idx) := Finset.univ.filter fun i => (i 0).val < n
def lowA (n : Nat) : Finset (S16x512x2048.Idx) := Finset.univ.filter fun i => (i 0).val < n
def lowB (n : Nat) : Finset (S16x512x1024.Idx) := Finset.univ.filter fun i => (i 0).val < n

variable (c : Dev nD)

def Res (n nb : Nat) : sProp (MM F) :=
  iprop(∃ f : Buf (Elt F) (vHP.view.loc (c : Thread nD τ)), ⌜∀ i ∈ lowHP n, f i = e.hp i⌝
    ∗ (vHP.view.loc (c : Thread nD τ) ↦{fullShare} f)
    ∗ (vWA.view.loc (c : Thread nD τ) ↦[lowA n]{fullShare} e.wa)
    ∗ (vWB.view.loc (c : Thread nD τ) ↦[lowB nb]{fullShare} e.wb)
    ∗ (sWS.view.loc (c : Thread nD τ) ↦{fullShare} e.ws))

theorem set_accA (r : Rect S16x512x2048) : (vWA.access r).set = r.set := View.set_slice_whole (sig := sig) cc0_scratch4 r
theorem set_accB (r : Rect S16x512x1024) : (vWB.access r).set = r.set := View.set_slice_whole (sig := sig) cc0_scratch5 r
theorem set_accHP (r : Rect S16x256x512) : (vHP.access r).set = r.set := View.set_slice_whole (sig := sig) cc0_scratch3 r

theorem sub_lowA {n : Nat} {g : Fin 16} {kk : Fin 2} {t : Fin 8} (h : g.1 < n) : (vWA.access (rA g kk t)).set ⊆ lowA n := by
  rw [set_accA]
  intro i hi
  have h3 := (Rect.mem_set_unit.mp hi 0).2
  refine Finset.mem_filter.mpr ⟨Finset.mem_univ _, ?_⟩
  change (i 0).val < g.1 + 1 at h3
  omega
theorem sub_lowB {n : Nat} {g : Fin 16} {kk : Fin 2} {t : Fin 4} (h : g.1 < n) : (vWB.access (rB g kk t)).set ⊆ lowB n := by
  rw [set_accB]
  intro i hi
  have h3 := (Rect.mem_set_unit.mp hi 0).2
  refine Finset.mem_filter.mpr ⟨Finset.mem_univ _, ?_⟩
  change (i 0).val < g.1 + 1 at h3
  omega
theorem sub_lowHP {n : Nat} {g : Fin 16} {kk : Fin 2} (h : g.1 < n) : (vHP.access (rHPl g kk)).set ⊆ lowHP n := by
  rw [set_accHP]
  intro i hi
  have h3 := (Rect.mem_set_unit.mp hi 0).2
  refine Finset.mem_filter.mpr ⟨Finset.mem_univ _, ?_⟩
  change (i 0).val < g.1 + 1 at h3
  omega

variable {e c}

theorem spec_scaleAt (n nb : Nat) (r : Fin 24) (k : Fin 64) :
    Res e c n nb ⊢ W c (scaleAt r k) (fun v => iprop(⌜v = scaleG e r k⌝ ∗ Res e c n nb)) := by
  unfold Res
  iintro ⟨%f, %hf, H1, H2, H3, H4⟩
  have h := spec_word (c := c) (m := sWS) (r := rSc r k) (h1 := numel1_S1x1) (hp := rfl) (f := e.ws)
  iapply (useT h) $$ H4
  iintro %v ⟨%hv, H4⟩
  isplitr; · ipureintro; exact hv
  iexists f
  isplitr; · ipureintro; exact hf
  isplitl [H1]; · iexact H1
  isplitl [H2]; · iexact H2
  isplitl [H3]; · iexact H3
  iexact H4

theorem spec_codesAt {n nb : Nat} (t : Fin 12) (g : Fin 16) (kk : Fin 2) (hn : g.1 < n) (hb : 8 ≤ t.1 → g.1 < nb) :
    Res e c n nb ⊢ W c (codesAt t g kk) (fun v => iprop(⌜v = codesG e t g kk⌝ ∗ Res e c n nb)) := by
  unfold Res codesAt codesG
  by_cases ht : t.1 < 8
  · rw [dif_pos ht, dif_pos ht]
    iintro ⟨%f, %hf, H1, H2, H3, H4⟩
    have h := spec_load (c := c) (m := vWA) (r := rA g kk ⟨t.1, ht⟩) (hl := View.loadsAt_vmem h_S1x256x256) (f := e.wa)
      (sub_lowA (n := n) hn)
    iapply (useT h) $$ H2
    iintro %v ⟨%hv, H2⟩
    isplitr; · ipureintro; exact hv
    iexists f
    isplitr; · ipureintro; exact hf
    isplitl [H1]; · iexact H1
    isplitl [H2]; · iexact H2
    isplitl [H3]; · iexact H3
    iexact H4
  · rw [dif_neg ht, dif_neg ht]
    iintro ⟨%f, %hf, H1, H2, H3, H4⟩
    have h := spec_load (c := c) (m := vWB) (r := rB g kk ⟨t.1 - 8, by omega⟩) (hl := View.loadsAt_vmem h_S1x256x256) (f := e.wb)
      (sub_lowB (n := nb) (hb (by omega)))
    iapply (useT h) $$ H3
    iintro %v ⟨%hv, H3⟩
    isplitr; · ipureintro; exact hv
    iexists f
    isplitr; · ipureintro; exact hf
    isplitl [H1]; · iexact H1
    isplitl [H2]; · iexact H2
    isplitl [H3]; · iexact H3
    iexact H4

theorem spec_ldHP {n nb : Nat} (g : Fin 16) (kk : Fin 2) (hn : g.1 < n) :
    Res e c n nb ⊢ W c (ldHP g kk) (fun v => iprop(⌜lhsV v = lhsG e g kk⌝ ∗ Res e c n nb)) := by
  unfold Res ldHP lhsG
  iintro ⟨%f, %hf, H1, H2, H3, H4⟩
  have h := spec_load (c := c) (m := vHP) (r := rHPl g kk) (hl := View.loadsAt_vmem h_S1x256x256) (f := f) (Finset.subset_univ _)
  iapply (useT h) $$ H1
  iintro %v ⟨%hv, H1⟩
  isplitr
  · ipureintro
    rw [hv]
    exact congrArg lhsV (View.read_congr (Val := Elt F) (v := vHP.access (rHPl g kk)) fun i hi => hf i (sub_lowHP hn hi))
  iexists f
  isplitr; · ipureintro; exact hf
  isplitl [H1]; · iexact H1
  isplitl [H2]; · iexact H2
  isplitl [H3]; · iexact H3
  iexact H4

theorem spec_tileP {n nb : Nat} (t : Fin 12) (g : Fin 16) (kk : Fin 2) (hn : g.1 < n) (hb : 8 ≤ t.1 → g.1 < nb) :
    Res e c n nb ⊢ W c (tileP t g kk) (fun v => iprop(⌜v = tileG e t g kk⌝ ∗ Res e c n nb)) := by
  unfold tileP
  iintro H
  iapply (useB (spec_codesAt t g kk hn hb)) $$ H
  iintro %v ⟨%h1, H⟩
  iapply (useB (spec_scaleAt n nb _ _)) $$ H
  iintro %s00 ⟨%h2, H⟩
  iapply (useB (spec_scaleAt n nb _ _)) $$ H
  iintro %s01 ⟨%h3, H⟩
  iapply (useB (spec_scaleAt n nb _ _)) $$ H
  iintro %s10 ⟨%h4, H⟩
  iapply (useB (spec_scaleAt n nb _ _)) $$ H
  iintro %s11 ⟨%h5, H⟩
  have hr : Res e c n nb ⊢ W c (pure (tileV v s00 s01 s10 s11)) (fun v => iprop(⌜v = tileG e t g kk⌝ ∗ Res e c n nb)) := by
    refine ret ?_
    iintro H
    isplitr
    · ipureintro; rw [h1, h2, h3, h4, h5]; rfl
    iexact H
  iapply hr $$ H

variable {m : Mxu F} {D : Acc F} {R : Regs F}

theorem spec_push {P : sProp (MM F)} (h : Rep m D R) (q r : Fin 2) (hn : R q r = none) (v : FVec F S256x256 .bf16) :
    P ⊢ W c (m.pushRhs q r false (φ := .bf16) v) (fun m' => iprop(⌜Rep m' D (setR R q r (some v))⌝ ∗ P)) := by
  have e1 : P ⊢ W c (.ret (m.pushed q r false (φ := .bf16) v) : PR F (Mxu F)) (fun m' => iprop(⌜Rep m' D (setR R q r (some v))⌝ ∗ P)) := by
    refine ret ?_
    iintro H
    isplitr
    · ipureintro; exact h.push hn v
    iexact H
  exact e1.trans (wp_assume (defs := defs₀ (F := F)) (k := fun _ => .ret _) Variants.none (c : Thread nD τ) none Set.univ (h.pushOk q r))

/-- What a unit needs landed. -/
def Un.ok (u : Un) (n nb : Nat) : Prop := u.g.1 < n ∧ (4 ≤ u.T.1 → u.g.1 < nb)

theorem setR_RR (u : Un) (r : Fin 2) {R : Regs F} (hR : ∀ q r, R q r = none) :
    setR (setR R 0 r (some (tileU e u 0))) 1 r (some (tileU e u 1)) = RR e r (some u) := by
  funext q r'
  unfold setR RR
  rcases (show q = 0 ∨ q = 1 by omega) with rfl | rfl <;> by_cases h : r' = r <;> simp [h, hR]

theorem spec_pushU {n nb : Nat} (u : Un) (r : Fin 2) (hu : u.ok n nb) (h : Rep m D R) (hR : ∀ q r, R q r = none) :
    Res e c n nb ⊢ W c (pushU u r m) (fun m' => iprop(⌜Rep m' D (RR e r (some u))⌝ ∗ Res e c n nb)) := by
  unfold pushU
  iintro H
  iapply (useB (spec_tileP _ u.g u.kk hu.1 (fun h => hu.2 (by dsimp only at h; omega)))) $$ H
  iintro %v ⟨%h1, H⟩
  iapply (useB (spec_push h 0 r (hR 0 r) v)) $$ H
  iintro %m1 ⟨%h2, H⟩
  iapply (useB (spec_tileP _ u.g u.kk hu.1 (fun h => hu.2 (by dsimp only at h; omega)))) $$ H
  iintro %v2 ⟨%h3, H⟩
  iapply (useT (spec_push h2 1 r (by simp [setR, hR]) v2)) $$ H
  iintro %m2 ⟨%h4, H⟩
  isplitr
  · ipureintro
    have := setR_RR (e := e) u r hR
    rw [h1, h3] at h4
    rw [← this]; exact h4
  iexact H

theorem addU_eq (D : Acc F) (u : Un) :
    setD (setD D 0 (slot u.T) (some (dep (D 0 (slot u.T)) (passU e u 0)))) 1 (slot u.T) (some (dep (D 1 (slot u.T)) (passU e u 1))) = addU e D u := by
  funext q a
  unfold setD addU
  rcases (show q = 0 ∨ q = 1 by omega) with rfl | rfl <;> by_cases h : a = slot u.T <;> simp [h]

theorem spec_stepU {n nb : Nat} (u : Un) (r r' : Fin 2) (nx : Option Un) (hu : u.ok n nb) (hx : ∀ x, nx = some x → x.ok n nb)
    (h : Rep m D (RR e r (some u))) :
    Res e c n nb ⊢ W c (stepU u r r' nx m) (fun m' => iprop(⌜Rep m' (addU e D u) (RR e r' nx)⌝ ∗ Res e c n nb)) := by
  unfold stepU
  iintro H
  iapply (useB (spec_ldHP u.g u.kk hu.1)) $$ H
  iintro %v ⟨%hv, H⟩
  have h1 := h.accum (q := 0) (r := r) (slot u.T) (t := tileU e u 0) (by simp [RR]) (lhsV v)
  have h2 := h1.accum (q := 1) (r := r) (slot u.T) (t := tileU e u 1) (by simp [RR, setR]) (lhsV v)
  have e0 : setD D 0 (slot u.T) (some (dep (D 0 (slot u.T)) (passV (lhsV v) (tileU e u 0)))) 1 (slot u.T) = D 1 (slot u.T) := by simp [setD]
  rw [e0, hv] at h2
  have ea := addU_eq (e := e) D u
  simp only [passU] at ea
  rw [ea] at h2
  have hR : ∀ q r'', setR (setR (RR e r (some u)) 0 r none) 1 r none q r'' = none := by
    intro q r''
    unfold setR RR
    rcases (show q = 0 ∨ q = 1 by omega) with rfl | rfl <;> by_cases h : r'' = r <;> simp [h]
  cases nx with
  | none =>
    have hr : Res e c n nb ⊢ W c (pure ((m.accLhs 0 r (addr u.T) (lhsV v) (fitsAddr u.T)).accLhs 1 r (addr u.T) (lhsV v) (fitsAddr u.T)))
        (fun m' => iprop(⌜Rep m' (addU e D u) (RR e r' none)⌝ ∗ Res e c n nb)) := by
      refine ret ?_
      iintro H
      isplitr
      · ipureintro
        have : RR e r' none = setR (setR (RR e r (some u)) 0 r none) 1 r none := by
          funext q r''; rw [hR]; simp [RR]
        rw [this, hv]; exact h2
      iexact H
    iapply hr $$ H
  | some x =>
    rw [← hv] at h2
    iapply (spec_pushU x r' (hx x rfl) h2 hR) $$ H

theorem spec_streamP {n nb : Nat} (nx : Option Un) (hx : ∀ x, nx = some x → x.ok n nb) :
    ∀ (l : List (Un × Un)) {m : Mxu F} {D : Acc F}, (∀ p ∈ l, p.1.ok n nb ∧ p.2.ok n nb) → Rep m D (RR e 0 (firstU l nx)) →
      (Res e c n nb ⊢ W c (streamP l nx m) (fun m' => iprop(⌜Rep m' (addL e D l) (RR e 0 nx)⌝ ∗ Res e c n nb)))
  | [], m, D, hl, h => by
    refine ret ?_
    iintro H
    isplitr
    · ipureintro; exact h
    iexact H
  | [(a, b)], m, D, hl, h => by
    have hab := hl (a, b) (by simp)
    show _ ⊢ W c (stepU a 0 1 (some b) m >>= fun m => stepU b 1 0 nx m) _
    iintro H
    iapply (useB (spec_stepU a 0 1 (some b) hab.1 (fun x hx => by cases hx; exact hab.2) h)) $$ H
    iintro %m1 ⟨%h1, H⟩
    iapply (spec_stepU b 1 0 nx hab.2 hx h1) $$ H
  | (a, b) :: (a', b') :: l, m, D, hl, h => by
    have hab := hl (a, b) (by simp)
    have hab' := hl (a', b') (by simp)
    show _ ⊢ W c (stepU a 0 1 (some b) m >>= fun m => stepU b 1 0 (some a') m >>= fun m => streamP ((a', b') :: l) nx m) _
    iintro H
    iapply (useB (spec_stepU a 0 1 (some b) hab.1 (fun x hx => by cases hx; exact hab.2) h)) $$ H
    iintro %m1 ⟨%h1, H⟩
    iapply (useB (spec_stepU b 1 0 (some a') hab.2 (fun x hx => by cases hx; exact hab'.1) h1)) $$ H
    iintro %m2 ⟨%h2, H⟩
    iapply (spec_streamP nx hx ((a', b') :: l) (fun p hp => hl p (List.mem_cons_of_mem _ hp)) h2) $$ H

end Cert.KernelIdeal.Hand
-- ==== Proof.Copies.lean ====
module

public import proofs.«01_k».proof.Proof.Stream
public import Idealize.ShloMosaic.Lib.ValueLayout
public import Idealize.ShloMosaic.Lib.Pipeline.Value

/-! The copies of the kernel: what each lands and where. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the operands of the kernel hold. -/
structure Inp (F : FTy → Type) where
  h : S256x8192.Idx → Elt F .fp8e4m3
  hs : S2x64x128.Idx → Elt F .f32
  wd : S8192x3072.Idx → Elt F .fp8e4m3
  ws : S24x64.Idx → Elt F .f32
  res : S256x3072.Idx → Elt F .bf16
  nw : S24x128.Idx → Elt F .f32
  wq : S3072x4608.Idx → Elt F .fp8e4m3
  qs : S24x36.Idx → Elt F .f32
  pos : S2x128.Idx → Elt F .i32
  fr : S48x128.Idx → Elt F .f32

/-- The place `b` of the block `a`. -/
def cat {m n N : Nat} (h : m * n = N) (a : Fin m) (b : Fin n) : Fin N :=
  ⟨a.1 * n + b.1, by
    have h1 := a.2; have h2 := b.2
    have h3 : (a.1 + 1) * n ≤ m * n := Nat.mul_le_mul_right _ h1
    have h4 : (a.1 + 1) * n = a.1 * n + n := Nat.succ_mul _ _
    omega⟩

variable (I : Inp F)

def hB : S16x256x512.Idx → Elt F .fp8e4m3 := fun i =>
  I.h (ix2 (show Fin 256 from i 1) (cat (m := 16) (n := 512) (N := 8192) rfl (i 0) (i 2)))
def waB : S16x512x2048.Idx → Elt F .fp8e4m3 := fun i =>
  I.wd (ix2 (cat (m := 16) (n := 512) (N := 8192) rfl (i 0) (i 1)) (⟨(i 2).val, Nat.lt_of_lt_of_le (i 2).isLt (by decide)⟩ : Fin 3072))
def wbB : S16x512x1024.Idx → Elt F .fp8e4m3 := fun i =>
  I.wd (ix2 (cat (m := 16) (n := 512) (N := 8192) rfl (i 0) (i 1))
    (⟨2048 + (i 2).val, Nat.add_lt_add_left (show (i 2).val < 1024 from (i 2).isLt) 2048⟩ : Fin 3072))
def wqB : S12x256x4608.Idx → Elt F .fp8e4m3 := fun i =>
  I.wq (ix2 (cat (m := 12) (n := 256) (N := 3072) rfl (i 0) (i 1)) (show Fin 4608 from i 2))

theorem readH (g : Fin 16) : (dstH g).view.read (Elt F) (hB I) = (srcH g).view.read (Elt F) I.h := by
  funext j
  have hj : j = ix2 (n0 := 256) (n1 := 512) (j 0) (j 1) := eq_ix2 (n0 := 256) (n1 := 512) j
  generalize (j 0 : Fin 256) = x at hj
  generalize (j 1 : Fin 512) = y at hj
  subst hj
  unfold dstH
  rw [Memref.read_squeeze_slice (hc := (by decide : S1x256x512.ShapeCasts S256x512))]
  refine (shapeCast_1ab_ab_apply (a := 256) (b := 512) _ _ x y).trans ?_
  show hB I _ = I.h _
  unfold hB
  congr 1
  funext a
  match a with
  | ⟨0, _⟩ => exact Fin.ext (show 0 + 1 * x.1 = 0 + 1 * x.1 by omega)
  | ⟨1, _⟩ => exact Fin.ext (show (g.1 + 1 * 0) * 512 + (0 + 1 * y.1) = g.1 * 512 + 1 * y.1 by omega)

theorem readWA (g : Fin 16) : (dstWA g).view.read (Elt F) (waB I) = (srcWA g).view.read (Elt F) I.wd := by
  funext j
  have hj : j = ix2 (n0 := 512) (n1 := 2048) (j 0) (j 1) := eq_ix2 (n0 := 512) (n1 := 2048) j
  generalize (j 0 : Fin 512) = x at hj
  generalize (j 1 : Fin 2048) = y at hj
  subst hj
  unfold dstWA
  rw [Memref.read_squeeze_slice (hc := (by decide : S1x512x2048.ShapeCasts S512x2048))]
  refine (shapeCast_1ab_ab_apply (a := 512) (b := 2048) _ _ x y).trans ?_
  show waB I _ = I.wd _
  unfold waB
  congr 1
  funext a
  match a with
  | ⟨0, _⟩ => exact Fin.ext (show (g.1 + 1 * 0) * 512 + (0 + 1 * x.1) = g.1 * 512 + 1 * x.1 by omega)
  | ⟨1, _⟩ => exact Fin.ext (show 0 + 1 * y.1 = 0 + 1 * y.1 by omega)

theorem readWB (g : Fin 16) : (dstWB g).view.read (Elt F) (wbB I) = (srcWB g).view.read (Elt F) I.wd := by
  funext j
  have hj : j = ix2 (n0 := 512) (n1 := 1024) (j 0) (j 1) := eq_ix2 (n0 := 512) (n1 := 1024) j
  generalize (j 0 : Fin 512) = x at hj
  generalize (j 1 : Fin 1024) = y at hj
  subst hj
  unfold dstWB
  rw [Memref.read_squeeze_slice (hc := (by decide : S1x512x1024.ShapeCasts S512x1024))]
  refine (shapeCast_1ab_ab_apply (a := 512) (b := 1024) _ _ x y).trans ?_
  show wbB I _ = I.wd _
  unfold wbB
  congr 1
  funext a
  match a with
  | ⟨0, _⟩ => exact Fin.ext (show (g.1 + 1 * 0) * 512 + (0 + 1 * x.1) = g.1 * 512 + 1 * x.1 by omega)
  | ⟨1, _⟩ => exact Fin.ext (show 2048 + (0 + 1 * y.1) = 2048 + 1 * y.1 by omega)

theorem readWQ (g : Fin 12) : (dstWQ g).view.read (Elt F) (wqB I) = (srcWQ g).view.read (Elt F) I.wq := by
  funext j
  have hj : j = ix2 (n0 := 256) (n1 := 4608) (j 0) (j 1) := eq_ix2 (n0 := 256) (n1 := 4608) j
  generalize (j 0 : Fin 256) = x at hj
  generalize (j 1 : Fin 4608) = y at hj
  subst hj
  unfold dstWQ
  rw [Memref.read_squeeze_slice (hc := (by decide : S1x256x4608.ShapeCasts S256x4608))]
  refine (shapeCast_1ab_ab_apply (a := 256) (b := 4608) _ _ x y).trans ?_
  show wqB I _ = I.wq _
  unfold wqB
  congr 1
  funext a
  match a with
  | ⟨0, _⟩ => exact Fin.ext (show (g.1 + 1 * 0) * 256 + (0 + 1 * x.1) = g.1 * 256 + 1 * x.1 by omega)
  | ⟨1, _⟩ => exact Fin.ext (show 0 + 1 * y.1 = 0 + 1 * y.1 by omega)

/-! ## The places -/

theorem mem_dstH (g : Fin 16) (i : S16x256x512.Idx) : i ∈ (dstH g).view.set ↔ (i 0).val = g.1 := by
  unfold dstH
  rw [show ((Memref.squeeze _ _ _ : Memref sig .tc _ _ _).view.set) = _ from View.set_reshape _ _]
  rw [show (Memref.view _).set = _ from View.set_slice_whole (sig := sig) cc0_scratch0 _]
  refine Rect.mem_set_unit.trans ⟨fun h => ?_, fun h a => ?_⟩
  · have h0 := h 0
    change g.1 ≤ (i 0).val ∧ (i 0).val < g.1 + 1 at h0
    omega
  · match a with
    | ⟨0, _⟩ => exact (show g.1 ≤ (i 0).val ∧ (i 0).val < g.1 + 1 by omega)
    | ⟨1, _⟩ => exact (show 0 ≤ (i 1).val ∧ (i 1).val < 0 + 256 from ⟨Nat.zero_le _, (Nat.zero_add _).symm ▸ (i 1).isLt⟩)
    | ⟨2, _⟩ => exact (show 0 ≤ (i 2).val ∧ (i 2).val < 0 + 512 from ⟨Nat.zero_le _, (Nat.zero_add _).symm ▸ (i 2).isLt⟩)

theorem mem_dstWA (g : Fin 16) (i : S16x512x2048.Idx) : i ∈ (dstWA g).view.set ↔ (i 0).val = g.1 := by
  unfold dstWA
  rw [show ((Memref.squeeze _ _ _ : Memref sig .tc _ _ _).view.set) = _ from View.set_reshape _ _]
  rw [show (Memref.view _).set = _ from View.set_slice_whole (sig := sig) cc0_scratch4 _]
  refine Rect.mem_set_unit.trans ⟨fun h => ?_, fun h a => ?_⟩
  · have h0 := h 0
    change g.1 ≤ (i 0).val ∧ (i 0).val < g.1 + 1 at h0
    omega
  · match a with
    | ⟨0, _⟩ => exact (show g.1 ≤ (i 0).val ∧ (i 0).val < g.1 + 1 by omega)
    | ⟨1, _⟩ => exact (show 0 ≤ (i 1).val ∧ (i 1).val < 0 + 512 from ⟨Nat.zero_le _, (Nat.zero_add _).symm ▸ (i 1).isLt⟩)
    | ⟨2, _⟩ => exact (show 0 ≤ (i 2).val ∧ (i 2).val < 0 + 2048 from ⟨Nat.zero_le _, (Nat.zero_add _).symm ▸ (i 2).isLt⟩)

theorem mem_dstWB (g : Fin 16) (i : S16x512x1024.Idx) : i ∈ (dstWB g).view.set ↔ (i 0).val = g.1 := by
  unfold dstWB
  rw [show ((Memref.squeeze _ _ _ : Memref sig .tc _ _ _).view.set) = _ from View.set_reshape _ _]
  rw [show (Memref.view _).set = _ from View.set_slice_whole (sig := sig) cc0_scratch5 _]
  refine Rect.mem_set_unit.trans ⟨fun h => ?_, fun h a => ?_⟩
  · have h0 := h 0
    change g.1 ≤ (i 0).val ∧ (i 0).val < g.1 + 1 at h0
    omega
  · match a with
    | ⟨0, _⟩ => exact (show g.1 ≤ (i 0).val ∧ (i 0).val < g.1 + 1 by omega)
    | ⟨1, _⟩ => exact (show 0 ≤ (i 1).val ∧ (i 1).val < 0 + 512 from ⟨Nat.zero_le _, (Nat.zero_add _).symm ▸ (i 1).isLt⟩)
    | ⟨2, _⟩ => exact (show 0 ≤ (i 2).val ∧ (i 2).val < 0 + 1024 from ⟨Nat.zero_le _, (Nat.zero_add _).symm ▸ (i 2).isLt⟩)

theorem mem_dstWQ (g : Fin 12) (i : S12x256x4608.Idx) : i ∈ (dstWQ g).view.set ↔ (i 0).val = g.1 := by
  unfold dstWQ
  rw [show ((Memref.squeeze _ _ _ : Memref sig .tc _ _ _).view.set) = _ from View.set_reshape _ _]
  rw [show (Memref.view _).set = _ from View.set_slice_whole (sig := sig) cc0_scratch9 _]
  refine Rect.mem_set_unit.trans ⟨fun h => ?_, fun h a => ?_⟩
  · have h0 := h 0
    change g.1 ≤ (i 0).val ∧ (i 0).val < g.1 + 1 at h0
    omega
  · match a with
    | ⟨0, _⟩ => exact (show g.1 ≤ (i 0).val ∧ (i 0).val < g.1 + 1 by omega)
    | ⟨1, _⟩ => exact (show 0 ≤ (i 1).val ∧ (i 1).val < 0 + 256 from ⟨Nat.zero_le _, (Nat.zero_add _).symm ▸ (i 1).isLt⟩)
    | ⟨2, _⟩ => exact (show 0 ≤ (i 2).val ∧ (i 2).val < 0 + 4608 from ⟨Nat.zero_le _, (Nat.zero_add _).symm ▸ (i 2).isLt⟩)

theorem mem_srcH (g : Fin 16) (i : S256x8192.Idx) : i ∈ (srcH g).view.set ↔ (i 1).val / 512 = g.1 := by
  unfold srcH
  rw [show (Memref.view _).set = _ from View.set_slice_whole (sig := sig) main_v0 _]
  have b0 := (i 0).isLt
  have b1 := (i 1).isLt
  change (i 0).val < 256 at b0
  change (i 1).val < 8192 at b1
  refine Rect.mem_set_unit.trans ⟨fun h => ?_, fun h a => ?_⟩
  · have h0 := h 0
    have h1 := h 1
    change 0 ≤ (i 0).val ∧ (i 0).val < 0 + 256 at h0
    change g.1 * 512 ≤ (i 1).val ∧ (i 1).val < g.1 * 512 + 512 at h1
    omega
  · match a with
    | ⟨0, _⟩ => exact (show 0 ≤ (i 0).val ∧ (i 0).val < 0 + 256 by omega)
    | ⟨1, _⟩ => exact (show g.1 * 512 ≤ (i 1).val ∧ (i 1).val < g.1 * 512 + 512 by omega)

theorem mem_srcWA (g : Fin 16) (i : S8192x3072.Idx) : i ∈ (srcWA g).view.set ↔ (i 0).val / 512 = g.1 ∧ (i 1).val < 2048 := by
  unfold srcWA
  rw [show (Memref.view _).set = _ from View.set_slice_whole (sig := sig) main_arg2 _]
  have b0 := (i 0).isLt
  have b1 := (i 1).isLt
  change (i 0).val < 8192 at b0
  change (i 1).val < 3072 at b1
  refine Rect.mem_set_unit.trans ⟨fun h => ?_, fun h a => ?_⟩
  · have h0 := h 0
    have h1 := h 1
    change g.1 * 512 ≤ (i 0).val ∧ (i 0).val < g.1 * 512 + 512 at h0
    change 0 ≤ (i 1).val ∧ (i 1).val < 0 + 2048 at h1
    omega
  · match a with
    | ⟨0, _⟩ => exact (show g.1 * 512 ≤ (i 0).val ∧ (i 0).val < g.1 * 512 + 512 by omega)
    | ⟨1, _⟩ => exact (show 0 ≤ (i 1).val ∧ (i 1).val < 0 + 2048 by omega)

theorem mem_srcWB (g : Fin 16) (i : S8192x3072.Idx) : i ∈ (srcWB g).view.set ↔ (i 0).val / 512 = g.1 ∧ 2048 ≤ (i 1).val := by
  unfold srcWB
  rw [show (Memref.view _).set = _ from View.set_slice_whole (sig := sig) main_arg2 _]
  have b0 := (i 0).isLt
  have b1 := (i 1).isLt
  change (i 0).val < 8192 at b0
  change (i 1).val < 3072 at b1
  refine Rect.mem_set_unit.trans ⟨fun h => ?_, fun h a => ?_⟩
  · have h0 := h 0
    have h1 := h 1
    change g.1 * 512 ≤ (i 0).val ∧ (i 0).val < g.1 * 512 + 512 at h0
    change 2048 ≤ (i 1).val ∧ (i 1).val < 2048 + 1024 at h1
    omega
  · match a with
    | ⟨0, _⟩ => exact (show g.1 * 512 ≤ (i 0).val ∧ (i 0).val < g.1 * 512 + 512 by omega)
    | ⟨1, _⟩ => exact (show 2048 ≤ (i 1).val ∧ (i 1).val < 2048 + 1024 by omega)

theorem mem_srcWQ (g : Fin 12) (i : S3072x4608.Idx) : i ∈ (srcWQ g).view.set ↔ (i 0).val / 256 = g.1 := by
  unfold srcWQ
  rw [show (Memref.view _).set = _ from View.set_slice_whole (sig := sig) main_arg6 _]
  have b0 := (i 0).isLt
  have b1 := (i 1).isLt
  change (i 0).val < 3072 at b0
  change (i 1).val < 4608 at b1
  refine Rect.mem_set_unit.trans ⟨fun h => ?_, fun h a => ?_⟩
  · have h0 := h 0
    have h1 := h 1
    change g.1 * 256 ≤ (i 0).val ∧ (i 0).val < g.1 * 256 + 256 at h0
    change 0 ≤ (i 1).val ∧ (i 1).val < 0 + 4608 at h1
    omega
  · match a with
    | ⟨0, _⟩ => exact (show g.1 * 256 ≤ (i 0).val ∧ (i 0).val < g.1 * 256 + 256 by omega)
    | ⟨1, _⟩ => exact (show 0 ≤ (i 1).val ∧ (i 1).val < 0 + 4608 by omega)

/-! ## Lists of places -/

theorem bigL_pts {ℓ : Loc nD τ sig} {T : Type} (K : T → Finset (Idx ℓ)) (hd : ∀ a b i, i ∈ K a → i ∈ K b → a = b) (f : Buf (Elt F) ℓ) :
    ∀ (l : List T), l.Nodup → ∀ S : Finset (Idx ℓ), (∀ i, i ∈ S ↔ ∃ a ∈ l, i ∈ K a) →
      (ℓ ↦[S]{fullShare} f : sProp (MM F)) = bigL (fun a => (ℓ ↦[K a]{fullShare} f : sProp (MM F))) l
  | [], _, S, hS => by
    have : S = ∅ := Finset.eq_empty_of_forall_notMem fun i hi => by
      obtain ⟨a, ha, _⟩ := (hS i).mp hi
      exact absurd ha List.not_mem_nil
    rw [this, pointsTo_empty]; rfl
  | a :: l, hl, S, hS => by
    classical
    have hsub : K a ⊆ S := fun i hi => (hS i).mpr ⟨a, List.mem_cons_self, hi⟩
    have ih := bigL_pts K hd f l (List.nodup_cons.mp hl).2 (S \ K a) (fun i => by
      rw [Finset.mem_sdiff, hS]
      constructor
      · rintro ⟨⟨b, hb, hi⟩, hn⟩
        rcases List.mem_cons.mp hb with rfl | hb
        · exact absurd hi hn
        · exact ⟨b, hb, hi⟩
      · rintro ⟨b, hb, hi⟩
        refine ⟨⟨b, List.mem_cons_of_mem _ hb, hi⟩, fun hn => ?_⟩
        have := hd a b i hn hi
        exact (List.nodup_cons.mp hl).1 (this ▸ hb))
    have h := pointsTo_split_subset (Ix := Unit) (Name := ℕ) (U := Pipeline.UC sig nD τ) (Lvl := ℕ) (q := fullShare) (f := f) hsub
    refine (BI.Entails.antisymm h.1 h.2).trans ?_
    rw [ih]; rfl

theorem ofEq {P Q : sProp (MM F)} (h : P = Q) : P ⊢ Q := h ▸ .rfl

theorem bigL_sep {T : Type} (Φ Ψ : T → sProp (MM F)) : ∀ l : List T,
    bigL (fun a => iprop(Φ a ∗ Ψ a)) l ⊢ iprop(bigL Φ l ∗ bigL Ψ l)
  | [] => by
    unfold bigL; iintro -
    isplitl <;> iempintro
  | a :: l => by
    unfold bigL
    iintro ⟨⟨H1, H2⟩, H3⟩
    ihave H3 := (bigL_sep Φ Ψ l) $$ H3
    icases H3 with ⟨H3, H4⟩
    isplitl [H1 H3]
    · isplitl [H1] <;> iassumption
    isplitl [H2] <;> iassumption

theorem sep_bigL {T : Type} (Φ Ψ : T → sProp (MM F)) : ∀ l : List T,
    iprop(bigL Φ l ∗ bigL Ψ l) ⊢ bigL (fun a => iprop(Φ a ∗ Ψ a)) l
  | [] => by unfold bigL; iintro -; iempintro
  | a :: l => by
    unfold bigL
    iintro ⟨⟨H1, H3⟩, H2, H4⟩
    isplitl [H1 H2]
    · isplitl [H1] <;> iassumption
    iapply (sep_bigL Φ Ψ l)
    isplitl [H3] <;> iassumption

theorem bigL_mono {T : Type} {Φ Ψ : T → sProp (MM F)} (h : ∀ a, Φ a ⊢ Ψ a) : ∀ l : List T, bigL Φ l ⊢ bigL Ψ l
  | [] => .rfl
  | a :: l => BIClass.sep_mono (h a) (bigL_mono h l)

variable {c : Dev nD}

theorem chan_split {ℓs ℓd : Loc nD τ sig} {T : Type} (Ks : T → Finset (Idx ℓs)) (Kd : T → Finset (Idx ℓd))
    (hs : ∀ a b i, i ∈ Ks a → i ∈ Ks b → a = b) (hd : ∀ a b i, i ∈ Kd a → i ∈ Kd b → a = b) (fs : Buf (Elt F) ℓs) (sm : T → DmaSem sig)
    (l : List T) (hl : l.Nodup) (Ss : Finset (Idx ℓs)) (Sd : Finset (Idx ℓd)) (hSs : ∀ i, i ∈ Ss ↔ ∃ a ∈ l, i ∈ Ks a)
    (hSd : ∀ i, i ∈ Sd ↔ ∃ a ∈ l, i ∈ Kd a) :
    iprop((ℓs ↦[Ss]{fullShare} fs) ∗ (∃ fd : Buf (Elt F) ℓd, ℓd ↦[Sd]{fullShare} fd)
        ∗ bigL (fun t => semVal ((c : Thread nD τ), SemLoc.dma (sm t)) 0) l : sProp (MM F))
      ⊢ bigL (fun t => iprop((ℓs ↦[Ks t]{fullShare} fs) ∗ (∃ fd : Buf (Elt F) ℓd, ℓd ↦[Kd t]{fullShare} fd)
          ∗ semVal ((c : Thread nD τ), SemLoc.dma (sm t)) 0)) l := by
  iintro ⟨H1, ⟨%fd, H2⟩, H3⟩
  ihave H1 := (ofEq (bigL_pts Ks hs fs l hl Ss hSs)) $$ H1
  ihave H2 := (ofEq (bigL_pts Kd hd fd l hl Sd hSd)) $$ H2
  ihave H := (sep_bigL (F := F) (fun t => iprop(∃ fd : Buf (Elt F) ℓd, ℓd ↦[Kd t]{fullShare} fd)) (fun t => semVal ((c : Thread nD τ), SemLoc.dma (sm t)) 0) l) $$ [H2 H3]
  · isplitl [H2]
    · iapply (bigL_mono (F := F) (Φ := fun t => (ℓd ↦[Kd t]{fullShare} fd : sProp (MM F))) (fun t => by iintro H; iexists fd; iexact H) l) $$ H2
    iexact H3
  have e2 := sep_bigL (F := F) (fun t => (ℓs ↦[Ks t]{fullShare} fs : sProp (MM F))) (fun t => iprop((∃ fd : Buf (Elt F) ℓd, ℓd ↦[Kd t]{fullShare} fd)
          ∗ semVal ((c : Thread nD τ), SemLoc.dma (sm t)) 0)) l
  iapply e2 $$ [H1 H]
  isplitl [H1]; · iexact H1
  iexact H

theorem chan_join {ℓs ℓd : Loc nD τ sig} {T : Type} (Ks : T → Finset (Idx ℓs)) (Kd : T → Finset (Idx ℓd))
    (hs : ∀ a b i, i ∈ Ks a → i ∈ Ks b → a = b) (hd : ∀ a b i, i ∈ Kd a → i ∈ Kd b → a = b) (fs : Buf (Elt F) ℓs) (G : Buf (Elt F) ℓd)
    (sm : T → DmaSem sig)
    (l : List T) (hl : l.Nodup) (Ss : Finset (Idx ℓs)) (Sd : Finset (Idx ℓd)) (hSs : ∀ i, i ∈ Ss ↔ ∃ a ∈ l, i ∈ Ks a)
    (hSd : ∀ i, i ∈ Sd ↔ ∃ a ∈ l, i ∈ Kd a) :
    (bigL (fun t => iprop((ℓs ↦[Ks t]{fullShare} fs) ∗ (ℓd ↦[Kd t]{fullShare} G)
          ∗ semVal ((c : Thread nD τ), SemLoc.dma (sm t)) 0)) l : sProp (MM F))
      ⊢ iprop((ℓs ↦[Ss]{fullShare} fs) ∗ (ℓd ↦[Sd]{fullShare} G) ∗ bigL (fun t => semVal ((c : Thread nD τ), SemLoc.dma (sm t)) 0) l) := by
  rw [bigL_pts Ks hs fs l hl Ss hSs, bigL_pts Kd hd G l hl Sd hSd]
  exact (bigL_sep _ _ l).trans (BIClass.sep_mono .rfl (bigL_sep _ _ l))

/-! ## The chunks in order -/

/-- The chunks after `k`. -/
def rest (k : Nat) : List (Fin 16) := fins 16 (15 - k) (by omega)
theorem rest_succ : ∀ k : Fin 15, rest k.1 = ⟨k.1 + 1, by omega⟩ :: rest (k.1 + 1) := by decide
/-- The chunks before `k`, the last first. -/
def upto : Nat → List (Fin 16)
  | 0 => []
  | k + 1 => if h : k < 16 then ⟨k, h⟩ :: upto k else upto k
theorem upto_succ (g : Fin 16) : upto (g.1 + 1) = g :: upto g.1 := by simp [upto]
theorem all16 : allF 16 = 0 :: rest 0 := by decide
theorem mem_all16 : ∀ g : Fin 16, g ∈ allF 16 := by decide
theorem mem_upto : ∀ g : Fin 16, g ∈ upto 16 := by decide
theorem mem_all12 : ∀ g : Fin 12, g ∈ allF 12 := by decide
theorem nodup_all16 : (allF 16).Nodup := by decide
theorem nodup_upto : (upto 16).Nodup := by decide
theorem nodup_all12 : (allF 12).Nodup := by decide

/-! ## The channels -/

abbrev E0H (c : Dev nD) (g : Fin 16) : sProp (MM F) := Ends0 c (srcH g) (dstH g) (semA 0 g) I.h
abbrev E0WA (c : Dev nD) (g : Fin 16) : sProp (MM F) := Ends0 c (srcWA g) (dstWA g) (semA 1 g) I.wd
abbrev E0WB (c : Dev nD) (g : Fin 16) : sProp (MM F) := Ends0 c (srcWB g) (dstWB g) (semB g) I.wd
abbrev E0WQ (c : Dev nD) (t : Fin 12) : sProp (MM F) := Ends0 c (srcWQ t) (dstWQ t) (semQ t) I.wq
abbrev FlH (c : Dev nD) (g : Fin 16) : sProp (MM F) := Fly c (srcH g) (dstH g) (semA 0 g) I.h (hB I)
abbrev FlWA (c : Dev nD) (g : Fin 16) : sProp (MM F) := Fly c (srcWA g) (dstWA g) (semA 1 g) I.wd (waB I)
abbrev FlWB (c : Dev nD) (g : Fin 16) : sProp (MM F) := Fly c (srcWB g) (dstWB g) (semB g) I.wd (wbB I)
abbrev FlWQ (c : Dev nD) (t : Fin 12) : sProp (MM F) := Fly c (srcWQ t) (dstWQ t) (semQ t) I.wq (wqB I)
abbrev E1H (c : Dev nD) (g : Fin 16) : sProp (MM F) := Ends1 c (srcH g) (dstH g) (semA 0 g) I.h (hB I)
abbrev E1WA (c : Dev nD) (g : Fin 16) : sProp (MM F) := Ends1 c (srcWA g) (dstWA g) (semA 1 g) I.wd (waB I)
abbrev E1WB (c : Dev nD) (g : Fin 16) : sProp (MM F) := Ends1 c (srcWB g) (dstWB g) (semB g) I.wd (wbB I)
abbrev E1WQ (c : Dev nD) (t : Fin 12) : sProp (MM F) := Ends1 c (srcWQ t) (dstWQ t) (semQ t) I.wq (wqB I)

theorem credH (g : Fin 16) : 0 < (dstH g).view.dmaCredit := by unfold dstH; decide +revert
theorem credWA (g : Fin 16) : 0 < (dstWA g).view.dmaCredit := by unfold dstWA; decide +revert
theorem credWB (g : Fin 16) : 0 < (dstWB g).view.dmaCredit := by unfold dstWB; decide +revert
theorem credWQ (g : Fin 12) : 0 < (dstWQ g).view.dmaCredit := by unfold dstWQ; decide +revert

variable {I}
theorem spec_startH (g : Fin 16) : E0H I c g ⊢ W c (startH g) (fun _ => FlH I c g) := by
  unfold startH
  exact spec_start (src := srcH g) (dst := dstH g) (sm := semA 0 g) (fs := I.h) (hB I) (readH I g) (credH g)
theorem spec_startWA (g : Fin 16) : E0WA I c g ⊢ W c (startWA g) (fun _ => FlWA I c g) := by
  unfold startWA
  exact spec_start (src := srcWA g) (dst := dstWA g) (sm := semA 1 g) (fs := I.wd) (waB I) (readWA I g) (credWA g)
theorem spec_startWB (g : Fin 16) : E0WB I c g ⊢ W c (startWB g) (fun _ => FlWB I c g) := by
  unfold startWB
  exact spec_start (src := srcWB g) (dst := dstWB g) (sm := semB g) (fs := I.wd) (wbB I) (readWB I g) (credWB g)
theorem spec_startWQ (t : Fin 12) : E0WQ I c t ⊢ W c (startWQ t) (fun _ => FlWQ I c t) := by
  unfold startWQ
  exact spec_start (src := srcWQ t) (dst := dstWQ t) (sm := semQ t) (fs := I.wq) (wqB I) (readWQ I t) (credWQ t)
theorem spec_waitH (g : Fin 16) : iprop(FlH I c g ∗ Ow c) ⊢ W c (waitH g) (fun _ => iprop(E1H I c g ∗ Ow c)) := by
  unfold waitH
  exact spec_wait (src := srcH g) (dst := dstH g) (sm := semA 0 g) (fs := I.h) (G := hB I)
theorem spec_waitWA (g : Fin 16) : iprop(FlWA I c g ∗ Ow c) ⊢ W c (waitWA g) (fun _ => iprop(E1WA I c g ∗ Ow c)) := by
  unfold waitWA
  exact spec_wait (src := srcWA g) (dst := dstWA g) (sm := semA 1 g) (fs := I.wd) (G := waB I)
theorem spec_waitWB (g : Fin 16) : iprop(FlWB I c g ∗ Ow c) ⊢ W c (waitWB g) (fun _ => iprop(E1WB I c g ∗ Ow c)) := by
  unfold waitWB
  exact spec_wait (src := srcWB g) (dst := dstWB g) (sm := semB g) (fs := I.wd) (G := wbB I)
theorem spec_waitWQ (t : Fin 12) : iprop(FlWQ I c t ∗ Ow c) ⊢ W c (waitWQ t) (fun _ => iprop(E1WQ I c t ∗ Ow c)) := by
  unfold waitWQ
  exact spec_wait (src := srcWQ t) (dst := dstWQ t) (sm := semQ t) (fs := I.wq) (G := wqB I)

/-! ## The whole buffers cut into the channels, and joined -/

variable (I)

def colsA : Finset (S8192x3072.Idx) := Finset.univ.filter fun i => (i 1).val < 2048
def colsB : Finset (S8192x3072.Idx) := Finset.univ.filter fun i => 2048 ≤ (i 1).val

theorem mem_colsA (i : S8192x3072.Idx) : i ∈ colsA ↔ (i 1).val < 2048 := by simp [colsA]
theorem mem_colsB (i : S8192x3072.Idx) : i ∈ colsB ↔ 2048 ≤ (i 1).val := by simp [colsB]

theorem eqOf {m : Nat} {a b : Fin m} {n : Nat} (h : n = a.1) (h' : n = b.1) : a = b := Fin.ext (h.symm.trans h')

theorem srcH_cover (i : S256x8192.Idx) (l : List (Fin 16)) (hl : ∀ g, g ∈ l) :
    i ∈ (Finset.univ : Finset (S256x8192.Idx)) ↔ ∃ a ∈ l, i ∈ (srcH a).view.set := by
  have h0 : (i 1).val < 8192 := (i 1).isLt
  exact ⟨fun _ => ⟨⟨(i 1).val / 512, by omega⟩, hl _, (mem_srcH _ i).mpr rfl⟩, fun _ => Finset.mem_univ _⟩

theorem cutH : iprop((mH.view.loc (c : Thread nD τ) ↦{fullShare} I.h) ∗ (∃ f : Buf (Elt F) (vH.view.loc (c : Thread nD τ)), vH.view.loc (c : Thread nD τ) ↦{fullShare} f)
      ∗ bigL (fun g => semVal ((c : Thread nD τ), SemLoc.dma (semA 0 g)) 0) (allF 16)) ⊢ bigL (E0H I c) (allF 16) := by
  unfold E0H Ends0
  exact chan_split (c := c) (ℓs := mH.view.loc (c : Thread nD τ)) (ℓd := vH.view.loc (c : Thread nD τ)) (fun g => (srcH g).view.set) (fun g => (dstH g).view.set)
    (fun a b i h h' => eqOf ((mem_srcH a i).mp h) ((mem_srcH b i).mp h')) (fun a b i h h' => eqOf ((mem_dstH a i).mp h) ((mem_dstH b i).mp h'))
    I.h (semA 0) (allF 16) nodup_all16 _ _
    (fun i => srcH_cover i _ mem_all16)
    (fun i => ⟨fun _ => ⟨i 0, mem_all16 _, (mem_dstH _ i).mpr rfl⟩, fun _ => Finset.mem_univ _⟩)

theorem srcWA_cover (i : S8192x3072.Idx) (l : List (Fin 16)) (hl : ∀ g, g ∈ l) : i ∈ colsA ↔ ∃ a ∈ l, i ∈ (srcWA a).view.set := by
  have h0 : (i 0).val < 8192 := (i 0).isLt
  refine (mem_colsA i).trans ⟨fun h => ⟨⟨(i 0).val / 512, by omega⟩, hl _, (mem_srcWA _ i).mpr ⟨rfl, h⟩⟩, ?_⟩
  rintro ⟨a, _, h⟩
  exact ((mem_srcWA a i).mp h).2

theorem cutWA : iprop((mWD.view.loc (c : Thread nD τ) ↦[colsA]{fullShare} I.wd) ∗ (∃ f : Buf (Elt F) (vWA.view.loc (c : Thread nD τ)), vWA.view.loc (c : Thread nD τ) ↦{fullShare} f)
      ∗ bigL (fun g => semVal ((c : Thread nD τ), SemLoc.dma (semA 1 g)) 0) (allF 16)) ⊢ bigL (E0WA I c) (allF 16) := by
  unfold E0WA Ends0
  exact chan_split (c := c) (ℓs := mWD.view.loc (c : Thread nD τ)) (ℓd := vWA.view.loc (c : Thread nD τ)) (fun g => (srcWA g).view.set) (fun g => (dstWA g).view.set)
    (fun a b i h h' => eqOf ((mem_srcWA a i).mp h).1 ((mem_srcWA b i).mp h').1) (fun a b i h h' => eqOf ((mem_dstWA a i).mp h) ((mem_dstWA b i).mp h'))
    I.wd (semA 1) (allF 16) nodup_all16 _ _
    (fun i => srcWA_cover i _ mem_all16)
    (fun i => ⟨fun _ => ⟨i 0, mem_all16 _, (mem_dstWA _ i).mpr rfl⟩, fun _ => Finset.mem_univ _⟩)

theorem srcWB_cover (i : S8192x3072.Idx) : i ∈ colsB ↔ ∃ a ∈ allF 16, i ∈ (srcWB a).view.set := by
  have h0 : (i 0).val < 8192 := (i 0).isLt
  refine (mem_colsB i).trans ⟨fun h => ⟨⟨(i 0).val / 512, by omega⟩, mem_all16 _, (mem_srcWB _ i).mpr ⟨rfl, h⟩⟩, ?_⟩
  rintro ⟨a, _, h⟩
  exact ((mem_srcWB a i).mp h).2

theorem cutWB : iprop((mWD.view.loc (c : Thread nD τ) ↦[colsB]{fullShare} I.wd) ∗ (∃ f : Buf (Elt F) (vWB.view.loc (c : Thread nD τ)), vWB.view.loc (c : Thread nD τ) ↦{fullShare} f)
      ∗ bigL (fun g => semVal ((c : Thread nD τ), SemLoc.dma (semB g)) 0) (allF 16)) ⊢ bigL (E0WB I c) (allF 16) := by
  unfold E0WB Ends0
  exact chan_split (c := c) (ℓs := mWD.view.loc (c : Thread nD τ)) (ℓd := vWB.view.loc (c : Thread nD τ)) (fun g => (srcWB g).view.set) (fun g => (dstWB g).view.set)
    (fun a b i h h' => eqOf ((mem_srcWB a i).mp h).1 ((mem_srcWB b i).mp h').1) (fun a b i h h' => eqOf ((mem_dstWB a i).mp h) ((mem_dstWB b i).mp h'))
    I.wd semB (allF 16) nodup_all16 _ _ srcWB_cover
    (fun i => ⟨fun _ => ⟨i 0, mem_all16 _, (mem_dstWB _ i).mpr rfl⟩, fun _ => Finset.mem_univ _⟩)

theorem joinWB : bigL (E1WB I c) (allF 16) ⊢ iprop((mWD.view.loc (c : Thread nD τ) ↦[colsB]{fullShare} I.wd) ∗ (vWB.view.loc (c : Thread nD τ) ↦[lowB 16]{fullShare} wbB I)
      ∗ bigL (fun g => semVal ((c : Thread nD τ), SemLoc.dma (semB g)) 0) (allF 16)) :=
  chan_join (ℓs := mWD.view.loc (c : Thread nD τ)) (ℓd := vWB.view.loc (c : Thread nD τ)) (fun g => (srcWB g).view.set) (fun g => (dstWB g).view.set)
    (fun a b i h h' => eqOf ((mem_srcWB a i).mp h).1 ((mem_srcWB b i).mp h').1) (fun a b i h h' => eqOf ((mem_dstWB a i).mp h) ((mem_dstWB b i).mp h'))
    I.wd (wbB I) semB (allF 16) nodup_all16 _ _ srcWB_cover
    (fun i => ⟨fun _ => ⟨i 0, mem_all16 _, (mem_dstWB _ i).mpr rfl⟩, fun _ => Finset.mem_filter.mpr ⟨Finset.mem_univ _, (i 0).isLt⟩⟩)

theorem srcWQ_cover (i : S3072x4608.Idx) : i ∈ (Finset.univ : Finset (S3072x4608.Idx)) ↔ ∃ a ∈ allF 12, i ∈ (srcWQ a).view.set :=
  ⟨fun h => ⟨⟨(i 0).val / 256, by have : (i 0).val < 3072 := (i 0).isLt; omega⟩, mem_all12 _, (mem_srcWQ _ i).mpr rfl⟩, fun _ => Finset.mem_univ _⟩

theorem cutWQ : iprop((mWQ.view.loc (c : Thread nD τ) ↦{fullShare} I.wq) ∗ (∃ f : Buf (Elt F) (vWQ.view.loc (c : Thread nD τ)), vWQ.view.loc (c : Thread nD τ) ↦{fullShare} f)
      ∗ bigL (fun g => semVal ((c : Thread nD τ), SemLoc.dma (semQ g)) 0) (allF 12)) ⊢ bigL (E0WQ I c) (allF 12) := by
  unfold E0WQ Ends0
  exact chan_split (c := c) (ℓs := mWQ.view.loc (c : Thread nD τ)) (ℓd := vWQ.view.loc (c : Thread nD τ)) (fun g => (srcWQ g).view.set) (fun g => (dstWQ g).view.set)
    (fun a b i h h' => eqOf ((mem_srcWQ a i).mp h) ((mem_srcWQ b i).mp h')) (fun a b i h h' => eqOf ((mem_dstWQ a i).mp h) ((mem_dstWQ b i).mp h'))
    I.wq semQ (allF 12) nodup_all12 _ _ srcWQ_cover
    (fun i => ⟨fun _ => ⟨i 0, mem_all12 _, (mem_dstWQ _ i).mpr rfl⟩, fun _ => Finset.mem_univ _⟩)

theorem joinWQ : bigL (E1WQ I c) (allF 12) ⊢ iprop((mWQ.view.loc (c : Thread nD τ) ↦{fullShare} I.wq) ∗ (vWQ.view.loc (c : Thread nD τ) ↦{fullShare} wqB I)
      ∗ bigL (fun g => semVal ((c : Thread nD τ), SemLoc.dma (semQ g)) 0) (allF 12)) :=
  chan_join (ℓs := mWQ.view.loc (c : Thread nD τ)) (ℓd := vWQ.view.loc (c : Thread nD τ)) (fun g => (srcWQ g).view.set) (fun g => (dstWQ g).view.set)
    (fun a b i h h' => eqOf ((mem_srcWQ a i).mp h) ((mem_srcWQ b i).mp h')) (fun a b i h h' => eqOf ((mem_dstWQ a i).mp h) ((mem_dstWQ b i).mp h'))
    I.wq (wqB I) semQ (allF 12) nodup_all12 _ _ srcWQ_cover
    (fun i => ⟨fun _ => ⟨i 0, mem_all12 _, (mem_dstWQ _ i).mpr rfl⟩, fun _ => Finset.mem_univ _⟩)

/-- What a chunk leaves aside once landed: the two sources and the two cells. -/
def Left (c : Dev nD) (g : Fin 16) : sProp (MM F) :=
  iprop(((mH.view.loc (c : Thread nD τ) ↦[(srcH g).view.set]{fullShare} I.h) ∗ semVal ((c : Thread nD τ), SemLoc.dma (semA 0 g)) 0)
    ∗ (mWD.view.loc (c : Thread nD τ) ↦[(srcWA g).view.set]{fullShare} I.wd) ∗ semVal ((c : Thread nD τ), SemLoc.dma (semA 1 g)) 0)

theorem joinLeft : bigL (Left I c) (upto 16) ⊢ iprop(((mH.view.loc (c : Thread nD τ) ↦{fullShare} I.h)
      ∗ bigL (fun g => semVal ((c : Thread nD τ), SemLoc.dma (semA 0 g)) 0) (upto 16))
    ∗ (mWD.view.loc (c : Thread nD τ) ↦[colsA]{fullShare} I.wd) ∗ bigL (fun g => semVal ((c : Thread nD τ), SemLoc.dma (semA 1 g)) 0) (upto 16)) := by
  refine (bigL_sep _ _ _).trans (BIClass.sep_mono ((bigL_sep _ _ _).trans (BIClass.sep_mono ?_ .rfl)) ((bigL_sep _ _ _).trans (BIClass.sep_mono ?_ .rfl)))
  · refine ofEq (bigL_pts (ℓ := mH.view.loc (c : Thread nD τ)) (fun g => (srcH g).view.set)
      (fun a b i h h' => eqOf ((mem_srcH a i).mp h) ((mem_srcH b i).mp h')) I.h (upto 16) nodup_upto _ ?_).symm
    exact fun i => srcH_cover i _ mem_upto
  · refine ofEq (bigL_pts (ℓ := mWD.view.loc (c : Thread nD τ)) (fun g => (srcWA g).view.set)
      (fun a b i h h' => eqOf ((mem_srcWA a i).mp h).1 ((mem_srcWA b i).mp h').1) I.wd (upto 16) nodup_upto _ ?_).symm
    exact fun i => srcWA_cover i _ mem_upto

theorem cutWD : (mWD.view.loc (c : Thread nD τ) ↦{fullShare} I.wd : sProp (MM F))
    ⊣⊢ iprop((mWD.view.loc (c : Thread nD τ) ↦[colsA]{fullShare} I.wd) ∗ (mWD.view.loc (c : Thread nD τ) ↦[colsB]{fullShare} I.wd)) := by
  have h := pointsTo_split_subset (Ix := Unit) (Name := ℕ) (U := Pipeline.UC sig nD τ) (Lvl := ℕ) (ℓ := mWD.view.loc (c : Thread nD τ))
    (q := fullShare) (f := I.wd) (Finset.subset_univ colsA)
  have e : (Finset.univ \ colsA : Finset (S8192x3072.Idx)) = colsB := by
    ext i; simp [colsA, colsB]
  rw [show (Finset.univ \ colsA : Finset (Idx (mWD.view.loc (c : Thread nD τ)))) = colsB from e] at h
  exact h

/-- A landed chunk joined to the chunks before it. -/
theorem growH (g : Fin 16) : iprop((vH.view.loc (c : Thread nD τ) ↦[lowHP g.1]{fullShare} hB I) ∗ (vH.view.loc (c : Thread nD τ) ↦[(dstH g).view.set]{fullShare} hB I))
    ⊢ (vH.view.loc (c : Thread nD τ) ↦[lowHP (g.1 + 1)]{fullShare} hB I : sProp (MM F)) := by
  have hd : Disjoint (lowHP g.1) (dstH g).view.set := Finset.disjoint_left.mpr fun i h h' => by
    have h1 := (Finset.mem_filter.mp h).2
    have h2 := (mem_dstH g i).mp h'
    omega
  have e : lowHP (g.1 + 1) = lowHP g.1 ∪ (dstH g).view.set := by
    ext i
    refine Finset.mem_filter.trans (Iff.trans ?_ Finset.mem_union.symm)
    have h1 : i ∈ lowHP g.1 ↔ (i 0).val < g.1 := by simp [lowHP]
    have h2 := mem_dstH g i
    refine ⟨fun h => ?_, fun h => ⟨Finset.mem_univ _, ?_⟩⟩
    · by_cases hh : (i 0).val < g.1
      · exact Or.inl (h1.mpr hh)
      · exact Or.inr (h2.mpr (by have := h.2; omega))
    · rcases h with h | h
      · have := h1.mp h; omega
      · have := h2.mp h; omega
  rw [e]
  exact (pointsTo_union (Ix := Unit) (Name := ℕ) (U := Pipeline.UC sig nD τ) (Lvl := ℕ) (ℓ := vH.view.loc (c : Thread nD τ)) (q := fullShare) (f := hB I) hd).2

theorem growWA (g : Fin 16) : iprop((vWA.view.loc (c : Thread nD τ) ↦[lowA g.1]{fullShare} waB I) ∗ (vWA.view.loc (c : Thread nD τ) ↦[(dstWA g).view.set]{fullShare} waB I))
    ⊢ (vWA.view.loc (c : Thread nD τ) ↦[lowA (g.1 + 1)]{fullShare} waB I : sProp (MM F)) := by
  have hd : Disjoint (lowA g.1) (dstWA g).view.set := Finset.disjoint_left.mpr fun i h h' => by
    have h1 := (Finset.mem_filter.mp h).2
    have h2 := (mem_dstWA g i).mp h'
    omega
  have e : lowA (g.1 + 1) = lowA g.1 ∪ (dstWA g).view.set := by
    ext i
    refine Finset.mem_filter.trans (Iff.trans ?_ Finset.mem_union.symm)
    have h1 : i ∈ lowA g.1 ↔ (i 0).val < g.1 := by simp [lowA]
    have h2 := mem_dstWA g i
    refine ⟨fun h => ?_, fun h => ⟨Finset.mem_univ _, ?_⟩⟩
    · by_cases hh : (i 0).val < g.1
      · exact Or.inl (h1.mpr hh)
      · exact Or.inr (h2.mpr (by have := h.2; omega))
    · rcases h with h | h
      · have := h1.mp h; omega
      · have := h2.mp h; omega
  rw [e]
  exact (pointsTo_union (Ix := Unit) (Name := ℕ) (U := Pipeline.UC sig nD τ) (Lvl := ℕ) (ℓ := vWA.view.loc (c : Thread nD τ)) (q := fullShare) (f := waB I) hd).2

end Cert.KernelIdeal.Hand
-- ==== Proof.Make.lean ====
module

public import proofs.«01_k».proof.Proof.Copies

/-! The scaled activations and the other buffers filled store by store. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {c : Dev nD}

/-- A buffer held whole that agrees with `G` where `P` says. -/
def Agr (c : Dev nD) {cs : CoreSpace} {s : Shape} {e : EltTy} (m : Memref sig .tc cs s e) (P : Idx (m.view.loc (c : Thread nD τ)) → Prop)
    (G : Buf (Elt F) (m.view.loc (c : Thread nD τ))) : sProp (MM F) :=
  iprop(∃ f : Buf (Elt F) (m.view.loc (c : Thread nD τ)), ⌜∀ i, P i → f i = G i⌝ ∗ (m.view.loc (c : Thread nD τ) ↦{fullShare} f))

section
variable {cs : CoreSpace} {s : Shape} {e : EltTy} {m : Memref sig .tc cs s e} {r : Rect s}
  {P P' : Idx (m.view.loc (c : Thread nD τ)) → Prop} {G : Buf (Elt F) (m.view.loc (c : Thread nD τ))}

theorem Agr.mono (h : ∀ i, P' i → P i) : Agr c m P G ⊢ Agr c m P' G := by
  unfold Agr
  iintro ⟨%f, %hf, H⟩
  iexists f
  isplitr; · ipureintro; exact fun i hi => hf i (h i hi)
  iexact H

theorem Agr.all (h : ∀ i, P i) : Agr c m P G ⊢ (m.view.loc (c : Thread nD τ) ↦{fullShare} G : sProp (MM F)) := by
  unfold Agr
  iintro ⟨%f, %hf, H⟩
  have : f = G := funext fun i => hf i (h i)
  subst this
  iexact H

theorem Agr.start (h : ∀ i, ¬ P i) : iprop(∃ f : Buf (Elt F) (m.view.loc (c : Thread nD τ)), m.view.loc (c : Thread nD τ) ↦{fullShare} f)
    ⊢ Agr c m P G := by
  unfold Agr
  iintro ⟨%f, H⟩
  iexists f
  isplitr; · ipureintro; exact fun i hi => absurd hi (h i)
  iexact H

theorem spec_storeG {w : r.shape.Idx → Elt F e} {hx : (m.access r).Stores Finset.univ} {hm}
    (hw : w = (m.access r).read (Elt F) G) (h : ∀ i, P' i → P i ∨ i ∈ (m.access r).set) :
    Agr c m P G ⊢ W c (Prog.lift (.store m r w Finset.univ hx hm)) (fun _ => Agr c m P' G) := by
  unfold Agr
  iintro ⟨%f, %hf, H⟩
  iapply (useT (spec_store (c := c) (m := m) (r := r) (w := w) (hx := hx) (hm := hm) (f := f))) $$ H
  iintro %v H
  iexists _
  isplitr
  rotate_left
  · iexact H
  ipureintro
  intro i hi
  rw [hw, View.write_read_eq_piecewise]
  by_cases hm : i ∈ (m.access r).set
  · exact Finset.piecewise_eq_of_mem _ _ _ hm
  · exact (Finset.piecewise_eq_of_notMem _ _ _ hm).trans (hf i ((h i hi).resolve_right hm))

theorem spec_loadA {hl : m.view.LoadsAt r.toLoadRect} :
    Agr c m P G ⊢ W c (Prog.lift (.load m r.toLoadRect hl)) (fun _ => Agr c m P G) := by
  unfold Agr
  iintro ⟨%f, %hf, H⟩
  iapply (useT (spec_load (c := c) (m := m) (r := r) (hl := hl) (f := f) (Finset.subset_univ _))) $$ H
  iintro %v ⟨%hv, H⟩
  iexists f
  isplitr; · ipureintro; exact hf
  iexact H
end

variable (I : Inp F)

/-! ## The turned scales -/

abbrev rHS0 : Rect S2x64x128 := Rect.unit (s := S2x64x128) ![0, 0, 0] S1x64x128.size inb_S2x64x128_S1x64x128_0_0_0
abbrev rHS1 : Rect S2x64x128 := Rect.unit (s := S2x64x128) ![1, 0, 0] S1x64x128.size inb_S2x64x128_S1x64x128_1_0_0
abbrev rSB0 : Rect S256x128 := Rect.unit (s := S256x128) ![0, 0] S128x128.size inb_S256x128_S128x128_0_0
abbrev rSB1 : Rect S256x128 := Rect.unit (s := S256x128) ![128, 0] S128x128.size inb_S256x128_S128x128_128_0

def hsbV (b : Bool) (x y : Fin 128) : Elt F .bf16 :=
  if b then k0_pay407 (F := F) ((vHS.access rHS0).read (Elt F) I.hs) (ix2 (n0 := 128) (n1 := 128) x y)
  else k0_pay408 (F := F) ((vHS.access rHS1).read (Elt F) I.hs) (ix2 (n0 := 128) (n1 := 128) x y)

theorem hsbV_congr {b b' : Bool} {x x' y y' : Fin 128} (hb : b = b') (hx : x.1 = x'.1) (hy : y.1 = y'.1) :
    hsbV I b x y = hsbV I b' x' y' := by
  rw [hb, Fin.ext hx, Fin.ext hy]

def hsbG : S256x128.Idx → Elt F .bf16 := fun i =>
  hsbV I (decide ((i 0).val < 128)) ⟨(i 0).val % 128, Nat.mod_lt _ (by decide)⟩ (show Fin 128 from i 1)

theorem read_hsb0 : k0_pay407 (F := F) ((vHS.access rHS0).read (Elt F) I.hs) = (vHSB.access rSB0).read (Elt F) (hsbG I) := by
  funext j
  obtain ⟨x, y, rfl⟩ : ∃ (x : Fin 128) (y : Fin 128), j = ix2 x y := ⟨j 0, j 1, eq_ix2 (n0 := 128) (n1 := 128) j⟩
  have hx := x.2
  show hsbV I true x y = hsbV I (decide (0 + 1 * x.1 < 128)) ⟨(0 + 1 * x.1) % 128, _⟩ ⟨0 + 1 * y.1, _⟩
  refine hsbV_congr I ?_ ?_ ?_
  · symm; simp
  · show x.1 = (0 + 1 * x.1) % 128; omega
  · show y.1 = 0 + 1 * y.1; omega

theorem read_hsb1 : k0_pay408 (F := F) ((vHS.access rHS1).read (Elt F) I.hs) = (vHSB.access rSB1).read (Elt F) (hsbG I) := by
  funext j
  obtain ⟨x, y, rfl⟩ : ∃ (x : Fin 128) (y : Fin 128), j = ix2 x y := ⟨j 0, j 1, eq_ix2 (n0 := 128) (n1 := 128) j⟩
  have hx := x.2
  show hsbV I false x y = hsbV I (decide (128 + 1 * x.1 < 128)) ⟨(128 + 1 * x.1) % 128, _⟩ ⟨0 + 1 * y.1, _⟩
  refine hsbV_congr I ?_ ?_ ?_
  · symm; simp
  · show x.1 = (128 + 1 * x.1) % 128; omega
  · show y.1 = 0 + 1 * y.1; omega

theorem mem_SB0 (i : S256x128.Idx) (h : (i 0).val < 128) : i ∈ (vHSB.access rSB0).set := by
  rw [show (vHSB.access rSB0).set = _ from View.set_slice_whole (sig := sig) cc0_scratch2 _]
  refine Rect.mem_set_unit.mpr fun a => ?_
  match a with
  | ⟨0, _⟩ => exact (show 0 ≤ (i 0).val ∧ (i 0).val < 0 + 128 by omega)
  | ⟨1, _⟩ => exact (show 0 ≤ (i 1).val ∧ (i 1).val < 0 + 128 from ⟨Nat.zero_le _, (Nat.zero_add _).symm ▸ (i 1).isLt⟩)
theorem mem_SB1 (i : S256x128.Idx) (h : ¬ (i 0).val < 128) : i ∈ (vHSB.access rSB1).set := by
  rw [show (vHSB.access rSB1).set = _ from View.set_slice_whole (sig := sig) cc0_scratch2 _]
  have h0 : (i 0).val < 256 := (i 0).isLt
  refine Rect.mem_set_unit.mpr fun a => ?_
  match a with
  | ⟨0, _⟩ => exact (show 128 ≤ (i 0).val ∧ (i 0).val < 128 + 128 by omega)
  | ⟨1, _⟩ => exact (show 0 ≤ (i 1).val ∧ (i 1).val < 0 + 128 from ⟨Nat.zero_le _, (Nat.zero_add _).symm ▸ (i 1).isLt⟩)

theorem spec_turnScales : iprop((vHS.view.loc (c : Thread nD τ) ↦{fullShare} I.hs)
      ∗ (∃ f : Buf (Elt F) (vHSB.view.loc (c : Thread nD τ)), vHSB.view.loc (c : Thread nD τ) ↦{fullShare} f))
    ⊢ W c turnScales (fun _ => iprop((vHS.view.loc (c : Thread nD τ) ↦{fullShare} I.hs) ∗ (vHSB.view.loc (c : Thread nD τ) ↦{fullShare} hsbG I))) := by
  unfold turnScales
  iintro ⟨H1, H2⟩
  ihave H2 := (Agr.start (c := c) (m := vHSB) (P := fun _ => False) (G := hsbG I) (fun _ h => h)) $$ H2
  iapply (useB (spec_load (c := c) (m := vHS) (r := rHS0) (hl := View.loadsAt_vmem h_S1x64x128) (f := I.hs) (Finset.subset_univ _))) $$ H1
  iintro %v0 ⟨%hv0, H1⟩
  iapply (useB (spec_loadA (c := c) (m := vHSB) (r := rSB0) (G := hsbG I))) $$ H2
  iintro %u0 H2
  iapply (useB (spec_storeG (c := c) (m := vHSB) (r := rSB0) (G := hsbG I) (P := fun _ => False) (P' := fun i : S256x128.Idx => (i 0).val < 128)
    (by rw [hv0]; exact read_hsb0 I) (fun i hi => Or.inr (mem_SB0 i hi)))) $$ H2
  iintro %_ H2
  iapply (useB (spec_load (c := c) (m := vHS) (r := rHS1) (hl := View.loadsAt_vmem h_S1x64x128) (f := I.hs) (Finset.subset_univ _))) $$ H1
  iintro %v1 ⟨%hv1, H1⟩
  iapply (useB (spec_loadA (c := c) (m := vHSB) (r := rSB1) (G := hsbG I))) $$ H2
  iintro %u1 H2
  iapply (useT (spec_storeG (c := c) (m := vHSB) (r := rSB1) (G := hsbG I) (P := fun i : S256x128.Idx => (i 0).val < 128) (P' := fun _ => True)
    (by rw [hv1]; exact read_hsb1 I) (fun i _ => by
      by_cases h : ((show S256x128.Idx from i) 0).val < 128
      · exact Or.inl h
      · exact Or.inr (mem_SB1 i h)))) $$ H2
  iintro %_ H2
  isplitl [H1]; · iexact H1
  iapply (Agr.all (c := c) (m := vHSB) (G := hsbG I) (fun _ => trivial)) $$ H2

/-! ## The scaled activations -/

abbrev rHl (g : Fin 16) (kg : Fin 4) : Rect S16x256x512 :=
  Rect.unit (s := S16x256x512) ![g.1, 0, kg.1 * 128] S1x256x128.size (inbHl g kg)
abbrev rSBa : Rect S256x128 := Rect.unit (s := S256x128) ![0, 0] S256x128.size inb_S256x128_S256x128_0_0

def hpV (g m : Fin 16) (kg : Fin 4) (x : Fin 16) (y : Fin 128) : Elt F .bf16 :=
  hpPay (F := F) ((vH.access (rHl g kg)).read (Elt F) (hB I)) ((vHSB.access rSBa).read (Elt F) (hsbG I))
    (BitVec.ofNat 32 (g.1 * 4 + kg.1)) m (ix3 (n0 := 1) (n1 := 16) (n2 := 128) 0 x y)

theorem hpV_congr {g g' m m' : Fin 16} {k k' : Fin 4} {x x' : Fin 16} {y y' : Fin 128} (hg : g.1 = g'.1) (hm : m.1 = m'.1) (hk : k.1 = k'.1)
    (hx : x.1 = x'.1) (hy : y.1 = y'.1) : hpV I g m k x y = hpV I g' m' k' x' y' := by
  rw [Fin.ext hg, Fin.ext hm, Fin.ext hk, Fin.ext hx, Fin.ext hy]

/-- The scaled activations. -/
def hpG : S16x256x512.Idx → Elt F .bf16 := fun i =>
  hpV I (show Fin 16 from i 0) ⟨(i 1).val / 16, by have : (i 1).val < 256 := (i 1).isLt; omega⟩
    ⟨(i 2).val / 128, by have : (i 2).val < 512 := (i 2).isLt; omega⟩ ⟨(i 1).val % 16, Nat.mod_lt _ (by decide)⟩
    ⟨(i 2).val % 128, Nat.mod_lt _ (by decide)⟩

theorem read_hp (g m : Fin 16) (kg : Fin 4) :
    hpPay (F := F) ((vH.access (rHl g kg)).read (Elt F) (hB I)) ((vHSB.access rSBa).read (Elt F) (hsbG I)) (BitVec.ofNat 32 (g.1 * 4 + kg.1)) m
      = (vHP.access (rHPs g m kg)).read (Elt F) (hpG I) := by
  funext j
  obtain ⟨u, x, y, rfl⟩ : ∃ (u : Fin 1) (x : Fin 16) (y : Fin 128), j = ix3 u x y := ⟨j 0, j 1, j 2, eq_ix3 (n0 := 1) (n1 := 16) (n2 := 128) j⟩
  obtain rfl : u = 0 := Subsingleton.elim _ _
  have hx := x.2
  have hy := y.2
  show hpV I g m kg x y = hpV I ⟨g.1 + 1 * 0, _⟩ ⟨(m.1 * 16 + 1 * x.1) / 16, _⟩ ⟨(kg.1 * 128 + 1 * y.1) / 128, _⟩ ⟨(m.1 * 16 + 1 * x.1) % 16, _⟩
    ⟨(kg.1 * 128 + 1 * y.1) % 128, _⟩
  refine hpV_congr I ?_ ?_ ?_ ?_ ?_
  · show g.1 = g.1 + 1 * 0; omega
  · show m.1 = (m.1 * 16 + 1 * x.1) / 16; omega
  · show kg.1 = (kg.1 * 128 + 1 * y.1) / 128; omega
  · show x.1 = (m.1 * 16 + 1 * x.1) % 16; omega
  · show y.1 = (kg.1 * 128 + 1 * y.1) % 128; omega

theorem mem_HPs (g m : Fin 16) (kg : Fin 4) (i : S16x256x512.Idx) (h0 : (i 0).val = g.1) (h1 : (i 1).val / 16 = m.1) (h2 : (i 2).val / 128 = kg.1) :
    i ∈ (vHP.access (rHPs g m kg)).set := by
  rw [show (vHP.access (rHPs g m kg)).set = _ from View.set_slice_whole (sig := sig) cc0_scratch3 _]
  refine Rect.mem_set_unit.mpr fun a => ?_
  match a with
  | ⟨0, _⟩ => exact (show g.1 ≤ (i 0).val ∧ (i 0).val < g.1 + 1 by omega)
  | ⟨1, _⟩ => exact (show m.1 * 16 ≤ (i 1).val ∧ (i 1).val < m.1 * 16 + 16 by omega)
  | ⟨2, _⟩ => exact (show kg.1 * 128 ≤ (i 2).val ∧ (i 2).val < kg.1 * 128 + 128 by omega)

/-- What is filled while the blocks `l` of columns are left. -/
def doneK (g : Fin 16) (l : List (Fin 4)) (i : S16x256x512.Idx) : Prop :=
  (i 0).val < g.1 ∨ ((i 0).val = g.1 ∧ ∀ k ∈ l, (i 2).val / 128 ≠ k.1)
/-- The same while the rows `lm` of the block `kg` are left too. -/
def doneM (g : Fin 16) (l : List (Fin 4)) (kg : Fin 4) (lm : List (Fin 16)) (i : S16x256x512.Idx) : Prop :=
  (i 0).val < g.1 ∨ ((i 0).val = g.1 ∧ (∀ k ∈ l, (i 2).val / 128 ≠ k.1) ∧ ((i 2).val / 128 = kg.1 → ∀ m ∈ lm, (i 1).val / 16 ≠ m.1))

theorem sub_Hl {n : Nat} {g : Fin 16} {kg : Fin 4} (h : g.1 < n) : (vH.access (rHl g kg)).set ⊆ lowHP n := by
  rw [show (vH.access (rHl g kg)).set = _ from View.set_slice_whole (sig := sig) cc0_scratch0 _]
  intro i hi
  have h3 := (Rect.mem_set_unit.mp hi 0).2
  refine Finset.mem_filter.mpr ⟨Finset.mem_univ _, ?_⟩
  change (i 0).val < g.1 + 1 at h3
  omega

theorem spec_stHP (g m : Fin 16) (kg : Fin 4) (l : List (Fin 4)) (lm : List (Fin 16)) (codes hsb)
    (h1 : codes = (vH.access (rHl g kg)).read (Elt F) (hB I)) (h2 : hsb = (vHSB.access rSBa).read (Elt F) (hsbG I)) :
    Agr c vHP (doneM g l kg (m :: lm)) (hpG I) ⊢ W c (stHP g m kg codes hsb) (fun _ => Agr c vHP (doneM g l kg lm) (hpG I)) := by
  unfold stHP
  iintro H
  iapply (useB (spec_loadA (c := c) (m := vHP) (r := rHPs g m kg) (G := hpG I))) $$ H
  iintro %u0 H
  iapply (spec_storeG (c := c) (m := vHP) (r := rHPs g m kg) (G := hpG I) (P := doneM g l kg (m :: lm)) (P' := doneM g l kg lm)
    (by rw [h1, h2]; exact read_hp I g m kg) (fun i hi => by
      rcases hi with hi | ⟨h0, hk, hm⟩
      · exact Or.inl (Or.inl hi)
      by_cases e : ((show S16x256x512.Idx from i) 2).val / 128 = kg.1
      · by_cases e' : ((show S16x256x512.Idx from i) 1).val / 16 = m.1
        · exact Or.inr (mem_HPs g m kg i h0 e' e)
        · refine Or.inl (Or.inr ⟨h0, hk, fun _ m' hm' => ?_⟩)
          rcases List.mem_cons.mp hm' with rfl | hm'
          · exact e'
          · exact hm e m' hm'
      · exact Or.inl (Or.inr ⟨h0, hk, fun h => absurd h e⟩))) $$ H

theorem spec_makeKg {n : Nat} (g : Fin 16) (kg : Fin 4) (l : List (Fin 4)) (hn : g.1 < n) :
    iprop(Agr c vHP (doneK g (kg :: l)) (hpG I) ∗ (vH.view.loc (c : Thread nD τ) ↦[lowHP n]{fullShare} hB I)
        ∗ (vHSB.view.loc (c : Thread nD τ) ↦{fullShare} hsbG I))
      ⊢ W c (makeKg g kg) (fun _ => iprop(Agr c vHP (doneK g l) (hpG I) ∗ (vH.view.loc (c : Thread nD τ) ↦[lowHP n]{fullShare} hB I)
        ∗ (vHSB.view.loc (c : Thread nD τ) ↦{fullShare} hsbG I))) := by
  unfold makeKg
  iintro ⟨H, H1, H2⟩
  iapply (useB (spec_load (c := c) (m := vH) (r := rHl g kg) (hl := View.loadsAt_vmem h_S1x256x128) (f := hB I) (sub_Hl (n := n) hn))) $$ H1
  iintro %v0 ⟨%hv0, H1⟩
  iapply (useB (spec_load (c := c) (m := vHSB) (r := rSBa) (hl := View.loadsAt_vmem h_S256x128) (f := hsbG I) (Finset.subset_univ _))) $$ H2
  iintro %v1 ⟨%hv1, H2⟩
  ihave H := (Agr.mono (c := c) (m := vHP) (G := hpG I) (P := doneK g (kg :: l)) (P' := doneM g l kg (allF 16)) (fun i hi => by
    rcases hi with hi | ⟨h0, hk, hm⟩
    · exact Or.inl hi
    refine Or.inr ⟨h0, fun k hk' => ?_⟩
    rcases List.mem_cons.mp hk' with rfl | hk'
    · intro e
      have b : ((show S16x256x512.Idx from i) 1).val < 256 := ((show S16x256x512.Idx from i) 1).isLt
      exact hm e ⟨((show S16x256x512.Idx from i) 1).val / 16, by omega⟩ (mem_all16 _) rfl
    · exact hk k hk')) $$ H
  iapply (useT (spec_inv (c := c) (f := fun m => stHP g m kg v0 v1) (fun lm => Agr c vHP (doneM g l kg lm) (hpG I))
    (fun m lm => spec_stHP I g m kg l lm v0 v1 hv0 hv1) (allF 16))) $$ H
  iintro %_ H
  isplitl [H]
  · iapply (Agr.mono (c := c) (m := vHP) (G := hpG I) (P := doneM g l kg []) (P' := doneK g l) (fun i hi => by
      rcases hi with hi | ⟨h0, hk⟩
      · exact Or.inl hi
      exact Or.inr ⟨h0, hk, fun _ m hm => absurd hm List.not_mem_nil⟩)) $$ H
  isplitl [H1]; · iexact H1
  iexact H2

theorem mem_all4 : ∀ g : Fin 4, g ∈ allF 4 := by decide

theorem spec_makeH {n : Nat} (g : Fin 16) (hn : g.1 < n) :
    iprop(Agr c vHP (fun i : S16x256x512.Idx => (i 0).val < g.1) (hpG I) ∗ (vH.view.loc (c : Thread nD τ) ↦[lowHP n]{fullShare} hB I)
        ∗ (vHSB.view.loc (c : Thread nD τ) ↦{fullShare} hsbG I))
      ⊢ W c (makeH g) (fun _ => iprop(Agr c vHP (fun i : S16x256x512.Idx => (i 0).val < g.1 + 1) (hpG I)
        ∗ (vH.view.loc (c : Thread nD τ) ↦[lowHP n]{fullShare} hB I) ∗ (vHSB.view.loc (c : Thread nD τ) ↦{fullShare} hsbG I))) := by
  unfold makeH
  iintro ⟨H, H1⟩
  ihave H := (Agr.mono (c := c) (m := vHP) (G := hpG I) (P := fun i : S16x256x512.Idx => (i 0).val < g.1) (P' := doneK g (allF 4)) (fun i hi => by
    rcases hi with hi | ⟨h0, hk⟩
    · exact hi
    have b : ((show S16x256x512.Idx from i) 2).val < 512 := ((show S16x256x512.Idx from i) 2).isLt
    exact absurd rfl (hk ⟨((show S16x256x512.Idx from i) 2).val / 128, by omega⟩ (mem_all4 _)))) $$ H
  iapply (useT (spec_inv (c := c) (f := makeKg g) (fun l => iprop(Agr c vHP (doneK g l) (hpG I)
    ∗ (vH.view.loc (c : Thread nD τ) ↦[lowHP n]{fullShare} hB I) ∗ (vHSB.view.loc (c : Thread nD τ) ↦{fullShare} hsbG I)))
    (fun kg l => spec_makeKg I g kg l hn) (allF 4))) $$ [H H1]
  · isplitl [H]; · iexact H
    iexact H1
  iintro %_ ⟨H, H1⟩
  isplitl [H]
  · iapply (Agr.mono (c := c) (m := vHP) (G := hpG I) (P := doneK g []) (P' := fun i : S16x256x512.Idx => (i 0).val < g.1 + 1) (fun i hi => by
      by_cases h : ((show S16x256x512.Idx from i) 0).val < g.1
      · exact Or.inl h
      exact Or.inr ⟨Nat.le_antisymm (Nat.lt_succ_iff.mp hi) (Nat.le_of_not_lt h), fun m hm => absurd hm List.not_mem_nil⟩)) $$ H
  iexact H1

end Cert.KernelIdeal.Hand
-- ==== Proof.Small.lean ====
module

public import proofs.«01_k».proof.Proof.Make

/-! The small copies, the starts, the ends of the phases and the turns. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {c : Dev nD}

/-! ## A buffer held whole -/

/-- The buffer held whole at `f`. -/
abbrev Is (c : Dev nD) {sp : Space} {s : Shape} {e : EltTy} (m : Memref sig .tc sp s e) (f : Buf (Elt F) (m.view.loc (c : Thread nD τ))) : sProp (MM F) :=
  (m.view.loc (c : Thread nD τ) ↦{fullShare} f)
/-- The buffer held whole at some contents. -/
abbrev Any (F : FTy → Type) [FloatOps F] (c : Dev nD) {sp : Space} {s : Shape} {e : EltTy} (m : Memref sig .tc sp s e) : sProp (MM F) :=
  iprop(∃ f : Buf (Elt F) (m.view.loc (c : Thread nD τ)), m.view.loc (c : Thread nD τ) ↦{fullShare} f)
/-- The cell `sm` at zero. -/
abbrev Sem0 (F : FTy → Type) [FloatOps F] (c : Dev nD) (sm : DmaSem sig) : sProp (MM F) := semVal ((c : Thread nD τ), SemLoc.dma sm) 0

section
variable {cs : CoreSpace} {s : Shape} {e : EltTy} {m : Memref sig .tc cs s e} {r : Rect s}

theorem Is.any {f : Buf (Elt F) (m.view.loc (c : Thread nD τ))} : Is c m f ⊢ Any F c m := by
  iintro H; iexists f; iexact H

theorem spec_loadIs {f : Buf (Elt F) (m.view.loc (c : Thread nD τ))} {hl : m.view.LoadsAt r.toLoadRect} :
    Is c m f ⊢ W c (Prog.lift (.load m r.toLoadRect hl)) (fun v => iprop(⌜v = (m.access r).read (Elt F) f⌝ ∗ Is c m f)) :=
  spec_load (c := c) (m := m) (r := r) (hl := hl) (f := f) (Finset.subset_univ _)

theorem spec_loadAny {hl : m.view.LoadsAt r.toLoadRect} :
    Any F c m ⊢ W c (Prog.lift (.load m r.toLoadRect hl)) (fun _ => Any F c m) := by
  iintro ⟨%f, H⟩
  iapply (useT (spec_load (c := c) (m := m) (r := r) (hl := hl) (f := f) (Finset.subset_univ _))) $$ H
  iintro %v ⟨%hv, H⟩
  iexists f; iexact H

theorem spec_storeAny {w : r.shape.Idx → Elt F e} {hx : (m.access r).Stores Finset.univ} {hm} :
    Any F c m ⊢ W c (Prog.lift (.store m r w Finset.univ hx hm)) (fun _ => Any F c m) := by
  iintro ⟨%f, H⟩
  iapply (useT (spec_store (c := c) (m := m) (r := r) (w := w) (hx := hx) (hm := hm) (f := f))) $$ H
  iintro %v H
  iexists _; iexact H
end

/-! ## A copy of a whole buffer -/

section
variable {sp sp' : Space} {s : Shape} {e : EltTy} {src : Memref sig .tc sp s e} {dst : Memref sig .tc sp' s e} {sm : DmaSem sig}
  {fs : Buf (Elt F) (src.view.loc (c : Thread nD τ))} {G : Buf (Elt F) (dst.view.loc (c : Thread nD τ))}

theorem spec_startW {hs hd ht} (h1 : src.view.set = Finset.univ) (h2 : dst.view.set = Finset.univ)
    (hG : dst.view.read (Elt F) G = src.view.read (Elt F) fs) (hN : 0 < dst.view.dmaCredit) :
    iprop(Is c src fs ∗ Any F c dst ∗ Sem0 F c sm)
      ⊢ W c (Prog.lift (.enqueueDma src (.here dst) (.dma sm) hs hd ht)) (fun _ => Fly c src dst sm fs G) := by
  have h := spec_start (c := c) (src := src) (dst := dst) (sm := sm) (hs := hs) (hd := hd) (ht := ht) (fs := fs) G hG hN
  unfold Ends0 at h
  rw [h1, h2] at h
  exact h

theorem spec_waitW {hs hd} (h1 : src.view.set = Finset.univ) (h2 : dst.view.set = Finset.univ) :
    iprop(Fly c src dst sm fs G ∗ Ow c)
      ⊢ W c (Prog.lift (.waitDma2 sm src dst hs hd)) (fun _ => iprop((Is c src fs ∗ Is c dst G ∗ Sem0 F c sm) ∗ Ow c)) := by
  have h := spec_wait (c := c) (src := src) (dst := dst) (sm := sm) (hs := hs) (hd := hd) (fs := fs) (G := G)
  unfold Ends1 at h
  rw [h1, h2] at h
  exact h
end

variable (I : Inp F)

abbrev Fs0 (c : Dev nD) : sProp (MM F) := Fly c mHS vHS (semSmall 0) I.hs I.hs
abbrev Fs1 (c : Dev nD) : sProp (MM F) := Fly c mWS sWS (semSmall 1) I.ws I.ws
abbrev Fs2 (c : Dev nD) : sProp (MM F) := Fly c mPos vPos (semSmall 2) I.pos I.pos
abbrev Fs3 (c : Dev nD) : sProp (MM F) := Fly c mIF vIF (semSmall 3) I.fr I.fr
abbrev Fs4 (c : Dev nD) : sProp (MM F) := Fly c mNW vNW (semSmall 4) I.nw I.nw
abbrev Fs5 (c : Dev nD) : sProp (MM F) := Fly c mQS sQS (semSmall 5) I.qs I.qs
abbrev FsR (c : Dev nD) : sProp (MM F) := Fly c mRes vRes semRes I.res I.res

theorem setW {sp : Space} {s : Shape} {e : EltTy} {m : Memref sig .tc sp s e} (h : m.view.set = Finset.univ) : m.view.set = Finset.univ := h

theorem spec_start0 : iprop(Is c mHS I.hs ∗ Any F c vHS ∗ Sem0 F c (semSmall 0)) ⊢ W c startSmall0 (fun _ => Fs0 I c) := by
  unfold startSmall0
  exact spec_startW (src := mHS) (dst := vHS) (sm := semSmall 0) (fs := I.hs) (G := I.hs) (View.set_whole _) (View.set_whole _) rfl (by decide)
theorem spec_start1 : iprop(Is c mWS I.ws ∗ Any F c sWS ∗ Sem0 F c (semSmall 1)) ⊢ W c startSmall1 (fun _ => Fs1 I c) := by
  unfold startSmall1
  exact spec_startW (src := mWS) (dst := sWS) (sm := semSmall 1) (fs := I.ws) (G := I.ws) (View.set_whole _) (View.set_whole _) rfl (by decide)
theorem spec_start2 : iprop(Is c mPos I.pos ∗ Any F c vPos ∗ Sem0 F c (semSmall 2)) ⊢ W c startSmall2 (fun _ => Fs2 I c) := by
  unfold startSmall2
  exact spec_startW (src := mPos) (dst := vPos) (sm := semSmall 2) (fs := I.pos) (G := I.pos) (View.set_whole _) (View.set_whole _) rfl (by decide)
theorem spec_start3 : iprop(Is c mIF I.fr ∗ Any F c vIF ∗ Sem0 F c (semSmall 3)) ⊢ W c startSmall3 (fun _ => Fs3 I c) := by
  unfold startSmall3
  exact spec_startW (src := mIF) (dst := vIF) (sm := semSmall 3) (fs := I.fr) (G := I.fr) (View.set_whole _) (View.set_whole _) rfl (by decide)
theorem spec_start4 : iprop(Is c mNW I.nw ∗ Any F c vNW ∗ Sem0 F c (semSmall 4)) ⊢ W c startSmall4 (fun _ => Fs4 I c) := by
  unfold startSmall4
  exact spec_startW (src := mNW) (dst := vNW) (sm := semSmall 4) (fs := I.nw) (G := I.nw) (View.set_whole _) (View.set_whole _) rfl (by decide)
theorem spec_start5 : iprop(Is c mQS I.qs ∗ Any F c sQS ∗ Sem0 F c (semSmall 5)) ⊢ W c startSmall5 (fun _ => Fs5 I c) := by
  unfold startSmall5
  exact spec_startW (src := mQS) (dst := sQS) (sm := semSmall 5) (fs := I.qs) (G := I.qs) (View.set_whole _) (View.set_whole _) rfl (by decide)
theorem spec_startR : iprop(Is c mRes I.res ∗ Any F c vRes ∗ Sem0 F c semRes) ⊢ W c startRes (fun _ => FsR I c) := by
  unfold startRes
  exact spec_startW (src := mRes) (dst := vRes) (sm := semRes) (fs := I.res) (G := I.res) (View.set_whole _) (View.set_whole _) rfl (by decide)

theorem spec_wait0 : iprop(Fs0 I c ∗ Ow c) ⊢ W c waitSmall0 (fun _ => iprop((Is c mHS I.hs ∗ Is c vHS I.hs ∗ Sem0 F c (semSmall 0)) ∗ Ow c)) := by
  unfold waitSmall0
  exact spec_waitW (src := mHS) (dst := vHS) (sm := semSmall 0) (fs := I.hs) (G := I.hs) (View.set_whole _) (View.set_whole _)
theorem spec_wait1 : iprop(Fs1 I c ∗ Ow c) ⊢ W c waitSmall1 (fun _ => iprop((Is c mWS I.ws ∗ Is c sWS I.ws ∗ Sem0 F c (semSmall 1)) ∗ Ow c)) := by
  unfold waitSmall1
  exact spec_waitW (src := mWS) (dst := sWS) (sm := semSmall 1) (fs := I.ws) (G := I.ws) (View.set_whole _) (View.set_whole _)
theorem spec_wait2 : iprop(Fs2 I c ∗ Ow c) ⊢ W c waitSmall2 (fun _ => iprop((Is c mPos I.pos ∗ Is c vPos I.pos ∗ Sem0 F c (semSmall 2)) ∗ Ow c)) := by
  unfold waitSmall2
  exact spec_waitW (src := mPos) (dst := vPos) (sm := semSmall 2) (fs := I.pos) (G := I.pos) (View.set_whole _) (View.set_whole _)
theorem spec_wait3 : iprop(Fs3 I c ∗ Ow c) ⊢ W c waitSmall3 (fun _ => iprop((Is c mIF I.fr ∗ Is c vIF I.fr ∗ Sem0 F c (semSmall 3)) ∗ Ow c)) := by
  unfold waitSmall3
  exact spec_waitW (src := mIF) (dst := vIF) (sm := semSmall 3) (fs := I.fr) (G := I.fr) (View.set_whole _) (View.set_whole _)
theorem spec_wait4 : iprop(Fs4 I c ∗ Ow c) ⊢ W c waitSmall4 (fun _ => iprop((Is c mNW I.nw ∗ Is c vNW I.nw ∗ Sem0 F c (semSmall 4)) ∗ Ow c)) := by
  unfold waitSmall4
  exact spec_waitW (src := mNW) (dst := vNW) (sm := semSmall 4) (fs := I.nw) (G := I.nw) (View.set_whole _) (View.set_whole _)
theorem spec_wait5 : iprop(Fs5 I c ∗ Ow c) ⊢ W c waitSmall5 (fun _ => iprop((Is c mQS I.qs ∗ Is c sQS I.qs ∗ Sem0 F c (semSmall 5)) ∗ Ow c)) := by
  unfold waitSmall5
  exact spec_waitW (src := mQS) (dst := sQS) (sm := semSmall 5) (fs := I.qs) (G := I.qs) (View.set_whole _) (View.set_whole _)
theorem spec_waitR : iprop(FsR I c ∗ Ow c) ⊢ W c waitRes (fun _ => iprop((Is c mRes I.res ∗ Is c vRes I.res ∗ Sem0 F c semRes) ∗ Ow c)) := by
  unfold waitRes
  exact spec_waitW (src := mRes) (dst := vRes) (sm := semRes) (fs := I.res) (G := I.res) (View.set_whole _) (View.set_whole _)

/-! ## The turns of the positions -/

theorem spec_rope : iprop(Is c vPos I.pos ∗ Is c vIF I.fr ∗ Any F c vCos ∗ Any F c vSin)
    ⊢ W c rope (fun _ => iprop(Is c vPos I.pos ∗ Is c vIF I.fr ∗ Any F c vCos ∗ Any F c vSin)) := by
  unfold rope
  iintro ⟨H1, H2, H3, H4⟩
  iapply (useB (spec_loadIs (c := c) (m := vPos) (f := I.pos))) $$ H1
  iintro %v0 ⟨%_, H1⟩
  iapply (useB (spec_loadIs (c := c) (m := vIF) (f := I.fr))) $$ H2
  iintro %f0 ⟨%_, H2⟩
  iapply (useB (spec_loadAny (c := c) (m := vCos))) $$ H3
  iintro %_ H3
  iapply (useB (spec_storeAny (c := c) (m := vCos))) $$ H3
  iintro %_ H3
  iapply (useB (spec_loadAny (c := c) (m := vSin))) $$ H4
  iintro %_ H4
  iapply (useB (spec_storeAny (c := c) (m := vSin))) $$ H4
  iintro %_ H4
  iapply (useB (spec_loadIs (c := c) (m := vPos) (f := I.pos))) $$ H1
  iintro %v0 ⟨%_, H1⟩
  iapply (useB (spec_loadIs (c := c) (m := vIF) (f := I.fr))) $$ H2
  iintro %f0 ⟨%_, H2⟩
  iapply (useB (spec_loadAny (c := c) (m := vCos))) $$ H3
  iintro %_ H3
  iapply (useB (spec_storeAny (c := c) (m := vCos))) $$ H3
  iintro %_ H3
  iapply (useB (spec_loadAny (c := c) (m := vSin))) $$ H4
  iintro %_ H4
  iapply (useT (spec_storeAny (c := c) (m := vSin))) $$ H4
  iintro %_ H4
  isplitl [H1]; · iexact H1
  isplitl [H2]; · iexact H2
  isplitl [H3]; · iexact H3
  iexact H4

end Cert.KernelIdeal.Hand
-- ==== Proof.Phase.lean ====
module

public import proofs.«01_k».proof.Proof.Small

/-! The sums in the accumulators and the tiles of the result. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {c : Dev nD}

/-! ## The sums -/

section
variable (e : Env F)

/-- The pass of the tile `t` at the unit `n` of rows. -/
def passT (t : Fin 12) (n : Nat) : FVec F S256x256 .f32 :=
  passV (lhsG e ⟨n / 2 % 16, Nat.mod_lt _ (by decide)⟩ ⟨n % 2, Nat.mod_lt _ (by decide)⟩)
    (tileG e t ⟨n / 2 % 16, Nat.mod_lt _ (by decide)⟩ ⟨n % 2, Nat.mod_lt _ (by decide)⟩)

/-- The sum of the first `n` passes of the tile `t`. -/
def part (t : Fin 12) : Nat → Option (FVec F S256x256 .f32)
  | 0 => none
  | n + 1 => some (dep (part t n) (passT e t n))

/-- The sum of all its passes. -/
def full (t : Fin 12) : FVec F S256x256 .f32 := dep (part e t 31) (passT e t 31)
theorem part_full (t : Fin 12) : part e t 32 = some (full e t) := rfl

theorem passU_eq (g : Fin 16) (kk : Fin 2) (T : Fin 6) (q : Fin 2) : passU e ⟨g, kk, T⟩ q = passT e (tcol T q) (2 * g.1 + kk.1) := by
  have h := g.2
  have h' := kk.2
  have e1 : ∀ h, (⟨(2 * g.1 + kk.1) / 2 % 16, h⟩ : Fin 16) = g := fun h => Fin.ext (show (2 * g.1 + kk.1) / 2 % 16 = g.1 by omega)
  have e2 : ∀ h, (⟨(2 * g.1 + kk.1) % 2, h⟩ : Fin 2) = kk := fun h => Fin.ext (show (2 * g.1 + kk.1) % 2 = kk.1 by omega)
  unfold passT passU tileU
  rw [e1, e2]

/-- The accumulators of the first phase after `n` chunks. -/
def DA (n : Nat) : Acc F := fun q a => part e (tcol ⟨a.1, by omega⟩ q) (2 * n)
/-- The accumulators of the later phases after `n` units. -/
def DB (T : Fin 6) (n : Nat) : Acc F := fun q a => if a = slot T then part e (tcol T q) n else none
/-- The accumulators of the first phase when `n` tiles are popped. -/
def DP (n : Nat) : Acc F := fun q a => if 2 * a.1 + q.1 < n then none else part e (tcol ⟨a.1, by omega⟩ q) 32

theorem addL_A (g : Fin 16) : addL e (DA e g.1) (unitsA g) = DA e (g.1 + 1) := by
  funext q a
  have h0 : (0 : Fin 4) = slot 0 := rfl
  have h1 : (1 : Fin 4) = slot 1 := rfl
  have h2 : (2 : Fin 4) = slot 2 := rfl
  have h3 : (3 : Fin 4) = slot 3 := rfl
  show addU e (addU e (addU e (addU e (addU e (addU e (addU e (addU e (DA e g.1) _) _) _) _) _) _) _) _ q a
    = some (dep (some (dep (part e (tcol ⟨a.1, by omega⟩ q) (2 * g.1)) (passT e _ (2 * g.1)))) (passT e _ (2 * g.1 + 1)))
  simp only [addU, passU_eq, ← h0, ← h1, ← h2, ← h3]
  match a with
  | 0 => rfl
  | 1 => rfl
  | 2 => rfl
  | 3 => rfl

theorem addL_B (T : Fin 6) (i : Fin 4) : addL e (DB e T (8 * i.1)) (unitsB T i) = DB e T (8 * i.1 + 8) := by
  funext q a
  show addU e (addU e (addU e (addU e (addU e (addU e (addU e (addU e (DB e T (8 * i.1)) _) _) _) _) _) _) _) _ q a = _
  by_cases h : a = slot T
  · subst h
    simp only [addU, passU_eq, if_true, DB]
    simp only [show ∀ j : Fin 4, (ch i j).1 = i.1 * 4 + j.1 from fun _ => rfl]
    rw [show 2 * (i.1 * 4 + (0 : Fin 4).1) + (0 : Fin 2).1 = 8 * i.1 by show 2 * (i.1 * 4 + 0) + 0 = _; omega,
      show 2 * (i.1 * 4 + (0 : Fin 4).1) + (1 : Fin 2).1 = 8 * i.1 + 1 by show 2 * (i.1 * 4 + 0) + 1 = _; omega,
      show 2 * (i.1 * 4 + (1 : Fin 4).1) + (0 : Fin 2).1 = 8 * i.1 + 2 by show 2 * (i.1 * 4 + 1) + 0 = _; omega,
      show 2 * (i.1 * 4 + (1 : Fin 4).1) + (1 : Fin 2).1 = 8 * i.1 + 3 by show 2 * (i.1 * 4 + 1) + 1 = _; omega,
      show 2 * (i.1 * 4 + (2 : Fin 4).1) + (0 : Fin 2).1 = 8 * i.1 + 4 by show 2 * (i.1 * 4 + 2) + 0 = _; omega,
      show 2 * (i.1 * 4 + (2 : Fin 4).1) + (1 : Fin 2).1 = 8 * i.1 + 5 by show 2 * (i.1 * 4 + 2) + 1 = _; omega,
      show 2 * (i.1 * 4 + (3 : Fin 4).1) + (0 : Fin 2).1 = 8 * i.1 + 6 by show 2 * (i.1 * 4 + 3) + 0 = _; omega,
      show 2 * (i.1 * 4 + (3 : Fin 4).1) + (1 : Fin 2).1 = 8 * i.1 + 7 by show 2 * (i.1 * 4 + 3) + 1 = _; omega]
    rfl
  · simp only [addU, if_neg h, DB]

theorem DA_zero : DA e 0 = fun _ _ => none := rfl
theorem DB_zero (T : Fin 6) : DB e T 0 = fun _ _ => none := by
  funext q a; simp [DB, part]
theorem DP_zero : DP e 0 = DA e 16 := by funext q a; simp [DP, DA]
theorem DP_eight : DP e 8 = fun _ _ => none := by
  funext q a
  have := q.2; have := a.2
  exact if_pos (by omega)

theorem slot_low (t : Fin 12) (ht : t.1 < 8) : (slot (pairOf t)).1 = t.1 / 2 := by
  show (if t.1 / 2 < 4 then t.1 / 2 else t.1 / 2 - 4) = t.1 / 2
  rw [if_pos (by omega)]
theorem unit_val (t : Fin 12) : (unit t).1 = t.1 % 2 := rfl

theorem DP_val (t : Fin 12) (ht : t.1 < 8) : DP e t.1 (unit t) (slot (pairOf t)) = some (full e t) := by
  rw [← part_full]
  have hs := slot_low t ht
  have hu := unit_val t
  unfold DP
  rw [if_neg (by omega)]
  congr 1
  refine Fin.ext ?_
  show (slot (pairOf t)).1 * 2 + (unit t).1 = t.1
  omega
theorem DP_pop (t : Fin 12) (ht : t.1 < 8) : setD (DP e t.1) (unit t) (slot (pairOf t)) none = DP e (t.1 + 1) := by
  funext q a
  have hq := q.2
  have ha := a.2
  have hs := slot_low t ht
  have hu := unit_val t
  unfold setD DP
  by_cases h : q = unit t ∧ a = slot (pairOf t)
  · rw [if_pos h]
    have h1 := congrArg Fin.val h.1
    have h2 := congrArg Fin.val h.2
    exact (if_pos (show 2 * a.1 + q.1 < t.1 + 1 by omega)).symm
  · rw [if_neg h]
    have hne : 2 * a.1 + q.1 ≠ t.1 := fun he => h ⟨Fin.ext (by omega), Fin.ext (by omega)⟩
    by_cases hl : 2 * a.1 + q.1 < t.1
    · rw [if_pos hl, if_pos (by omega)]
    · rw [if_neg hl, if_neg (by omega)]

theorem DB_val (T : Fin 6) (q : Fin 2) : DB e T 32 q (slot T) = some (full e (tcol T q)) := by
  rw [← part_full]; exact if_pos rfl
theorem DB_pop (T : Fin 6) : setD (setD (DB e T 32) 0 (slot T) none) 1 (slot T) none = fun _ _ => none := by
  funext q a
  unfold setD DB
  rcases (show q = 0 ∨ q = 1 by omega) with rfl | rfl <;> by_cases h : a = slot T <;> simp [h]
end

/-! ## The result -/

variable (I : Inp F)

/-- What the buffers hold at the end of the copies. -/
def env : Env F := ⟨I.ws, waB I, wbB I, hpG I⟩

/-- A tile of the result, at a row and a column of it. -/
def roT (t : Fin 12) (x y : Fin 256) : Elt F .bf16 :=
  roV (F := F) (full (env I) t) ((vRes.access (rRO t)).read (Elt F) I.res) (ix2 (n0 := 256) (n1 := 256) x y)

theorem roT_congr {t t' : Fin 12} {x x' y y' : Fin 256} (h1 : t.1 = t'.1) (h2 : x.1 = x'.1) (h3 : y.1 = y'.1) : roT I t x y = roT I t' x' y' := by
  rw [Fin.ext h1, Fin.ext h2, Fin.ext h3]

/-- The result. -/
def roG : S256x3072.Idx → Elt F .bf16 := fun i =>
  roT I ⟨(i 1).val / 256, by have : (i 1).val < 3072 := (i 1).isLt; omega⟩ (show Fin 256 from i 0) ⟨(i 1).val % 256, Nat.mod_lt _ (by decide)⟩

theorem read_ro (t : Fin 12) : roV (F := F) (full (env I) t) ((vRes.access (rRO t)).read (Elt F) I.res) = (vRO.access (rRO t)).read (Elt F) (roG I) := by
  funext j
  obtain ⟨x, y, rfl⟩ : ∃ (x : Fin 256) (y : Fin 256), j = ix2 x y := ⟨j 0, j 1, eq_ix2 (n0 := 256) (n1 := 256) j⟩
  have hx := x.2
  have hy := y.2
  show roT I t x y = roT I ⟨(t.1 * 256 + 1 * y.1) / 256, _⟩ ⟨0 + 1 * x.1, _⟩ ⟨(t.1 * 256 + 1 * y.1) % 256, _⟩
  refine roT_congr I ?_ ?_ ?_
  · show t.1 = (t.1 * 256 + 1 * y.1) / 256; omega
  · show x.1 = 0 + 1 * x.1; omega
  · show y.1 = (t.1 * 256 + 1 * y.1) % 256; omega

theorem mem_RO (t : Fin 12) (i : S256x3072.Idx) (h : (i 1).val / 256 = t.1) : i ∈ (vRO.access (rRO t)).set := by
  rw [show (vRO.access (rRO t)).set = _ from View.set_slice_whole (sig := sig) cc0_scratch13 _]
  refine Rect.mem_set_unit.mpr fun a => ?_
  match a with
  | ⟨0, _⟩ => exact (show 0 ≤ (i 0).val ∧ (i 0).val < 0 + 256 from ⟨Nat.zero_le _, (Nat.zero_add _).symm ▸ (i 0).isLt⟩)
  | ⟨1, _⟩ => exact (show t.1 * 256 ≤ (i 1).val ∧ (i 1).val < t.1 * 256 + 256 by omega)

/-- The tiles below `n` of the result are there. -/
def lowRO (n : Nat) (i : S256x3072.Idx) : Prop := (i 1).val / 256 < n

/-- A store that fills a buffer. -/
theorem spec_storeAll {cs : CoreSpace} {s : Shape} {e : EltTy} {m : Memref sig .tc cs s e} {r : Rect s} {w : r.shape.Idx → Elt F e}
    {hx : (m.access r).Stores Finset.univ} {hm} (G : Buf (Elt F) (m.view.loc (c : Thread nD τ)))
    (hw : w = (m.access r).read (Elt F) G) (h : ∀ i, i ∈ (m.access r).set) :
    Any F c m ⊢ W c (Prog.lift (.store m r w Finset.univ hx hm)) (fun _ => Is c m G) := by
  iintro H
  ihave H := (Agr.start (c := c) (m := m) (P := fun _ => False) (G := G) (fun _ h => h)) $$ H
  iapply (useT (spec_storeG (c := c) (m := m) (r := r) (G := G) (P := fun _ => False) (P' := fun _ => True) (hx := hx) (hm := hm) hw
    (fun i _ => Or.inr (h i)))) $$ H
  iintro %_ H
  iapply (Agr.all (c := c) (m := m) (G := G) (fun _ => trivial)) $$ H

theorem read_all (f : S256x128.Idx → Elt F .f32) : (vSS.access rSS).read (Elt F) f = f := by
  funext j
  show f _ = f j
  congr 1
  funext a
  refine Fin.ext ?_
  match a with
  | ⟨0, _⟩ => exact (show 0 + 1 * (j 0).val = (j 0).val by omega)
  | ⟨1, _⟩ => exact (show 0 + 1 * (j 1).val = (j 1).val by omega)

theorem mem_rSS (i : S256x128.Idx) : i ∈ rSS.set := by
  refine Rect.mem_set_unit.mpr fun a => ?_
  match a with
  | ⟨0, _⟩ => exact (show 0 ≤ (i 0).val ∧ (i 0).val < 0 + 256 from ⟨Nat.zero_le _, (Nat.zero_add _).symm ▸ (i 0).isLt⟩)
  | ⟨1, _⟩ => exact (show 0 ≤ (i 1).val ∧ (i 1).val < 0 + 128 from ⟨Nat.zero_le _, (Nat.zero_add _).symm ▸ (i 1).isLt⟩)
theorem mem_SS (i : S256x128.Idx) : i ∈ (vSS.access rSS).set := by
  rw [show (vSS.access rSS).set = _ from View.set_slice_whole (sig := sig) cc0_scratch14 _]
  exact mem_rSS i

/-- The number of a tile. -/
def tn (n : Nat) : Fin 12 := ⟨n % 12, Nat.mod_lt _ (by decide)⟩
theorem tn_of (t : Fin 12) (n : Nat) (h : t.1 = n) : tn n = t := by
  have := t.2
  exact Fin.ext (show n % 12 = t.1 by omega)

/-- The sums of squares of the first `n + 1` tiles, in each lane. -/
def ssF : Nat → FVec F S256x128 .f32
  | 0 => k0_pay629 (full (env I) 0) ((vRes.access (rRO 0)).read (Elt F) I.res)
  | n + 1 => shapeCast S256x128 (k0_pay632 (full (env I) (tn (n + 1))) ((vRes.access (rRO (tn (n + 1)))).read (Elt F) I.res) (ssF n))
      shapeCasts_S256x128_S256x128

/-- The buffer of the sums of squares after `n` tiles. -/
def SSt (c : Dev nD) : Nat → sProp (MM F)
  | 0 => Any F c vSS
  | n + 1 => Is c vSS (ssF I n)

/-- What the store of a tile needs. -/
def Tr (c : Dev nD) (n : Nat) : sProp (MM F) := iprop(Is c vRes I.res ∗ Agr c vRO (lowRO n) (roG I))
/-- What the end of a tile needs. -/
def Tl (c : Dev nD) (n : Nat) : sProp (MM F) := iprop(SSt I c n ∗ Tr I c n)

variable {I}

theorem spec_stRO (t : Fin 12) (n : Nat) (hn : t.1 = n) (d : FVec F S256x256 .f32) (hd : d = full (env I) t) :
    Tr I c n ⊢ W c (stRO t d) (fun r => iprop(⌜r = (vRes.access (rRO t)).read (Elt F) I.res⌝ ∗ Tr I c (n + 1))) := by
  subst hn
  unfold stRO Tr
  iintro ⟨H1, H2⟩
  iapply (useB (spec_loadIs (c := c) (m := vRes) (f := I.res) (r := rRO t) (hl := View.loadsAt_vmem h_S256x256))) $$ H1
  iintro %r ⟨%hr, H1⟩
  iapply (useB (spec_loadA (c := c) (m := vRO) (r := rRO t) (G := roG I))) $$ H2
  iintro %_ H2
  iapply (useB (spec_storeG (c := c) (m := vRO) (r := rRO t) (G := roG I) (P := lowRO t.1) (P' := lowRO (t.1 + 1))
    (by rw [hr, hd]; exact read_ro I t) (fun i hi => by
      by_cases h : ((show S256x3072.Idx from i) 1).val / 256 = t.1
      · exact Or.inr (mem_RO t i h)
      · exact Or.inl (Nat.lt_of_le_of_ne (Nat.lt_succ_iff.mp hi) h)))) $$ H2
  iintro %_ H2
  have e : iprop(Is c vRes I.res ∗ Agr c vRO (lowRO (t.1 + 1)) (roG I)) ⊢ W c (pure r : PR F (Vec F S256x256 .bf16))
      (fun r => iprop(⌜r = (vRes.access (rRO t)).read (Elt F) I.res⌝ ∗ Is c vRes I.res ∗ Agr c vRO (lowRO (t.1 + 1)) (roG I))) := ret (by
    iintro H
    isplitr; · ipureintro; exact hr
    iexact H)
  iapply e
  isplitl [H1]; · iexact H1
  iexact H2

theorem Tl.open (n : Nat) : Tl I c n ⊢ iprop(SSt I c n ∗ Tr I c n) := .rfl
theorem Tl.close (n : Nat) : iprop(SSt I c n ∗ Tr I c n) ⊢ Tl I c n := .rfl
theorem Tl.openS (n : Nat) : Tl I c (n + 1) ⊢ iprop(Is c vSS (ssF I n) ∗ Tr I c (n + 1)) := .rfl
theorem Tl.closeS (n : Nat) : iprop(Is c vSS (ssF I n) ∗ Tr I c (n + 1)) ⊢ Tl I c (n + 1) := .rfl
theorem Tl.open0 : Tl I c 0 ⊢ iprop(Any F c vSS ∗ Tr I c 0) := .rfl

variable {m : Mxu F} {D : Acc F} {R : Regs F}

theorem spec_popT (t : Fin 12) {P : sProp (MM F)} (h : Rep m D R) :
    P ⊢ W c (pure (popT t m) : PR F (Mxu F)) (fun m' => iprop(⌜Rep m' (setD D (unit t) (slot (pairOf t)) none) R⌝ ∗ P)) := by
  refine ret ?_
  iintro H
  isplitr
  · ipureintro; exact h.popped (unit t) (slot (pairOf t))
  iexact H

theorem read_at (q : Fin 2) (a : Fin 4) : ∀ (A : Nat) (hA : A = a.1 * 64) (hf : Mxu.Fits A 256), m.read q A hf = m.read q (a.1 * 64) (fits4 a) := by
  rintro _ rfl _; rfl

theorem readT_eq (t : Fin 12) {v : FVec F S256x256 .f32} (h : Rep m D R) (hv : D (unit t) (slot (pairOf t)) = some v) : readT t m = v := by
  unfold readT
  exact (read_at (unit t) (slot (pairOf t)) _ (addr_eq (pairOf t)) _).trans (h.readV hv)

theorem spec_epiFirst (h : Rep m D R) (hv : D (unit 0) (slot (pairOf 0)) = some (full (env I) 0)) :
    Tl I c 0 ⊢ W c (epiFirst 0 m) (fun m' => iprop(⌜Rep m' (setD D (unit 0) (slot (pairOf 0)) none) R⌝ ∗ Tl I c 1)) := by
  unfold epiFirst ldSS stSS
  iintro H
  ihave H := (Tl.open0 (c := c) (I := I)) $$ H
  icases H with ⟨H, H'⟩
  iapply (useB (spec_stRO (c := c) (I := I) 0 0 rfl (readT 0 m) (readT_eq 0 h hv))) $$ H'
  iintro %r ⟨%hr, H'⟩
  iapply (useB (spec_loadAny (c := c) (m := vSS))) $$ H
  iintro %_ H
  iapply (useB (spec_storeAll (c := c) (m := vSS) (r := rSS) (ssF I 0)
    (by rw [read_all, hr, readT_eq 0 h hv]; rfl) (fun i => mem_SS i))) $$ H
  iintro %_ H
  iapply (spec_popT (c := c) 0 h)
  iapply (Tl.closeS (c := c) (I := I) 0)
  isplitl [H]; · iexact H
  iexact H'

theorem spec_epi (t : Fin 12) (k : Nat) (hk : t.1 = k + 1) (h : Rep m D R) (hv : D (unit t) (slot (pairOf t)) = some (full (env I) t)) :
    Tl I c (k + 1) ⊢ W c (epi t m) (fun m' => iprop(⌜Rep m' (setD D (unit t) (slot (pairOf t)) none) R⌝ ∗ Tl I c (k + 1 + 1))) := by
  unfold epi ldSS stSS
  iintro H
  ihave H := (Tl.openS (c := c) (I := I) k) $$ H
  icases H with ⟨H, H'⟩
  iapply (useB (spec_stRO (c := c) (I := I) t (k + 1) hk (readT t m) (readT_eq t h hv))) $$ H'
  iintro %r ⟨%hr, H'⟩
  iapply (useB (spec_loadIs (c := c) (m := vSS) (f := ssF I k))) $$ H
  iintro %s ⟨%hs, H⟩
  iapply (useB (spec_loadIs (c := c) (m := vSS) (f := ssF I k))) $$ H
  iintro %_ ⟨%_, H⟩
  ihave H := (Is.any (c := c) (m := vSS) (f := ssF I k)) $$ H
  iapply (useB (spec_storeAll (c := c) (m := vSS) (r := rSS) (ssF I (k + 1))
    (by rw [read_all, hr, hs, readT_eq t h hv, read_all]; show _ = shapeCast S256x128 (k0_pay632 _ _ _) _; rw [tn_of t (k + 1) hk])
    (fun i => mem_SS i))) $$ H
  iintro %_ H
  iapply (spec_popT (c := c) t h)
  iapply (Tl.closeS (c := c) (I := I) (k + 1))
  isplitl [H]; · iexact H
  iexact H'

end Cert.KernelIdeal.Hand
-- ==== Proof.Same.lean ====
module

public import proofs.«01_k».proof.Proof.Prog
public import proofs.«01_k».proof.Proof.Gen.Kernel
public import Idealize.ShloMosaic.Lib.Pipeline.Regions

/-! The printed body of each loop is the short program's. -/

@[expose] public section

set_option maxRecDepth 65536
set_option maxHeartbeats 0

namespace Cert.KernelIdeal.Hand

open Idealize.ShloMosaic Idealize.SL.Sem Cert.KernelIdeal Cert.KernelIdeal.Gen

variable {F : FTy → Type} [FloatOps F]

theorem trips1 : k0_t1_loop.trips = 15 := by decide
theorem trips2 : k0_t2_loop.trips = 2 := by decide
theorem trips4 : k0_t4_loop.trips = 11 := by decide
theorem trips3 : k0_t3_loop.trips = 2 := by decide

theorem t1_eq (m' : Mxu F) (x : FVec F S256x256 .fp8e4m3) (y : FVec F S128x256 .bf16) :
    k0_t1_body mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27 m' x y = fun k m => tripA ⟨k.1, trips1 ▸ k.2⟩ m := by
  funext k m
  obtain ⟨n, hn⟩ := k
  have h : n < 15 := trips1 ▸ hn
  interval_cases n <;> (show _ = _; chain_rfl)

theorem t2_eq (m' : Mxu F) : k0_t2_body mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27 m' 0#32 1#32 = fun k m => tripB 4 ⟨k.1, trips2 ▸ k.2⟩ m := by
  funext k m
  obtain ⟨n, hn⟩ := k
  have h : n < 2 := trips2 ▸ hn
  interval_cases n <;> (show _ = _; chain_rfl)

theorem t3_eq (m' : Mxu F) (x : FVec F S256x256 .fp8e4m3) (y : FVec F S128x256 .bf16) (z : FVec F S8x16x128 .bf16) :
    k0_t3_body mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27 m' x y z = fun k m => tripB 5 ⟨k.1, trips3 ▸ k.2⟩ m := by
  funext k m
  obtain ⟨n, hn⟩ := k
  have h : n < 2 := trips3 ▸ hn
  interval_cases n <;> (show _ = _; chain_rfl)

theorem t4_eq (l : IVec S8x128 32) (hl : l = lane) (x y z : FVec F S256x128 .f32) :
    k0_t4_body mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27 l x y z = fun k _ => tripQ ⟨k.1, trips4 ▸ k.2⟩ := by
  subst hl
  funext k _
  obtain ⟨n, hn⟩ := k
  have h : n < 11 := trips4 ▸ hn
  interval_cases n <;> (show _ = _; chain_rfl)

theorem root_eq : cc0_junction (F := F) mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27 = rootP (k0_t1_body mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27) (k0_t2_body mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27) (k0_t3_body mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27) (k0_t4_body mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27) := by
  chain_rfl

/-- The short program. -/
noncomputable def cleanP : PR F PUnit := do
  pre
  let m ← pushU ⟨0, 0, 0⟩ 0 mxu0
  let m ← Scf.Loop.for k0_t1_loop k0_t1_ok m (fun k m => tripA ⟨k.1, trips1 ▸ k.2⟩ m)
  waitMid
  each waitWB (allF 16)
  let m ← streamP (unitsA 15) (some ⟨0, 0, 4⟩) m
  let m ← epiFirst 0 m
  let m ← epi 1 m
  let m ← epi 2 m
  let m ← epi 3 m
  let m ← epi 4 m
  let m ← epi 5 m
  let m ← epi 6 m
  let m ← epi 7 m
  rope
  let m ← streamP (unitsB 4 0) (some ⟨4, 0, 4⟩) m
  let m ← Scf.Loop.for k0_t2_loop k0_t2_ok m (fun k m => tripB 4 ⟨k.1, trips2 ▸ k.2⟩ m)
  let m ← streamP (unitsB 4 3) (some ⟨0, 0, 5⟩) m
  let m ← epi 8 m
  let m ← epi 9 m
  let m ← streamP (unitsB 5 0) (some ⟨4, 0, 5⟩) m
  let m ← Scf.Loop.for k0_t3_loop k0_t3_ok m (fun k m => tripB 5 ⟨k.1, trips3 ▸ k.2⟩ m)
  each waitWQ (allF 12)
  let m ← streamP (unitsB 5 3) none m
  let m ← epi 10 m
  let m ← epi 11 m
  tailA
  let _ ← Scf.Loop.for k0_t4_loop k0_t4_ok ⟨⟩ (fun k _ => tripQ ⟨k.1, trips4 ▸ k.2⟩)
  tailB
  m.exit
  pure ⟨⟩

theorem rootP_eq (b1 : Fin k0_t1_loop.trips → Mxu F → PR F (Mxu F)) (b2 : Fin k0_t2_loop.trips → Mxu F → PR F (Mxu F))
    (B2 : Reg2 F) (h2 : ∀ m, B2 m 0#32 1#32 = b2)
    (b3 : Fin k0_t3_loop.trips → Mxu F → PR F (Mxu F))
    (b4 : Fin k0_t4_loop.trips → Unit → PR F Unit) (B4 : Reg4 F) (h4 : ∀ x y z, B4 lane x y z = b4) :
    rootP (fun _ _ _ => b1) B2 (fun _ _ _ _ => b3) B4 = (do
  pre
  let m ← pushU ⟨0, 0, 0⟩ 0 mxu0
  let m ← Scf.Loop.for k0_t1_loop k0_t1_ok m b1
  waitMid
  each waitWB (allF 16)
  let m ← streamP (unitsA 15) (some ⟨0, 0, 4⟩) m
  let m ← epiFirst 0 m
  let m ← epi 1 m
  let m ← epi 2 m
  let m ← epi 3 m
  let m ← epi 4 m
  let m ← epi 5 m
  let m ← epi 6 m
  let m ← epi 7 m
  rope
  let m ← streamP (unitsB 4 0) (some ⟨4, 0, 4⟩) m
  let m ← Scf.Loop.for k0_t2_loop k0_t2_ok m b2
  let m ← streamP (unitsB 4 3) (some ⟨0, 0, 5⟩) m
  let m ← epi 8 m
  let m ← epi 9 m
  let m ← streamP (unitsB 5 0) (some ⟨4, 0, 5⟩) m
  let m ← Scf.Loop.for k0_t3_loop k0_t3_ok m b3
  each waitWQ (allF 12)
  let m ← streamP (unitsB 5 3) none m
  let m ← epi 10 m
  let m ← epi 11 m
  tailA
  let _ ← Scf.Loop.for k0_t4_loop k0_t4_ok ⟨⟩ b4
  tailB
  m.exit
  pure ⟨⟩) := by
  have h3 : ∀ m a, stretch3 B4 lane m a = stretch3 (fun _ _ _ _ => b4) lane m a := fun m a => by
    simp only [stretch3, h4]
  simp only [rootP, stretch1, stretch2, bind_assoc, pure_bind, h2, h3]
  simp only [stretch3, tailB, turnXS, bind_assoc, pure_bind]
  show _ = _
  chain_rfl

theorem clean_eq : cc0_junction (F := F) mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27 = cleanP := by
  rw [root_eq]
  rw [show k0_t1_body (F := F) mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27 = fun _ _ _ => fun k m => tripA ⟨k.1, trips1 ▸ k.2⟩ m from
      funext fun a => funext fun b => funext fun c => t1_eq a b c,
    show k0_t3_body (F := F) mH wmH mHS wmHS mWD wmWD mWS wmWS mRes wmRes mNW wmNW mWQ wmWQ mQS wmQS mPos wmPos mIF wmIF mOut wmOut mXC wmXC mXS wmXS vH wvH vHS wvHS vHSB wvHSB vHP wvHP vWA wvWA vWB wvWB sWS wsWS vRes wvRes vNW wvNW vWQ wvWQ sQS wsQS vPos wvPos vIF wvIF vRO wvRO vSS wvSS vRS wvRS vXP wvXP vXC wvXC vSC wvSC vXS wvXS vCos wvCos vSin wvSin cc0_scratch22 cc0_scratch23 cc0_scratch24 cc0_scratch25 cc0_scratch26 cc0_scratch27 = fun _ _ _ _ => fun k m => tripB 5 ⟨k.1, trips3 ▸ k.2⟩ m from
      funext fun a => funext fun b => funext fun c => funext fun d => t3_eq a b c d,
    rootP_eq _ (fun k m => tripB 4 ⟨k.1, trips2 ▸ k.2⟩ m) _ t2_eq _ (fun k _ => tripQ ⟨k.1, trips4 ▸ k.2⟩) _ (fun x y z => t4_eq lane rfl x y z)]
  rfl

theorem kernel_body_eq : @Cert.Kernel.cc0_junction F _ _ = @cc0_junction F _ _ := rfl

end Cert.KernelIdeal.Hand
-- ==== Proof.Loops.lean ====
module

public import proofs.«01_k».proof.Proof.Phase
public import proofs.«01_k».proof.Proof.Same

/-! The body from its start to its first loop, and the loops. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {c : Dev nD}

theorem bigL_cons {T : Type} (Φ : T → sProp (MM F)) (a : T) (l : List T) : bigL Φ (a :: l) = iprop(Φ a ∗ bigL Φ l) := rfl

theorem each0 {ι : Type} {f : ι → PR F PUnit} {Φ Ψ : ι → sProp (MM F)} (h : ∀ a, Φ a ⊢ W c (f a) (fun _ => Ψ a)) :
    ∀ l, bigL Φ l ⊢ W c (each f l) (fun _ => bigL Ψ l)
  | [] => ret .rfl
  | a :: l => seqF (h a) fun _ => by
    have e : iprop(Ψ a ∗ bigL Φ l) ⊢ iprop(bigL Φ l ∗ Ψ a) := by
      iintro ⟨H1, H2⟩
      isplitl [H2] <;> iassumption
    have e' : iprop(bigL Ψ l ∗ Ψ a) ⊢ bigL Ψ (a :: l) := by
      show _ ⊢ iprop(Ψ a ∗ bigL Ψ l)
      iintro ⟨H1, H2⟩
      isplitl [H2] <;> iassumption
    exact e.trans (conseq (frameR (each0 h l)) fun _ => e')

theorem spec_for {σ : Type} (lb ub st : BitVec 32) (hok : Scf.OK lb ub st) (init : σ) (body : Fin (Scf.trips lb ub st) → σ → PR F σ)
    (J : Nat → σ → sProp (MM F)) (hb : ∀ k acc, J k.val acc ⊢ W c (body k acc) (J (k.val + 1))) :
    J 0 init ⊢ W c (Scf.for lb ub st hok init body) (J (Scf.trips lb ub st)) := by
  have h := Scf.wp_for frame (wpE (defs₀ (F := F)) Variants.none (c : Thread nD τ) none) Set.univ lb ub st hok init body J hb (Q := J (Scf.trips lb ub st))
  have e : J 0 init ⊢ iprop(J 0 init ∗ (∀ acc', J (Scf.trips lb ub st) acc' -∗ J (Scf.trips lb ub st) acc')) := by
    iintro H
    isplitl [H]; · iexact H
    iintro %_ H; iexact H
  exact e.trans h

variable (I : Inp F)

/-! ## The starts -/

/-- A small copy before it starts. -/
def S0 (c : Dev nD) {sp sp' : Space} {s : Shape} {e : EltTy} (src : Memref sig .tc sp s e) (dst : Memref sig .tc sp' s e) (sm : DmaSem sig)
    (f : Buf (Elt F) (src.view.loc (c : Thread nD τ))) : sProp (MM F) := iprop(Is c src f ∗ Any F c dst ∗ Sem0 F c sm)

def smalls0 (c : Dev nD) : sProp (MM F) :=
  iprop(S0 c mHS vHS (semSmall 0) I.hs ∗ S0 c mWS sWS (semSmall 1) I.ws ∗ S0 c mPos vPos (semSmall 2) I.pos ∗ S0 c mIF vIF (semSmall 3) I.fr
    ∗ S0 c mNW vNW (semSmall 4) I.nw ∗ S0 c mQS sQS (semSmall 5) I.qs ∗ S0 c mRes vRes semRes I.res)

def late (c : Dev nD) : sProp (MM F) := iprop(Fs2 I c ∗ Fs3 I c ∗ Fs4 I c ∗ Fs5 I c ∗ FsR I c ∗ bigL (FlWB I c) (allF 16) ∗ bigL (FlWQ I c) (allF 12))

abbrev FlA (c : Dev nD) (g : Fin 16) : sProp (MM F) := iprop(FlH I c g ∗ FlWA I c g)

variable {I}

theorem spec_startA (g : Fin 16) : iprop(E0H I c g ∗ E0WA I c g) ⊢ W c (startH g >>= fun _ => startWA g) (fun _ => FlA I c g) := by
  refine seqF (spec_startH g) fun _ => ?_
  have e : iprop(FlH I c g ∗ E0WA I c g) ⊢ iprop(E0WA I c g ∗ FlH I c g) := by
    iintro ⟨H1, H2⟩
    isplitl [H2] <;> iassumption
  refine e.trans (conseq (frameR (spec_startWA g)) fun _ => ?_)
  iintro ⟨H1, H2⟩
  isplitl [H2] <;> iassumption

theorem spec_starts : iprop(smalls0 I c ∗ bigL (E0H I c) (allF 16) ∗ bigL (E0WA I c) (allF 16) ∗ bigL (E0WB I c) (allF 16) ∗ bigL (E0WQ I c) (allF 12))
    ⊢ W c starts (fun _ => iprop(Fs0 I c ∗ Fs1 I c ∗ FlA I c 0 ∗ bigL (FlA I c) (rest 0) ∗ late I c)) := by
  unfold starts smalls0 S0 late
  iintro ⟨⟨A0, A1, A2, A3, A4, A5, AR⟩, B1, B2, B3, B4⟩
  ihave B := (sep_bigL (F := F) (E0H I c) (E0WA I c) (allF 16)) $$ [B1 B2]
  · isplitl [B1] <;> iassumption
  ihave B := (ofEq (show bigL (fun g => iprop(E0H I c g ∗ E0WA I c g)) (allF 16)
    = iprop((E0H I c 0 ∗ E0WA I c 0) ∗ bigL (fun g => iprop(E0H I c g ∗ E0WA I c g)) (rest 0)) by rw [all16]; rfl)) $$ B
  icases B with ⟨⟨B1, B2⟩, B⟩
  iapply (useB (spec_start0 I (c := c))) $$ A0
  iintro %_ A0
  iapply (useB (spec_start1 I (c := c))) $$ A1
  iintro %_ A1
  iapply (useB (spec_startH (I := I) (c := c) 0)) $$ B1
  iintro %_ B1
  iapply (useB (spec_startWA (I := I) (c := c) 0)) $$ B2
  iintro %_ B2
  iapply (useB (spec_start2 I (c := c))) $$ A2
  iintro %_ A2
  iapply (useB (spec_start3 I (c := c))) $$ A3
  iintro %_ A3
  iapply (useB (spec_start4 I (c := c))) $$ A4
  iintro %_ A4
  iapply (useB (spec_start5 I (c := c))) $$ A5
  iintro %_ A5
  iapply (useB (each0 (c := c) (f := fun g => startH g >>= fun _ => startWA g) (Φ := fun g => iprop(E0H I c g ∗ E0WA I c g)) (Ψ := FlA I c)
    (fun g => spec_startA g) (rest 0))) $$ B
  iintro %_ B
  iapply (useB (spec_startR I (c := c))) $$ AR
  iintro %_ AR
  iapply (useB (each0 (c := c) (f := startWB) (Φ := E0WB I c) (Ψ := FlWB I c) (fun g => spec_startWB g) (allF 16))) $$ B3
  iintro %_ B3
  iapply (useT (each0 (c := c) (f := startWQ) (Φ := E0WQ I c) (Ψ := FlWQ I c) (fun g => spec_startWQ g) (allF 12))) $$ B4
  iintro %_ B4
  isplitl [A0]; · iexact A0
  isplitl [A1]; · iexact A1
  isplitl [B1 B2]; · isplitl [B1] <;> iassumption
  isplitl [B]; · iexact B
  isplitl [A2]; · iexact A2
  isplitl [A3]; · iexact A3
  isplitl [A4]; · iexact A4
  isplitl [A5]; · iexact A5
  isplitl [AR]; · iexact AR
  isplitl [B3] <;> iassumption

/-! ## A chunk landed -/

theorem Res.open (n nb : Nat) : Res (env I) c n nb ⊢ iprop(Agr c vHP (fun i : S16x256x512.Idx => (i 0).val < n) (hpG I)
    ∗ (vWA.view.loc (c : Thread nD τ) ↦[lowA n]{fullShare} waB I) ∗ (vWB.view.loc (c : Thread nD τ) ↦[lowB nb]{fullShare} wbB I) ∗ Is c sWS I.ws) := by
  unfold Res Agr
  iintro ⟨%f, %hf, H1, H2, H3, H4⟩
  isplitl [H1]
  · iexists f
    isplitr; · ipureintro; exact fun i hi => hf i (Finset.mem_filter.mpr ⟨Finset.mem_univ _, hi⟩)
    iexact H1
  isplitl [H2]; · iexact H2
  isplitl [H3]; · iexact H3
  iexact H4
theorem Res.close (n nb : Nat) : iprop(Agr c vHP (fun i : S16x256x512.Idx => (i 0).val < n) (hpG I)
    ∗ (vWA.view.loc (c : Thread nD τ) ↦[lowA n]{fullShare} waB I) ∗ (vWB.view.loc (c : Thread nD τ) ↦[lowB nb]{fullShare} wbB I) ∗ Is c sWS I.ws)
    ⊢ Res (env I) c n nb := by
  unfold Res Agr
  iintro ⟨⟨%f, %hf, H1⟩, H2, H3, H4⟩
  iexists f
  isplitr; · ipureintro; exact fun i hi => hf i (Finset.mem_filter.mp hi).2
  isplitl [H1]; · iexact H1
  isplitl [H2]; · iexact H2
  isplitl [H3]; · iexact H3
  iexact H4

/-- The copies of a chunk waited for and its activations scaled. -/
def chunkP (g : Fin 16) : PR F PUnit := do
  waitH g
  waitWA g
  makeH g

/-- What is held once `n` chunks are there. -/
def Ch (I : Inp F) (c : Dev nD) (n : Nat) : sProp (MM F) :=
  iprop(Res (env I) c n 0 ∗ (vH.view.loc (c : Thread nD τ) ↦[lowHP n]{fullShare} hB I) ∗ Is c vHSB (hsbG I) ∗ bigL (Left I c) (upto n) ∗ Ow c)

theorem Ch.open (n : Nat) : Ch I c n ⊢ iprop(Res (env I) c n 0 ∗ (vH.view.loc (c : Thread nD τ) ↦[lowHP n]{fullShare} hB I) ∗ Is c vHSB (hsbG I)
    ∗ bigL (Left I c) (upto n) ∗ Ow c) := .rfl
theorem Ch.close (n : Nat) : iprop(Res (env I) c n 0 ∗ (vH.view.loc (c : Thread nD τ) ↦[lowHP n]{fullShare} hB I) ∗ Is c vHSB (hsbG I)
    ∗ bigL (Left I c) (upto n) ∗ Ow c) ⊢ Ch I c n := .rfl

theorem E1H.open (g : Fin 16) : E1H I c g ⊢ iprop((mH.view.loc (c : Thread nD τ) ↦[(srcH g).view.set]{fullShare} I.h)
    ∗ (vH.view.loc (c : Thread nD τ) ↦[(dstH g).view.set]{fullShare} hB I) ∗ semVal ((c : Thread nD τ), SemLoc.dma (semA 0 g)) 0) := .rfl
theorem E1WA.open (g : Fin 16) : E1WA I c g ⊢ iprop((mWD.view.loc (c : Thread nD τ) ↦[(srcWA g).view.set]{fullShare} I.wd)
    ∗ (vWA.view.loc (c : Thread nD τ) ↦[(dstWA g).view.set]{fullShare} waB I) ∗ semVal ((c : Thread nD τ), SemLoc.dma (semA 1 g)) 0) := .rfl
theorem Left.close (g : Fin 16) (l : List (Fin 16)) : iprop((((mH.view.loc (c : Thread nD τ) ↦[(srcH g).view.set]{fullShare} I.h) ∗ semVal ((c : Thread nD τ), SemLoc.dma (semA 0 g)) 0)
    ∗ (mWD.view.loc (c : Thread nD τ) ↦[(srcWA g).view.set]{fullShare} I.wd) ∗ semVal ((c : Thread nD τ), SemLoc.dma (semA 1 g)) 0)
    ∗ bigL (Left I c) l) ⊢ bigL (Left I c) (g :: l) := .rfl

theorem spec_chunk (g : Fin 16) : iprop(FlA I c g ∗ Ch I c g.1) ⊢ W c (chunkP g) (fun _ => Ch I c (g.1 + 1)) := by
  unfold chunkP
  iintro ⟨⟨F1, F2⟩, C⟩
  ihave C := (Ch.open (I := I) (c := c) g.1) $$ C
  icases C with ⟨R, H, HB, L, O⟩
  ihave R := (Res.open (I := I) (c := c) g.1 0) $$ R
  icases R with ⟨R1, R2, R3, R4⟩
  iapply (useB (spec_waitH (I := I) (c := c) g)) $$ [F1 O]
  · isplitl [F1]; · iexact F1
    iexact O
  iintro %_ ⟨E, O⟩
  ihave E := (E1H.open (I := I) (c := c) g) $$ E
  icases E with ⟨E1, E2, E3⟩
  ihave H := (growH I (c := c) g) $$ [H E2]
  · isplitl [H]; · iexact H
    iexact E2
  iapply (useB (spec_waitWA (I := I) (c := c) g)) $$ [F2 O]
  · isplitl [F2]; · iexact F2
    iexact O
  iintro %_ ⟨E, O⟩
  ihave E := (E1WA.open (I := I) (c := c) g) $$ E
  icases E with ⟨E4, E5, E6⟩
  ihave R2 := (growWA I (c := c) g) $$ [R2 E5]
  · isplitl [R2]; · iexact R2
    iexact E5
  iapply (useT (spec_makeH I (c := c) (n := g.1 + 1) g (Nat.lt_succ_self _))) $$ [R1 H HB]
  · isplitl [R1]; · iexact R1
    isplitl [H]; · iexact H
    iexact HB
  iintro %_ ⟨R1, H, HB⟩
  iapply (Ch.close (I := I) (c := c) (g.1 + 1))
  isplitl [R1 R2 R3 R4]
  · iapply (Res.close (I := I) (c := c) (g.1 + 1) 0)
    isplitl [R1]; · iexact R1
    isplitl [R2]; · iexact R2
    isplitl [R3]; · iexact R3
    iexact R4
  isplitl [H]; · iexact H
  isplitl [HB]; · iexact HB
  isplitl [E1 E3 E4 E6 L]
  · iapply (ofEq (show bigL (Left I c) (g :: upto g.1) = bigL (Left I c) (upto (g.1 + 1)) by rw [upto_succ]))
    iapply (Left.close (I := I) (c := c) g (upto g.1))
    isplitr [L]
    · isplitl [E1 E3]
      · isplitl [E1]; · iexact E1
        iexact E3
      isplitl [E4]; · iexact E4
      iexact E6
    iexact L
  iexact O

/-! ## The first loop -/

def kf (k : Nat) : Fin 16 := ⟨k % 16, Nat.mod_lt _ (by decide)⟩
theorem kf_of {k : Nat} (h : k < 16) : kf k = ⟨k, h⟩ := Fin.ext (Nat.mod_eq_of_lt h)

def LA (I : Inp F) (c : Dev nD) (k : Nat) (m : Mxu F) : sProp (MM F) :=
  iprop(⌜Rep m (DA (env I) k) (RR (env I) 0 (some ⟨kf k, 0, 0⟩))⌝ ∗ bigL (FlA I c) (rest k) ∗ Ch I c (k + 1))

theorem okA (g : Fin 16) (kk : Fin 2) (T : Fin 6) (hT : T.1 < 4) {n : Nat} (h : g.1 < n) : Un.ok ⟨g, kk, T⟩ n 0 :=
  ⟨h, fun h' => absurd h' (Nat.not_le.mpr hT)⟩
theorem okAs (g : Fin 16) {n : Nat} (h : g.1 < n) : ∀ p ∈ unitsA g, p.1.ok n 0 ∧ p.2.ok n 0 := by
  intro p hp
  simp only [unitsA, List.mem_cons, List.not_mem_nil, _root_.or_false] at hp
  rcases hp with rfl | rfl | rfl | rfl <;> exact ⟨okA _ _ _ (by decide) h, okA _ _ _ (by decide) h⟩

theorem spec_tripA' (g g1 : Fin 16) (h1 : g1.1 = g.1 + 1) (m : Mxu F) (h : Rep m (DA (env I) g.1) (RR (env I) 0 (some ⟨g, 0, 0⟩))) :
    iprop(FlA I c g1 ∗ Ch I c g1.1) ⊢ W c (chunkP g1 >>= fun _ => streamP (unitsA g) (some ⟨g1, 0, 0⟩) m)
      (fun m' => iprop(⌜Rep m' (DA (env I) (g.1 + 1)) (RR (env I) 0 (some ⟨g1, 0, 0⟩))⌝ ∗ Ch I c (g1.1 + 1))) := by
  iintro H
  iapply (useB (spec_chunk (I := I) (c := c) g1)) $$ H
  iintro %_ C
  ihave C := (Ch.open (I := I) (c := c) (g1.1 + 1)) $$ C
  icases C with ⟨R, C⟩
  iapply (useT (spec_streamP (c := c) (e := env I) (n := g1.1 + 1) (nb := 0) (some ⟨g1, 0, 0⟩)
    (fun x hx => by cases hx; exact okA _ _ _ (by decide) (Nat.lt_succ_self _)) (unitsA g) (okAs g (by omega)) h)) $$ R
  iintro %m' ⟨%h', R⟩
  isplitr
  · ipureintro
    rw [addL_A (env I) g] at h'
    exact h'
  iapply (Ch.close (I := I) (c := c) (g1.1 + 1))
  isplitl [R]; · iexact R
  iexact C

theorem spec_tripA (g : Fin 15) (m : Mxu F) : LA I c g.1 m ⊢ W c (tripA g m) (LA I c (g.1 + 1)) := by
  have hg : g.1 < 16 := by omega
  have hg1 : g.1 + 1 < 16 := by omega
  have e : tripA g m = (chunkP ⟨g.1 + 1, hg1⟩ >>= fun _ => streamP (unitsA ⟨g.1, hg⟩) (some ⟨⟨g.1 + 1, hg1⟩, 0, 0⟩) m) := by
    unfold tripA chunkP; simp only [bind_assoc]
  rw [e]
  unfold LA
  rw [rest_succ g, kf_of hg, kf_of hg1]
  iintro ⟨%h, B, C⟩
  ihave B := (ofEq (bigL_cons (FlA I c) ⟨g.1 + 1, hg1⟩ (rest (g.1 + 1)))) $$ B
  icases B with ⟨B1, B2⟩
  iapply (useT (spec_tripA' (I := I) (c := c) ⟨g.1, hg⟩ ⟨g.1 + 1, hg1⟩ rfl m h)) $$ [B1 C]
  · isplitl [B1]; · iexact B1
    iexact C
  iintro %m' ⟨%h', C⟩
  isplitr
  · ipureintro; exact h'
  isplitl [B2]; · iexact B2
  iexact C

theorem spec_loopA (m : Mxu F) : LA I c 0 m ⊢ W c (Scf.Loop.for k0_t1_loop k0_t1_ok m (fun k m => tripA ⟨k.1, trips1 ▸ k.2⟩ m)) (LA I c 15) := by
  have h := spec_for (c := c) k0_t1_loop.lb k0_t1_loop.ub k0_t1_loop.st k0_t1_ok m (fun k m => tripA ⟨k.1, trips1 ▸ k.2⟩ m) (LA I c)
    (fun k m => spec_tripA (I := I) (c := c) ⟨k.1, trips1 ▸ k.2⟩ m)
  have e : Scf.trips k0_t1_loop.lb k0_t1_loop.ub k0_t1_loop.st = 15 := trips1
  exact conseq h fun a => ofEq (by rw [e])

/-! ## The loops of the later phases -/

def LB (I : Inp F) (c : Dev nD) (T : Fin 6) (k : Nat) (m : Mxu F) : sProp (MM F) :=
  iprop(⌜Rep m (DB (env I) T (8 * (k + 1))) (RR (env I) 0 (some ⟨kf (4 * (k + 1)), 0, T⟩))⌝ ∗ Res (env I) c 16 16)

theorem ok16 (u : Un) : u.ok 16 16 := ⟨u.g.2, fun _ => u.g.2⟩

theorem spec_streamB (T : Fin 6) (i : Fin 4) (nx : Option Un) {m : Mxu F} (h : Rep m (DB (env I) T (8 * i.1)) (RR (env I) 0 (some ⟨ch i 0, 0, T⟩))) :
    Res (env I) c 16 16 ⊢ W c (streamP (unitsB T i) nx m) (fun m' => iprop(⌜Rep m' (DB (env I) T (8 * i.1 + 8)) (RR (env I) 0 nx)⌝ ∗ Res (env I) c 16 16)) := by
  rw [← addL_B (env I) T i]
  exact spec_streamP (c := c) (e := env I) nx (fun x _ => ok16 x) (unitsB T i) (fun p _ => ⟨ok16 _, ok16 _⟩) h

theorem spec_tripB (T : Fin 6) (k : Fin 2) (m : Mxu F) : LB I c T k.1 m ⊢ W c (tripB T k m) (LB I c T (k.1 + 1)) := by
  have h1 : k.1 + 1 < 4 := by omega
  have h2 : k.1 + 2 < 4 := by omega
  unfold LB tripB
  rw [show kf (4 * (k.1 + 1)) = ch ⟨k.1 + 1, h1⟩ 0 from by
      rw [kf_of (show 4 * (k.1 + 1) < 16 by omega)]; exact Fin.ext (show 4 * (k.1 + 1) = (k.1 + 1) * 4 + 0 by omega),
    show kf (4 * (k.1 + 1 + 1)) = ch ⟨k.1 + 2, h2⟩ 0 from by
      rw [kf_of (show 4 * (k.1 + 1 + 1) < 16 by omega)]; exact Fin.ext (show 4 * (k.1 + 1 + 1) = (k.1 + 2) * 4 + 0 by omega)]
  iintro ⟨%h, R⟩
  iapply (spec_streamB (I := I) (c := c) T ⟨k.1 + 1, h1⟩ (some ⟨ch ⟨k.1 + 2, h2⟩ 0, 0, T⟩) h) $$ R

theorem spec_loop2 (m : Mxu F) : LB I c 4 0 m ⊢ W c (Scf.Loop.for k0_t2_loop k0_t2_ok m (fun k m => tripB 4 ⟨k.1, trips2 ▸ k.2⟩ m)) (LB I c 4 2) := by
  have h := spec_for (c := c) k0_t2_loop.lb k0_t2_loop.ub k0_t2_loop.st k0_t2_ok m (fun k m => tripB 4 ⟨k.1, trips2 ▸ k.2⟩ m) (LB I c 4)
    (fun k m => spec_tripB (I := I) (c := c) 4 ⟨k.1, trips2 ▸ k.2⟩ m)
  have e : Scf.trips k0_t2_loop.lb k0_t2_loop.ub k0_t2_loop.st = 2 := trips2
  exact conseq h fun a => ofEq (by rw [e])
theorem spec_loop3 (m : Mxu F) : LB I c 5 0 m ⊢ W c (Scf.Loop.for k0_t3_loop k0_t3_ok m (fun k m => tripB 5 ⟨k.1, trips3 ▸ k.2⟩ m)) (LB I c 5 2) := by
  have h := spec_for (c := c) k0_t3_loop.lb k0_t3_loop.ub k0_t3_loop.st k0_t3_ok m (fun k m => tripB 5 ⟨k.1, trips3 ▸ k.2⟩ m) (LB I c 5)
    (fun k m => spec_tripB (I := I) (c := c) 5 ⟨k.1, trips3 ▸ k.2⟩ m)
  have e : Scf.trips k0_t3_loop.lb k0_t3_loop.ub k0_t3_loop.st = 2 := trips3
  exact conseq h fun a => ofEq (by rw [e])

end Cert.KernelIdeal.Hand
-- ==== Proof.Quant.lean ====
module

public import proofs.«01_k».proof.Proof.Loops

/-! The norm, the quantiser, and the copies of the three results. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {c : Dev nD}

/-! ## A copy whose source is still read -/

/-- The buffer held at `f`, at a share. -/
abbrev IsQ (c : Dev nD) (q : PosShare TreeShare) {sp : Space} {s : Shape} {e : EltTy} (m : Memref sig .tc sp s e)
    (f : Buf (Elt F) (m.view.loc (c : Thread nD τ))) : sProp (MM F) :=
  (m.view.loc (c : Thread nD τ) ↦{q} f)

section
variable {sp sp' : Space} {s : Shape} {e : EltTy} {src : Memref sig .tc sp s e} {dst : Memref sig .tc sp' s e} {sm : DmaSem sig}
  {fs : Buf (Elt F) (src.view.loc (c : Thread nD τ))} {G : Buf (Elt F) (dst.view.loc (c : Thread nD τ))}

/-- A copy in flight that holds half of its source. -/
def FlyL (c : Dev nD) {sp sp' : Space} {s : Shape} {e : EltTy} (src : Memref sig .tc sp s e) (dst : Memref sig .tc sp' s e) (sm : DmaSem sig)
    (fs : Buf (Elt F) (src.view.loc (c : Thread nD τ))) (G : Buf (Elt F) (dst.view.loc (c : Thread nD τ))) : sProp (MM F) :=
  Transfers.Flight EC (c : Thread nD τ) (.dma sm) () (dst.view.dmaCredit)
    iprop((dst.view.loc (c : Thread nD τ) ↦[dst.view.set]{fullShare} G) ∗ (src.view.loc (c : Thread nD τ) ↦[src.view.set]{fullShare.left} fs))

theorem spec_startL {hs hd ht} (h1 : src.view.set = Finset.univ) (h2 : dst.view.set = Finset.univ)
    (hG : dst.view.read (Elt F) G = src.view.read (Elt F) fs) (hN : 0 < dst.view.dmaCredit) :
    iprop(Is c src fs ∗ Any F c dst ∗ Sem0 F c sm)
      ⊢ W c (Prog.lift (.enqueueDma src (.here dst) (.dma sm) hs hd ht)) (fun _ => iprop(FlyL c src dst sm fs G ∗ IsQ c fullShare.right src fs)) := by
  iintro ⟨Hs, ⟨%fd, Hd⟩, Hv⟩
  ihave Hs := (pointsTo_share (PosShare.mem_left_op_right fullShare)).1 $$ Hs
  icases Hs with ⟨Hs, Hr⟩
  iapply (Transfers.wp_dmaLocal EC Variants.none (c : Thread nD τ) none () (dst.view.dmaCredit) rfl hN (Finset.Subset.refl _)) $$ [Hs Hd Hv]
  · rw [h1, h2]
    isplitl [Hs]; · iexact Hs
    isplitl [Hd]; · iexact Hd
    iexact Hv
  iintro H
  rw [wp_ret]; imodintro
  unfold FlyL
  have e1 : ∀ i ∈ dst.view.set, dst.view.write (Elt F) fd (ReadAs.same.apply (src.view.read (Elt F) fs)) Finset.univ i = G i := by
    intro i hi
    show dst.view.write (Elt F) fd (src.view.read (Elt F) fs) Finset.univ i = G i
    rw [← hG, View.write_read_eq_piecewise]
    exact Finset.piecewise_eq_of_mem _ _ _ hi
  have e2 : (dst.view.loc (c : Thread nD τ) ↦[dst.view.set]{fullShare} dst.view.write (Elt F) fd (ReadAs.same.apply (src.view.read (Elt F) fs)) Finset.univ : sProp (MM F))
      = (dst.view.loc (c : Thread nD τ) ↦[dst.view.set]{fullShare} G) := pointsTo_congr e1
  rw [e2]
  isplitl [H]; · iexact H
  iexact Hr

theorem spec_waitL {hs hd} (h1 : src.view.set = Finset.univ) (h2 : dst.view.set = Finset.univ) :
    iprop(FlyL c src dst sm fs G ∗ IsQ c fullShare.right src fs ∗ Ow c)
      ⊢ W c (Prog.lift (.waitDma2 sm src dst hs hd)) (fun _ => iprop((Is c src fs ∗ Is c dst G ∗ Sem0 F c sm) ∗ Ow c)) := by
  unfold FlyL Ow
  iintro ⟨H, Hr, ⟨%W', Ho⟩⟩
  iapply (Transfers.wp_waitLocal EC Variants.none (c : Thread nD τ) none () rfl) $$ [H Ho]
  · isplitl [H]; · iexact H
    iexact Ho
  rw [h1, h2]
  iintro ⟨⟨Hd, Hs⟩, Hv, Ho⟩
  rw [wp_ret]; imodintro
  isplitr [Ho]
  · isplitl [Hs Hr]
    · iapply (pointsTo_share (PosShare.mem_left_op_right fullShare)).2
      isplitl [Hs]; · iexact Hs
      iexact Hr
    isplitl [Hd]; · iexact Hd
    iexact Hv
  iexists _; iexact Ho
end

theorem spec_loadQ0 {q : PosShare TreeShare} {cs : CoreSpace} {s : Shape} {e : EltTy} {m : Memref sig .tc cs s e} {r : Rect s} {hl : m.view.LoadsAt r.toLoadRect}
    {f : Buf (Elt F) ((m.access r).loc (c : Thread nD τ))} :
    ((m.access r).loc (c : Thread nD τ) ↦{q} f : sProp (MM F))
      ⊢ W c (Prog.lift (.load m r.toLoadRect hl)) (fun v => iprop(⌜v = (m.access r).read (Elt F) f⌝ ∗ ((m.access r).loc (c : Thread nD τ) ↦{q} f))) := by
  iintro H
  iapply (wp_load_rect Variants.none (c : Thread nD τ) none Set.univ (Finset.subset_univ _)) $$ H
  iintro H
  rw [wp_ret]; imodintro
  isplitr
  · ipureintro; rfl
  iexact H
theorem spec_loadQ {q : PosShare TreeShare} {cs : CoreSpace} {s : Shape} {e : EltTy} {m : Memref sig .tc cs s e} {r : Rect s} {hl : m.view.LoadsAt r.toLoadRect}
    {f : Buf (Elt F) (m.view.loc (c : Thread nD τ))} :
    IsQ c q m f ⊢ W c (Prog.lift (.load m r.toLoadRect hl)) (fun v => iprop(⌜v = (m.access r).read (Elt F) f⌝ ∗ IsQ c q m f)) :=
  spec_loadQ0 (c := c) (q := q) (m := m) (r := r) (hl := hl) (f := f)

/-! ## The values -/

variable (I : Inp F)

/-- The inverse root mean squares, in each lane. -/
def rsG : FVec F S256x128 .f32 := k0_pay928 (ssF I 11)
abbrev nwR (g : Fin 24) : Vec F S1x128 .f32 := (vNW.access (rNW g)).read (Elt F) I.nw
abbrev roR (g : Fin 24) : Vec F S256x128 .bf16 := (vRO.access (rXG g)).read (Elt F) (roG I)

/-- The codes of a group, at a row and a column of it. -/
def clT (g : Fin 24) (x : Fin 256) (y : Fin 128) : Elt F .fp8e4m3 :=
  k0_pay938 (F := F) (qCl (nwR I g) (roR I g) (rsG I)) (ix2 (n0 := 256) (n1 := 128) x y)
theorem clT_congr {t t' : Fin 24} {x x' : Fin 256} {y y' : Fin 128} (h1 : t.1 = t'.1) (h2 : x.1 = x'.1) (h3 : y.1 = y'.1) : clT I t x y = clT I t' x' y' := by
  rw [Fin.ext h1, Fin.ext h2, Fin.ext h3]

/-- The codes. -/
def xcG : S256x3072.Idx → Elt F .fp8e4m3 := fun i =>
  clT I ⟨(i 1).val / 128, by have : (i 1).val < 3072 := (i 1).isLt; omega⟩ (show Fin 256 from i 0) ⟨(i 1).val % 128, Nat.mod_lt _ (by decide)⟩

theorem read_xc (g : Fin 24) : k0_pay938 (F := F) (qCl (nwR I g) (roR I g) (rsG I)) = (vXC.access (rXG g)).read (Elt F) (xcG I) := by
  funext j
  obtain ⟨x, y, rfl⟩ : ∃ (x : Fin 256) (y : Fin 128), j = ix2 x y := ⟨j 0, j 1, eq_ix2 (n0 := 256) (n1 := 128) j⟩
  have hx := x.2
  have hy := y.2
  show clT I g x y = clT I ⟨(g.1 * 128 + 1 * y.1) / 128, _⟩ ⟨0 + 1 * x.1, _⟩ ⟨(g.1 * 128 + 1 * y.1) % 128, _⟩
  refine clT_congr I ?_ ?_ ?_
  · show g.1 = (g.1 * 128 + 1 * y.1) / 128; omega
  · show x.1 = 0 + 1 * x.1; omega
  · show y.1 = (g.1 * 128 + 1 * y.1) % 128; omega

theorem mem_XC (g : Fin 24) (i : S256x3072.Idx) (h : (i 1).val / 128 = g.1) : i ∈ (vXC.access (rXG g)).set := by
  rw [show (vXC.access (rXG g)).set = _ from View.set_slice_whole (sig := sig) cc0_scratch17 _]
  refine Rect.mem_set_unit.mpr fun a => ?_
  match a with
  | ⟨0, _⟩ => exact (show 0 ≤ (i 0).val ∧ (i 0).val < 0 + 256 from ⟨Nat.zero_le _, (Nat.zero_add _).symm ▸ (i 0).isLt⟩)
  | ⟨1, _⟩ => exact (show g.1 * 128 ≤ (i 1).val ∧ (i 1).val < g.1 * 128 + 128 by omega)

/-- The groups below `n` are there. -/
def lowXC (n : Nat) (i : S256x3072.Idx) : Prop := (i 1).val / 128 < n

def gf (n : Nat) : Fin 24 := ⟨n % 24, Nat.mod_lt _ (by decide)⟩
theorem gf_of (g : Fin 24) : gf g.1 = g := Fin.ext (Nat.mod_eq_of_lt g.2)

/-- The scale of a group, in each lane. -/
def scV (g : Fin 24) : FVec F S256x128 .f32 := qSc (nwR I g) (roR I g) (rsG I)
/-- The buffer of the scales after `n` groups. -/
def scN : Nat → FVec F S256x128 .f32
  | 0 => k0_pay929
  | n + 1 => qSel lane (gf n) (scV I (gf n)) (scN n)

theorem read_RS (f : S256x128.Idx → Elt F .f32) : (vRS.access rSS).read (Elt F) f = f := read_all f
theorem read_SC (f : S256x128.Idx → Elt F .f32) : (vSC.access rSS).read (Elt F) f = f := read_all f
theorem mem_RS (i : S256x128.Idx) : i ∈ (vRS.access rSS).set := by
  rw [show (vRS.access rSS).set = _ from View.set_slice_whole (sig := sig) cc0_scratch15 _]
  exact mem_rSS i
theorem mem_SC (i : S256x128.Idx) : i ∈ (vSC.access rSS).set := by
  rw [show (vSC.access rSS).set = _ from View.set_slice_whole (sig := sig) cc0_scratch18 _]
  exact mem_rSS i

/-- What the quantiser holds after `n` groups. -/
def QT (c : Dev nD) (q : PosShare TreeShare) (n : Nat) : sProp (MM F) :=
  iprop(Is c vNW I.nw ∗ IsQ c q vRO (roG I) ∗ Is c vRS (rsG I) ∗ Agr c vXC (lowXC n) (xcG I) ∗ Any F c vXP ∗ Is c vSC (scN I n))
variable {I}

theorem spec_quantG (q : PosShare TreeShare) (g : Fin 24) : QT I c q g.1 ⊢ W c (quantG lane g) (fun _ => QT I c q (g.1 + 1)) := by
  unfold quantG quantSt QT ldNW ldROg ldRS ldSC stSC stXC stXP
  simp only [bind_assoc]
  iintro ⟨H1, H2, H3, H4, H5, H6⟩
  iapply (useB (spec_loadIs (c := c) (m := vNW) (r := rNW g) (f := I.nw))) $$ H1
  iintro %nw ⟨%hn, H1⟩
  iapply (useB (spec_loadQ (c := c) (q := q) (m := vRO) (r := rXG g) (f := roG I))) $$ H2
  iintro %ro ⟨%ho, H2⟩
  iapply (useB (spec_loadIs (c := c) (m := vRS) (r := rSS) (f := rsG I))) $$ H3
  iintro %rs ⟨%hr, H3⟩
  rw [read_RS] at hr
  iapply (useB (spec_loadA (c := c) (m := vXC) (r := rXG g) (G := xcG I))) $$ H4
  iintro %_ H4
  iapply (useB (spec_storeG (c := c) (m := vXC) (r := rXG g) (G := xcG I) (P := lowXC g.1) (P' := lowXC (g.1 + 1))
    (by rw [hn, ho, hr]; exact read_xc I g) (fun i hi => by
      by_cases h : ((show S256x3072.Idx from i) 1).val / 128 = g.1
      · exact Or.inr (mem_XC g i h)
      · exact Or.inl (Nat.lt_of_le_of_ne (Nat.lt_succ_iff.mp hi) h)))) $$ H4
  iintro %_ H4
  iapply (useB (spec_loadAny (c := c) (m := vXP))) $$ H5
  iintro %_ H5
  iapply (useB (spec_storeAny (c := c) (m := vXP))) $$ H5
  iintro %_ H5
  iapply (useB (spec_loadIs (c := c) (m := vSC) (r := rSS) (f := scN I g.1))) $$ H6
  iintro %s ⟨%hs, H6⟩
  rw [read_SC] at hs
  iapply (useB (spec_loadIs (c := c) (m := vSC) (f := scN I g.1))) $$ H6
  iintro %_ ⟨%_, H6⟩
  ihave H6 := (Is.any (c := c) (m := vSC) (f := scN I g.1)) $$ H6
  iapply (useT (spec_storeAll (c := c) (m := vSC) (r := rSS) (scN I (g.1 + 1))
    (by rw [read_SC, hn, ho, hr, hs]; show _ = qSel lane (gf g.1) _ _; rw [gf_of]; rfl) (fun i => mem_SC i))) $$ H6
  iintro %_ H6
  isplitl [H1]; · iexact H1
  isplitl [H2]; · iexact H2
  isplitl [H3]; · iexact H3
  isplitl [H4]; · iexact H4
  isplitl [H5]; · iexact H5
  iexact H6

theorem spec_quantInit (q : PosShare TreeShare) : iprop(Is c vSS (ssF I 11) ∗ Is c vNW I.nw ∗ IsQ c q vRO (roG I) ∗ Any F c vRS ∗ Any F c vXC ∗ Any F c vXP ∗ Any F c vSC)
    ⊢ W c quantInit (fun _ => iprop(Is c vSS (ssF I 11) ∗ QT I c q 0)) := by
  unfold quantInit QT ldSS ldRS stRS ldSC stSC
  iintro ⟨S, H1, H2, H3, H4, H5, H6⟩
  iapply (useB (spec_loadIs (c := c) (m := vSS) (r := rSS) (f := ssF I 11))) $$ S
  iintro %s ⟨%hs, S⟩
  rw [read_all] at hs
  iapply (useB (spec_loadAny (c := c) (m := vRS))) $$ H3
  iintro %_ H3
  iapply (useB (spec_storeAll (c := c) (m := vRS) (r := rSS) (rsG I)
    (by rw [read_RS, hs]; rfl) (fun i => mem_RS i))) $$ H3
  iintro %_ H3
  iapply (useB (spec_loadAny (c := c) (m := vSC))) $$ H6
  iintro %_ H6
  iapply (useT (spec_storeAll (c := c) (m := vSC) (r := rSS) (scN I 0)
    (by rw [read_SC]; rfl) (fun i => mem_SC i))) $$ H6
  iintro %_ H6
  isplitl [S]; · iexact S
  isplitl [H1]; · iexact H1
  isplitl [H2]; · iexact H2
  isplitl [H3]; · iexact H3
  isplitl [H4]
  · iapply (Agr.start (c := c) (m := vXC) (P := lowXC 0) (G := xcG I) (fun i => Nat.not_lt_zero _)) $$ H4
  isplitl [H5]; · iexact H5
  iexact H6

theorem QT.open (q : PosShare TreeShare) (n : Nat) : QT I c q n ⊢ iprop(IsQ c q vRO (roG I)
    ∗ Is c vNW I.nw ∗ Is c vRS (rsG I) ∗ Agr c vXC (lowXC n) (xcG I) ∗ Any F c vXP ∗ Is c vSC (scN I n)) := by
  unfold QT
  iintro ⟨H1, H2, H⟩
  isplitl [H2]; · iexact H2
  isplitl [H1]; · iexact H1
  iexact H
theorem QT.close (q : PosShare TreeShare) (n : Nat) : iprop(IsQ c q vRO (roG I)
    ∗ Is c vNW I.nw ∗ Is c vRS (rsG I) ∗ Agr c vXC (lowXC n) (xcG I) ∗ Any F c vXP ∗ Is c vSC (scN I n)) ⊢ QT I c q n := by
  unfold QT
  iintro ⟨H2, H1, H⟩
  isplitl [H1]; · iexact H1
  isplitl [H2]; · iexact H2
  iexact H

variable (I)
abbrev FlO (c : Dev nD) : sProp (MM F) := FlyL c vRO mOut semOut (roG I) (roG I)
variable {I}

theorem spec_tailA : iprop((Is c vSS (ssF I 11) ∗ Is c vNW I.nw ∗ Is c vRO (roG I) ∗ Any F c vRS ∗ Any F c vXC ∗ Any F c vXP ∗ Any F c vSC) ∗ Any F c mOut ∗ Sem0 F c semOut)
    ⊢ W c tailA (fun _ => iprop(Is c vSS (ssF I 11) ∗ FlO I c ∗ QT I c fullShare.right 2)) := by
  unfold tailA
  iintro ⟨H, M, X⟩
  iapply (useB (spec_quantInit (c := c) (I := I) fullShare)) $$ H
  iintro %_ ⟨S, H⟩
  iapply (useB (show QT I c fullShare 0 ⊢ W c (quantG lane 0) (fun _ => QT I c fullShare 1) from spec_quantG (c := c) (I := I) fullShare 0)) $$ H
  iintro %_ H
  iapply (useB (show QT I c fullShare 1 ⊢ W c (quantG lane 1) (fun _ => QT I c fullShare 2) from spec_quantG (c := c) (I := I) fullShare 1)) $$ H
  iintro %_ H
  ihave H := (QT.open (c := c) (I := I) fullShare 2) $$ H
  icases H with ⟨R, H⟩
  unfold startOut
  iapply (useT (spec_startL (c := c) (src := vRO) (dst := mOut) (sm := semOut) (fs := roG I) (G := roG I) (View.set_whole _) (View.set_whole _) rfl (by decide))) $$ [R M X]
  · isplitl [R]; · iexact R
    isplitl [M]; · iexact M
    iexact X
  iintro %_ ⟨Fl, R⟩
  isplitl [S]; · iexact S
  isplitl [Fl]; · iexact Fl
  iapply (QT.close (c := c) (I := I) fullShare.right 2)
  isplitl [R]; · iexact R
  iexact H

theorem spec_tripQ (q : PosShare TreeShare) (k : Fin 11) : QT I c q (2 * (k.1 + 1)) ⊢ W c (tripQ k) (fun _ => QT I c q (2 * (k.1 + 1 + 1))) := by
  have e1 : 2 * (k.1 + 1) = (k.1 + 1) * 2 := by omega
  have e2 : 2 * (k.1 + 1 + 1) = (k.1 + 1) * 2 + 1 + 1 := by omega
  rw [e1, e2]
  unfold tripQ
  exact seq (spec_quantG (c := c) (I := I) q ⟨(k.1 + 1) * 2, by omega⟩) fun _ => spec_quantG (c := c) (I := I) q ⟨(k.1 + 1) * 2 + 1, by omega⟩

theorem spec_loop4 (q : PosShare TreeShare) : QT I c q 2
    ⊢ W c (Scf.Loop.for k0_t4_loop k0_t4_ok ⟨⟩ (fun k _ => tripQ ⟨k.1, trips4 ▸ k.2⟩)) (fun _ => QT I c q 24) := by
  have h := spec_for (c := c) k0_t4_loop.lb k0_t4_loop.ub k0_t4_loop.st k0_t4_ok () (fun k _ => tripQ ⟨k.1, trips4 ▸ k.2⟩) (fun n _ => QT I c q (2 * (n + 1)))
    (fun k _ => spec_tripQ (I := I) (c := c) q ⟨k.1, trips4 ▸ k.2⟩)
  have e : Scf.trips k0_t4_loop.lb k0_t4_loop.ub k0_t4_loop.st = 11 := trips4
  exact conseq h fun a => ofEq (by rw [e])

/-! ## The scales, turned -/

variable (I)
def xsV (b : Bool) (x : Fin 24) (y : Fin 128) : Elt F .f32 :=
  if b then k0_pay1 (F := F) (k0_pay956 ((vSC.access rSh0).read (Elt F) (scN I 24))) (ix3 (n0 := 1) (n1 := 24) (n2 := 128) 0 x y)
  else k0_pay2 (F := F) ((vSC.access rSh1).read (Elt F) (scN I 24)) (ix3 (n0 := 1) (n1 := 24) (n2 := 128) 0 x y)
theorem xsV_congr {b b' : Bool} {x x' : Fin 24} {y y' : Fin 128} (hb : b = b') (hx : x.1 = x'.1) (hy : y.1 = y'.1) :
    xsV I b x y = xsV I b' x' y' := by
  rw [hb, Fin.ext hx, Fin.ext hy]

/-- The scales, as the result holds them. -/
def xsG : S2x24x128.Idx → Elt F .f32 := fun i => xsV I (decide ((i 0).val < 1)) (show Fin 24 from i 1) (show Fin 128 from i 2)

theorem read_xs0 : k0_pay1 (F := F) (k0_pay956 ((vSC.access rSh0).read (Elt F) (scN I 24))) = (vXS.access rXS0).read (Elt F) (xsG I) := by
  funext j
  obtain ⟨z, x, y, rfl⟩ : ∃ (z : Fin 1) (x : Fin 24) (y : Fin 128), j = ix3 z x y := ⟨j 0, j 1, j 2, eq_ix3 (n0 := 1) (n1 := 24) (n2 := 128) j⟩
  obtain rfl : z = 0 := Subsingleton.elim _ _
  show xsV I true x y = xsV I (decide (0 + 1 * 0 < 1)) ⟨0 + 1 * x.1, _⟩ ⟨0 + 1 * y.1, _⟩
  refine xsV_congr I ?_ ?_ ?_
  · rfl
  · show x.1 = 0 + 1 * x.1; omega
  · show y.1 = 0 + 1 * y.1; omega
theorem read_xs1 : k0_pay2 (F := F) ((vSC.access rSh1).read (Elt F) (scN I 24)) = (vXS.access rXS1).read (Elt F) (xsG I) := by
  funext j
  obtain ⟨z, x, y, rfl⟩ : ∃ (z : Fin 1) (x : Fin 24) (y : Fin 128), j = ix3 z x y := ⟨j 0, j 1, j 2, eq_ix3 (n0 := 1) (n1 := 24) (n2 := 128) j⟩
  obtain rfl : z = 0 := Subsingleton.elim _ _
  show xsV I false x y = xsV I (decide (1 + 1 * 0 < 1)) ⟨0 + 1 * x.1, _⟩ ⟨0 + 1 * y.1, _⟩
  refine xsV_congr I ?_ ?_ ?_
  · rfl
  · show x.1 = 0 + 1 * x.1; omega
  · show y.1 = 0 + 1 * y.1; omega

theorem mem_XS0 (i : S2x24x128.Idx) (h : (i 0).val < 1) : i ∈ (vXS.access rXS0).set := by
  rw [show (vXS.access rXS0).set = _ from View.set_slice_whole (sig := sig) cc0_scratch19 _]
  refine Rect.mem_set_unit.mpr fun a => ?_
  match a with
  | ⟨0, _⟩ => exact (show 0 ≤ (i 0).val ∧ (i 0).val < 0 + 1 by omega)
  | ⟨1, _⟩ => exact (show 0 ≤ (i 1).val ∧ (i 1).val < 0 + 24 from ⟨Nat.zero_le _, (Nat.zero_add _).symm ▸ (i 1).isLt⟩)
  | ⟨2, _⟩ => exact (show 0 ≤ (i 2).val ∧ (i 2).val < 0 + 128 from ⟨Nat.zero_le _, (Nat.zero_add _).symm ▸ (i 2).isLt⟩)
theorem mem_XS1 (i : S2x24x128.Idx) (h : ¬ (i 0).val < 1) : i ∈ (vXS.access rXS1).set := by
  rw [show (vXS.access rXS1).set = _ from View.set_slice_whole (sig := sig) cc0_scratch19 _]
  have h0 : (i 0).val < 2 := (i 0).isLt
  refine Rect.mem_set_unit.mpr fun a => ?_
  match a with
  | ⟨0, _⟩ => exact (show 1 ≤ (i 0).val ∧ (i 0).val < 1 + 1 by omega)
  | ⟨1, _⟩ => exact (show 0 ≤ (i 1).val ∧ (i 1).val < 0 + 24 from ⟨Nat.zero_le _, (Nat.zero_add _).symm ▸ (i 1).isLt⟩)
  | ⟨2, _⟩ => exact (show 0 ≤ (i 2).val ∧ (i 2).val < 0 + 128 from ⟨Nat.zero_le _, (Nat.zero_add _).symm ▸ (i 2).isLt⟩)
variable {I}

theorem spec_turnXS : iprop(Is c vSC (scN I 24) ∗ Any F c vXS) ⊢ W c turnXS (fun _ => iprop(Is c vSC (scN I 24) ∗ Is c vXS (xsG I))) := by
  unfold turnXS turnXS1 ldSh0
  iintro ⟨H1, H2⟩
  ihave H2 := (Agr.start (c := c) (m := vXS) (P := fun _ => False) (G := xsG I) (fun _ h => h)) $$ H2
  iapply (useB (spec_loadIs (c := c) (m := vSC) (r := rSh0) (f := scN I 24))) $$ H1
  iintro %v0 ⟨%hv0, H1⟩
  iapply (useB (spec_loadA (c := c) (m := vXS) (r := rXS0) (G := xsG I))) $$ H2
  iintro %_ H2
  iapply (useB (spec_storeG (c := c) (m := vXS) (r := rXS0) (G := xsG I) (P := fun _ => False) (P' := fun i : S2x24x128.Idx => (i 0).val < 1)
    (by rw [hv0]; exact read_xs0 I) (fun i hi => Or.inr (mem_XS0 i hi)))) $$ H2
  iintro %_ H2
  iapply (useB (spec_loadIs (c := c) (m := vSC) (r := rSh1) (f := scN I 24))) $$ H1
  iintro %v1 ⟨%hv1, H1⟩
  iapply (useB (spec_loadA (c := c) (m := vXS) (r := rXS1) (G := xsG I))) $$ H2
  iintro %_ H2
  iapply (useT (spec_storeG (c := c) (m := vXS) (r := rXS1) (G := xsG I) (P := fun i : S2x24x128.Idx => (i 0).val < 1) (P' := fun _ => True)
    (by rw [hv1]; exact read_xs1 I) (fun i _ => by
      by_cases h : ((show S2x24x128.Idx from i) 0).val < 1
      · exact Or.inl h
      · exact Or.inr (mem_XS1 i h)))) $$ H2
  iintro %_ H2
  isplitl [H1]; · iexact H1
  iapply (Agr.all (c := c) (m := vXS) (G := xsG I) (fun _ => trivial)) $$ H2

variable (I)
/-- The results as the end leaves them. -/
def outs (c : Dev nD) : sProp (MM F) :=
  iprop((Is c vRO (roG I) ∗ Is c mOut (roG I) ∗ Sem0 F c semOut) ∗ (Is c vXC (xcG I) ∗ Is c mXC (xcG I) ∗ Sem0 F c semXC)
    ∗ (Is c vXS (xsG I) ∗ Is c mXS (xsG I) ∗ Sem0 F c semXS) ∗ Is c vRS (rsG I) ∗ Any F c vXP ∗ Is c vSC (scN I 24))
variable {I}

theorem spec_tailB : iprop(FlO I c ∗ QT I c fullShare.right 24 ∗ (Any F c mXC ∗ Sem0 F c semXC) ∗ (Any F c vXS ∗ Any F c mXS ∗ Sem0 F c semXS) ∗ Ow c)
    ⊢ W c tailB (fun _ => iprop((outs I c ∗ Is c vNW I.nw) ∗ Ow c)) := by
  unfold tailB startXC startXS waitOut waitXC waitXS
  iintro ⟨Fl, H, ⟨M1, X1⟩, ⟨V2, M2, X2⟩, O⟩
  ihave H := (QT.open (c := c) (I := I) fullShare.right 24) $$ H
  icases H with ⟨R, N, RS, C, XP, SC⟩
  ihave C := (Agr.all (c := c) (m := vXC) (G := xcG I) (P := lowXC 24) (fun i => by
    have := ((show S256x3072.Idx from i) 1).isLt
    have h : ((show S256x3072.Idx from i) 1).val < 3072 := this
    show ((show S256x3072.Idx from i) 1).val / 128 < 24
    omega)) $$ C
  iapply (useB (spec_startW (c := c) (src := vXC) (dst := mXC) (sm := semXC) (fs := xcG I) (G := xcG I) (View.set_whole _) (View.set_whole _) rfl (by decide))) $$ [C M1 X1]
  · isplitl [C]; · iexact C
    isplitl [M1]; · iexact M1
    iexact X1
  iintro %_ F1
  iapply (useB (spec_turnXS (c := c) (I := I))) $$ [SC V2]
  · isplitl [SC]; · iexact SC
    iexact V2
  iintro %_ ⟨SC, V2⟩
  iapply (useB (spec_startW (c := c) (src := vXS) (dst := mXS) (sm := semXS) (fs := xsG I) (G := xsG I) (View.set_whole _) (View.set_whole _) rfl (by decide))) $$ [V2 M2 X2]
  · isplitl [V2]; · iexact V2
    isplitl [M2]; · iexact M2
    iexact X2
  iintro %_ F2
  iapply (useB (spec_waitL (c := c) (src := vRO) (dst := mOut) (sm := semOut) (fs := roG I) (G := roG I) (View.set_whole _) (View.set_whole _))) $$ [Fl R O]
  · isplitl [Fl]; · iexact Fl
    isplitl [R]; · iexact R
    iexact O
  iintro %_ ⟨A, O⟩
  iapply (useB (spec_waitW (c := c) (src := vXC) (dst := mXC) (sm := semXC) (fs := xcG I) (G := xcG I) (View.set_whole _) (View.set_whole _))) $$ [F1 O]
  · isplitl [F1]; · iexact F1
    iexact O
  iintro %_ ⟨B, O⟩
  iapply (useT (spec_waitW (c := c) (src := vXS) (dst := mXS) (sm := semXS) (fs := xsG I) (G := xsG I) (View.set_whole _) (View.set_whole _))) $$ [F2 O]
  · isplitl [F2]; · iexact F2
    iexact O
  iintro %_ ⟨D, O⟩
  unfold outs
  isplitr [O]
  · isplitr [N]
    · isplitl [A]; · iexact A
      isplitl [B]; · iexact B
      isplitl [D]; · iexact D
      isplitl [RS]; · iexact RS
      isplitl [XP]; · iexact XP
      iexact SC
    iexact N
  iexact O

end Cert.KernelIdeal.Hand
-- ==== Proof.Main.lean ====
module

public import proofs.«01_k».proof.Proof.Quant

/-! The body from its first step to its last. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {c : Dev nD}

variable (I : Inp F)

/-! ## Before the first loop -/

theorem pts_none {ℓ : Loc nD τ sig} {S : Finset (Idx ℓ)} (h : S = ∅) (f : Buf (Elt F) ℓ) : iprop(emp) ⊢ (ℓ ↦[S]{fullShare} f : sProp (MM F)) := by
  subst h
  rw [pointsTo_empty]

theorem lowHP0 : lowHP 0 = ∅ := Finset.filter_eq_empty_iff.mpr fun _ _ => Nat.not_lt_zero _
theorem lowA0 : lowA 0 = ∅ := Finset.filter_eq_empty_iff.mpr fun _ _ => Nat.not_lt_zero _
theorem lowB0 : lowB 0 = ∅ := Finset.filter_eq_empty_iff.mpr fun _ _ => Nat.not_lt_zero _

/-- The copies before they start. -/
def before (c : Dev nD) : sProp (MM F) :=
  iprop(smalls0 I c ∗ bigL (E0H I c) (allF 16) ∗ bigL (E0WA I c) (allF 16) ∗ bigL (E0WB I c) (allF 16) ∗ bigL (E0WQ I c) (allF 12))

/-- What the first two small copies leave aside. -/
def done0 (c : Dev nD) : sProp (MM F) :=
  iprop((Is c mHS I.hs ∗ Is c vHS I.hs ∗ Sem0 F c (semSmall 0)) ∗ Is c mWS I.ws ∗ Sem0 F c (semSmall 1))

variable {I}

theorem spec_pre : iprop(before I c ∗ Any F c vHSB ∗ Any F c vHP ∗ Ow c)
    ⊢ W c pre (fun _ => iprop(done0 I c ∗ late I c ∗ bigL (FlA I c) (rest 0) ∗ Ch I c 1)) := by
  have e : (pre : PR F PUnit) = (starts >>= fun _ => waitSmall0 >>= fun _ => turnScales >>= fun _ => waitSmall1 >>= fun _ => chunkP 0) := rfl
  rw [e]
  unfold before done0
  iintro ⟨B, H1, H2, O⟩
  iapply (useB (spec_starts (I := I) (c := c))) $$ B
  iintro %_ ⟨A0, A1, C0, C, L⟩
  iapply (useB (spec_wait0 I (c := c))) $$ [A0 O]
  · isplitl [A0]; · iexact A0
    iexact O
  iintro %_ ⟨⟨M0, V0, X0⟩, O⟩
  iapply (useB (spec_turnScales I (c := c))) $$ [V0 H1]
  · isplitl [V0]; · iexact V0
    iexact H1
  iintro %_ ⟨V0, H1⟩
  iapply (useB (spec_wait1 I (c := c))) $$ [A1 O]
  · isplitl [A1]; · iexact A1
    iexact O
  iintro %_ ⟨⟨M1, V1, X1⟩, O⟩
  ihave HP := (Agr.start (c := c) (m := vHP) (P := fun i : S16x256x512.Idx => (i 0).val < 0) (G := hpG I) (fun _ h => Nat.not_lt_zero _ h)) $$ H2
  iapply (useT (spec_chunk (I := I) (c := c) 0)) $$ [C0 HP V1 H1 O]
  · isplitl [C0]; · iexact C0
    iapply (Ch.close (I := I) (c := c) 0)
    isplitl [HP V1]
    · iapply (Res.close (I := I) (c := c) 0 0)
      isplitl [HP]; · iexact HP
      isplitr; · iapply (pts_none (F := F) lowA0 (waB I)); iempintro
      isplitr; · iapply (pts_none (F := F) lowB0 (wbB I)); iempintro
      iexact V1
    isplitr; · iapply (pts_none (F := F) lowHP0 (hB I)); iempintro
    isplitl [H1]; · iexact H1
    isplitr
    · iempintro
    iexact O
  iintro %_ D
  isplitl [M0 V0 X0 M1 X1]
  · isplitl [M0 V0 X0]
    · isplitl [M0]; · iexact M0
      isplitl [V0]; · iexact V0
      iexact X0
    isplitl [M1]; · iexact M1
    iexact X1
  isplitl [L]; · iexact L
  isplitl [C]; · iexact C
  iexact D

/-! ## The waits after the first loop -/

variable (I)
/-- What the late small copies leave. -/
def done1 (c : Dev nD) : sProp (MM F) :=
  iprop((Is c mPos I.pos ∗ Sem0 F c (semSmall 2)) ∗ (Is c mIF I.fr ∗ Sem0 F c (semSmall 3))
    ∗ (Is c mNW I.nw ∗ Is c vNW I.nw ∗ Sem0 F c (semSmall 4)) ∗ (Is c mQS I.qs ∗ Is c sQS I.qs ∗ Sem0 F c (semSmall 5)) ∗ Is c mRes I.res ∗ Sem0 F c semRes)
def doneB (c : Dev nD) : sProp (MM F) := iprop((mWD.view.loc (c : Thread nD τ) ↦[colsB]{fullShare} I.wd) ∗ bigL (fun g => Sem0 F c (semB g)) (allF 16))
abbrev turns (c : Dev nD) : sProp (MM F) := iprop(Is c vPos I.pos ∗ Is c vIF I.fr ∗ Any F c vCos ∗ Any F c vSin)
variable {I}

theorem spec_waitMid : iprop((Fs2 I c ∗ Fs3 I c ∗ Fs4 I c ∗ Fs5 I c ∗ FsR I c) ∗ Ow c)
    ⊢ W c waitMid (fun _ => iprop(done1 I c ∗ Is c vPos I.pos ∗ Is c vIF I.fr ∗ Is c vRes I.res ∗ Ow c)) := by
  unfold waitMid done1
  iintro ⟨⟨A2, A3, A4, A5, AR⟩, O⟩
  iapply (useB (spec_wait2 I (c := c))) $$ [A2 O]
  · isplitl [A2]; · iexact A2
    iexact O
  iintro %_ ⟨⟨M2, V2, X2⟩, O⟩
  iapply (useB (spec_wait3 I (c := c))) $$ [A3 O]
  · isplitl [A3]; · iexact A3
    iexact O
  iintro %_ ⟨⟨M3, V3, X3⟩, O⟩
  iapply (useB (spec_wait4 I (c := c))) $$ [A4 O]
  · isplitl [A4]; · iexact A4
    iexact O
  iintro %_ ⟨A4, O⟩
  iapply (useB (spec_wait5 I (c := c))) $$ [A5 O]
  · isplitl [A5]; · iexact A5
    iexact O
  iintro %_ ⟨A5, O⟩
  iapply (useT (spec_waitR I (c := c))) $$ [AR O]
  · isplitl [AR]; · iexact AR
    iexact O
  iintro %_ ⟨⟨MR, VR, XR⟩, O⟩
  isplitl [M2 X2 M3 X3 A4 A5 MR XR]
  · isplitl [M2 X2]
    · isplitl [M2]; · iexact M2
      iexact X2
    isplitl [M3 X3]
    · isplitl [M3]; · iexact M3
      iexact X3
    isplitl [A4]; · iexact A4
    isplitl [A5]; · iexact A5
    isplitl [MR]; · iexact MR
    iexact XR
  isplitl [V2]; · iexact V2
  isplitl [V3]; · iexact V3
  isplitl [VR]; · iexact VR
  iexact O

/-- The waits for the last columns of the weights, and the chunks whole. -/
theorem spec_waitB : iprop((bigL (FlWB I c) (allF 16) ∗ Ow c) ∗ Res (env I) c 16 0)
    ⊢ W c (each waitWB (allF 16)) (fun _ => iprop(doneB I c ∗ Res (env I) c 16 16 ∗ Ow c)) := by
  iintro ⟨H, R⟩
  ihave R := (Res.open (I := I) (c := c) 16 0) $$ R
  icases R with ⟨R1, R2, -, R4⟩
  iapply (useT (spec_each (c := c) (f := waitWB) (Φ := FlWB I c) (Ψ := E1WB I c) (Fr := Ow c) (fun g => spec_waitWB g) (allF 16))) $$ H
  iintro %_ ⟨H, O⟩
  ihave H := (joinWB I (c := c)) $$ H
  icases H with ⟨H1, R3, H2⟩
  isplitl [H1 H2]
  · unfold doneB
    isplitl [H1]; · iexact H1
    iexact H2
  isplitl [R1 R2 R3 R4]
  · iapply (Res.close (I := I) (c := c) 16 16)
    isplitl [R1]; · iexact R1
    isplitl [R2]; · iexact R2
    isplitl [R3]; · iexact R3
    iexact R4
  iexact O

/-! ## The ends of the tiles -/

def epiP : Mxu F → PR F (Mxu F) := fun m => do
  let m ← epiFirst 0 m
  let m ← epi 1 m
  let m ← epi 2 m
  let m ← epi 3 m
  let m ← epi 4 m
  let m ← epi 5 m
  let m ← epi 6 m
  epi 7 m

variable {m : Mxu F} {R : Regs F}

theorem spec_epiN (t : Fin 12) (n n' k : Nat) (e : t.1 = n) (e' : n' = n + 1) (hk : n = k + 1) (ht : t.1 < 8) (h : Rep m (DP (env I) n) R) :
    Tl I c n ⊢ W c (epi t m) (fun m' => iprop(⌜Rep m' (DP (env I) n') R⌝ ∗ Tl I c n')) := by
  subst e e'
  have := spec_epi (c := c) (I := I) t k hk h (DP_val (env I) t ht)
  rw [DP_pop (env I) t ht, ← hk] at this
  exact this

theorem spec_epiP (h : Rep m (DA (env I) 16) R) : Tl I c 0 ⊢ W c (epiP m) (fun m' => iprop(⌜Rep m' (fun _ _ => none) R⌝ ∗ Tl I c 8)) := by
  have h0 : Rep m (DP (env I) (0 : Fin 12).1) R := by
    rw [show (0 : Fin 12).1 = 0 from rfl, DP_zero]; exact h
  unfold epiP
  iintro H
  have e0 : Tl I c 0 ⊢ W c (epiFirst 0 m) (fun m' => iprop(⌜Rep m' (DP (env I) 1) R⌝ ∗ Tl I c 1)) := by
    have := spec_epiFirst (c := c) (I := I) h0 (DP_val (env I) 0 (by decide))
    rwa [DP_pop (env I) 0 (by decide)] at this
  iapply (useB e0) $$ H
  iintro %m1 ⟨%h1, H⟩
  iapply (useB (spec_epiN (c := c) (I := I) 1 1 2 0 rfl rfl rfl (by decide) h1)) $$ H
  iintro %m2 ⟨%h2, H⟩
  iapply (useB (spec_epiN (c := c) (I := I) 2 2 3 1 rfl rfl rfl (by decide) h2)) $$ H
  iintro %m3 ⟨%h3, H⟩
  iapply (useB (spec_epiN (c := c) (I := I) 3 3 4 2 rfl rfl rfl (by decide) h3)) $$ H
  iintro %m4 ⟨%h4, H⟩
  iapply (useB (spec_epiN (c := c) (I := I) 4 4 5 3 rfl rfl rfl (by decide) h4)) $$ H
  iintro %m5 ⟨%h5, H⟩
  iapply (useB (spec_epiN (c := c) (I := I) 5 5 6 4 rfl rfl rfl (by decide) h5)) $$ H
  iintro %m6 ⟨%h6, H⟩
  iapply (useB (spec_epiN (c := c) (I := I) 6 6 7 5 rfl rfl rfl (by decide) h6)) $$ H
  iintro %m7 ⟨%h7, H⟩
  have e7 : Tl I c 7 ⊢ W c (epi 7 m7) (fun m' => iprop(⌜Rep m' (fun _ _ => none) R⌝ ∗ Tl I c 8)) := by
    have := spec_epiN (c := c) (I := I) 7 7 8 6 rfl rfl rfl (by decide) h7
    rwa [DP_eight] at this
  iapply e7 $$ H

/-- The two tiles of a later phase. -/
theorem spec_epiB (T : Fin 6) (t0 t1 : Fin 12) (n n' k : Nat) (hk : n = k + 1) (e0 : t0.1 = n) (e1 : t1.1 = n + 1) (e2 : n' = n + 2) (hT : pairOf t0 = T) (hT' : pairOf t1 = T) (h0 : unit t0 = 0) (h1 : unit t1 = 1)
    (c0 : tcol T 0 = t0) (c1 : tcol T 1 = t1) (h : Rep m (DB (env I) T 32) R) :
    Tl I c n ⊢ W c (epi t0 m >>= fun m => epi t1 m) (fun m' => iprop(⌜Rep m' (fun _ _ => none) R⌝ ∗ Tl I c n')) := by
  subst e2
  have v0 := DB_val (env I) T 0
  have v1 := DB_val (env I) T 1
  rw [c0] at v0
  rw [c1] at v1
  subst hk
  have s0 := spec_epi (c := c) (I := I) t0 k e0 h (by rw [h0, hT]; exact v0)
  rw [h0, hT] at s0
  iintro H
  iapply (useB s0) $$ H
  iintro %m1 ⟨%g1, H⟩
  have s1 := spec_epi (c := c) (I := I) t1 (k + 1) e1 g1 (by rw [h1, hT']; exact v1)
  rw [h1, hT', DB_pop] at s1
  iapply s1 $$ H

/-! ## The phases -/

def phA (m : Mxu F) : PR F (Mxu F) := streamP (unitsA 15) (some ⟨0, 0, 4⟩) m >>= epiP
def phB (m : Mxu F) : PR F (Mxu F) := do
  let m ← streamP (unitsB 4 0) (some ⟨4, 0, 4⟩) m
  let m ← Scf.Loop.for k0_t2_loop k0_t2_ok m (fun k m => tripB 4 ⟨k.1, trips2 ▸ k.2⟩ m)
  let m ← streamP (unitsB 4 3) (some ⟨0, 0, 5⟩) m
  epi 8 m >>= fun m => epi 9 m
def phC (m : Mxu F) : PR F (Mxu F) := do
  let m ← streamP (unitsB 5 0) (some ⟨4, 0, 5⟩) m
  Scf.Loop.for k0_t3_loop k0_t3_ok m (fun k m => tripB 5 ⟨k.1, trips3 ▸ k.2⟩ m)
def phD (m : Mxu F) : PR F (Mxu F) := do
  let m ← streamP (unitsB 5 3) none m
  epi 10 m >>= fun m => epi 11 m
def phE (m : Mxu F) : PR F PUnit := do
  tailA
  let _ ← Scf.Loop.for k0_t4_loop k0_t4_ok ⟨⟩ (fun k _ => tripQ ⟨k.1, trips4 ▸ k.2⟩)
  tailB
  m.exit
  pure ⟨⟩

theorem clean_phases : (cleanP : PR F PUnit) = (do
  pre
  let m ← pushU ⟨0, 0, 0⟩ 0 mxu0
  let m ← Scf.Loop.for k0_t1_loop k0_t1_ok m (fun k m => tripA ⟨k.1, trips1 ▸ k.2⟩ m)
  waitMid
  each waitWB (allF 16)
  let m ← phA m
  rope
  let m ← phB m
  let m ← phC m
  each waitWQ (allF 12)
  let m ← phD m
  phE m) := by
  simp only [cleanP, phA, phB, phC, phD, phE, epiP, bind_assoc]

theorem RR_none (r : Fin 2) : RR (env I) r none = fun _ _ => none := by
  funext q r'
  unfold RR
  split <;> rfl

theorem spec_phA (h : Rep m (DA (env I) 15) (RR (env I) 0 (some ⟨kf 15, 0, 0⟩))) : iprop(Res (env I) c 16 16 ∗ Tl I c 0)
    ⊢ W c (phA m) (fun m' => iprop(⌜Rep m' (fun _ _ => none) (RR (env I) 0 (some ⟨0, 0, 4⟩))⌝ ∗ Res (env I) c 16 16 ∗ Tl I c 8)) := by
  unfold phA
  have hs : Res (env I) c 16 16 ⊢ W c (streamP (unitsA 15) (some ⟨0, 0, 4⟩) m)
      (fun m' => iprop(⌜Rep m' (DA (env I) 16) (RR (env I) 0 (some ⟨0, 0, 4⟩))⌝ ∗ Res (env I) c 16 16)) := by
    have := spec_streamP (c := c) (e := env I) (n := 16) (nb := 16) (some ⟨0, 0, 4⟩) (fun x _ => ok16 x) (unitsA 15) (fun p _ => ⟨ok16 _, ok16 _⟩) h
    rwa [show addL (env I) (DA (env I) 15) (unitsA 15) = DA (env I) 16 from addL_A (env I) 15] at this
  iintro ⟨R, T⟩
  iapply (useB hs) $$ R
  iintro %m1 ⟨%h1, R⟩
  iapply (useT (spec_epiP (c := c) h1)) $$ T
  iintro %m2 ⟨%h2, T⟩
  isplitr; · ipureintro; exact h2
  isplitl [R]; · iexact R
  iexact T

theorem spec_first (T : Fin 6) (h : Rep m (fun _ _ => none) (RR (env I) 0 (some ⟨0, 0, T⟩))) :
    Res (env I) c 16 16 ⊢ W c (streamP (unitsB T 0) (some ⟨4, 0, T⟩) m) (LB I c T 0) := by
  have := spec_streamB (c := c) (I := I) (m := m) T 0 (some ⟨4, 0, T⟩) (by
    rw [show 8 * (0 : Fin 4).1 = 0 from rfl, DB_zero]; exact h)
  exact this

theorem spec_last (T : Fin 6) (nx : Option Un) (m : Mxu F) : LB I c T 2 m ⊢ W c (streamP (unitsB T 3) nx m)
    (fun m' => iprop(⌜Rep m' (DB (env I) T 32) (RR (env I) 0 nx)⌝ ∗ Res (env I) c 16 16)) := by
  unfold LB
  iintro ⟨%h, R⟩
  have := spec_streamB (c := c) (I := I) (m := m) T 3 nx h
  iapply this $$ R

theorem spec_phB (h : Rep m (fun _ _ => none) (RR (env I) 0 (some ⟨0, 0, 4⟩))) : iprop(Res (env I) c 16 16 ∗ Tl I c 8)
    ⊢ W c (phB m) (fun m' => iprop(⌜Rep m' (fun _ _ => none) (RR (env I) 0 (some ⟨0, 0, 5⟩))⌝ ∗ Res (env I) c 16 16 ∗ Tl I c 10)) := by
  unfold phB
  iintro ⟨R, T⟩
  iapply (useB (spec_first (c := c) (I := I) 4 h)) $$ R
  iintro %m1 R
  iapply (useB (spec_loop2 (c := c) (I := I) m1)) $$ R
  iintro %m2 R
  iapply (useB (spec_last (c := c) (I := I) 4 (some ⟨0, 0, 5⟩) m2)) $$ R
  iintro %m3 ⟨%h3, R⟩
  iapply (useT (spec_epiB (c := c) (I := I) 4 8 9 8 10 7 rfl rfl rfl rfl rfl rfl rfl rfl rfl rfl h3)) $$ T
  iintro %m4 ⟨%h4, T⟩
  isplitr; · ipureintro; exact h4
  isplitl [R]; · iexact R
  iexact T

theorem spec_phC (h : Rep m (fun _ _ => none) (RR (env I) 0 (some ⟨0, 0, 5⟩))) : Res (env I) c 16 16 ⊢ W c (phC m) (LB I c 5 2) := by
  unfold phC
  iintro R
  iapply (useB (spec_first (c := c) (I := I) 5 h)) $$ R
  iintro %m1 R
  iapply (spec_loop3 (c := c) (I := I) m1) $$ R

theorem spec_phD : iprop(LB I c 5 2 m ∗ Tl I c 10)
    ⊢ W c (phD m) (fun m' => iprop(⌜m'.Drained⌝ ∗ Res (env I) c 16 16 ∗ Tl I c 12)) := by
  unfold phD
  iintro ⟨R, T⟩
  iapply (useB (spec_last (c := c) (I := I) 5 none m)) $$ R
  iintro %m3 ⟨%h3, R⟩
  iapply (useT (spec_epiB (c := c) (I := I) 5 10 11 10 12 9 rfl rfl rfl rfl rfl rfl rfl rfl rfl rfl h3)) $$ T
  iintro %m4 ⟨%h4, T⟩
  isplitr
  · ipureintro
    rw [RR_none] at h4
    exact h4.drained
  isplitl [R]; · iexact R
  iexact T

theorem spec_exit {P : sProp (MM F)} (h : m.Drained) : P ⊢ W c (m.exit >>= fun _ => (pure ⟨⟩ : PR F PUnit)) (fun _ => P) := by
  have e1 : P ⊢ W c (.ret ⟨⟩ : PR F PUnit) (fun _ => P) := ret .rfl
  exact e1.trans (wp_assume (defs := defs₀ (F := F)) (k := fun _ => .ret _) Variants.none (c : Thread nD τ) none Set.univ h)

variable (I)
/-- What the end needs beside the sums. -/
def ends0 (c : Dev nD) : sProp (MM F) :=
  iprop((Any F c mOut ∗ Sem0 F c semOut) ∗ (Any F c mXC ∗ Sem0 F c semXC) ∗ (Any F c vXS ∗ Any F c mXS ∗ Sem0 F c semXS)
    ∗ Any F c vRS ∗ Any F c vXC ∗ Any F c vXP ∗ Any F c vSC)
variable {I}

theorem spec_phE (h : m.Drained) : iprop(Is c vSS (ssF I 11) ∗ Is c vNW I.nw ∗ Is c vRO (roG I) ∗ ends0 (F := F) c ∗ Ow c)
    ⊢ W c (phE m) (fun _ => iprop(Is c vSS (ssF I 11) ∗ (outs I c ∗ Is c vNW I.nw) ∗ Ow c)) := by
  unfold phE ends0
  iintro ⟨S, N, R, ⟨M0, M1, M2, V1, V2, V3, V4⟩, O⟩
  iapply (useB (spec_tailA (c := c) (I := I))) $$ [S N R M0 V1 V2 V3 V4]
  · isplitr [M0]
    · isplitl [S]; · iexact S
      isplitl [N]; · iexact N
      isplitl [R]; · iexact R
      isplitl [V1]; · iexact V1
      isplitl [V2]; · iexact V2
      isplitl [V3]; · iexact V3
      iexact V4
    iexact M0
  iintro %_ ⟨S, Fl, H⟩
  iapply (useB (spec_loop4 (c := c) (I := I) fullShare.right)) $$ H
  iintro %_ H
  iapply (useB (spec_tailB (c := c) (I := I))) $$ [Fl H M1 M2 O]
  · isplitl [Fl]; · iexact Fl
    isplitl [H]; · iexact H
    isplitl [M1]; · iexact M1
    isplitl [M2]; · iexact M2
    iexact O
  iintro %_ H
  iapply (spec_exit (c := c) h)
  isplitl [S]; · iexact S
  iexact H

/-! ## The whole body -/

variable (I)
def Pre (c : Dev nD) : sProp (MM F) :=
  iprop(before I c ∗ (Any F c vHSB ∗ Any F c vHP) ∗ (Any F c vRO ∗ Any F c vSS) ∗ (Any F c vCos ∗ Any F c vSin) ∗ ends0 (F := F) c ∗ Ow c)
def Post (c : Dev nD) : sProp (MM F) :=
  iprop(done0 I c ∗ done1 I c ∗ doneB I c ∗ bigL (E1WQ I c) (allF 12)
    ∗ (Is c vRes I.res ∗ Is c vSS (ssF I 11)) ∗ turns I c
    ∗ (Res (env I) c 16 16 ∗ (vH.view.loc (c : Thread nD τ) ↦[lowHP 16]{fullShare} hB I) ∗ Is c vHSB (hsbG I) ∗ bigL (Left I c) (upto 16))
    ∗ outs I c ∗ Ow c)
variable {I}

theorem Tl.last : Tl I c 12 ⊢ iprop((Is c vRes I.res ∗ Is c vSS (ssF I 11)) ∗ Is c vRO (roG I)) := by
  iintro H
  ihave H := (Tl.openS (c := c) (I := I) 11) $$ H
  unfold Tr
  icases H with ⟨H3, H1, H2⟩
  isplitl [H1 H3]
  · isplitl [H1]; · iexact H1
    iexact H3
  iapply (Agr.all (c := c) (m := vRO) (G := roG I) (P := lowRO 12) (fun i => by
    have := ((show S256x3072.Idx from i) 1).isLt
    have h : ((show S256x3072.Idx from i) 1).val < 3072 := this
    show ((show S256x3072.Idx from i) 1).val / 256 < 12
    omega)) $$ H2
theorem Tl.first : iprop(Is c vRes I.res ∗ Any F c vRO ∗ Any F c vSS) ⊢ Tl I c 0 := by
  iintro ⟨H1, H2, H3⟩
  iapply (Tl.close (c := c) (I := I) 0)
  isplitl [H3]
  · iapply (show Any F c vSS ⊢ SSt I c 0 from .rfl) $$ H3
  unfold Tr
  isplitl [H1]; · iexact H1
  iapply (Agr.start (c := c) (m := vRO) (G := roG I) (P := lowRO 0) (fun i => Nat.not_lt_zero _)) $$ H2

theorem LA.first (m : Mxu F) (h : Rep m (fun _ _ => none) (RR (env I) 0 (some ⟨0, 0, 0⟩))) : iprop(bigL (FlA I c) (rest 0) ∗ Ch I c 1) ⊢ LA I c 0 m := by
  unfold LA
  iintro H
  isplitr
  · ipureintro
    rw [DA_zero]
    exact h
  iexact H
theorem LA.last (m : Mxu F) : LA I c 15 m ⊢ iprop(⌜Rep m (DA (env I) 15) (RR (env I) 0 (some ⟨kf 15, 0, 0⟩))⌝ ∗ Ch I c 16) := by
  unfold LA
  iintro ⟨%h, -, C⟩
  isplitr; · ipureintro; exact h
  iexact C

theorem spec_clean : Pre I c ⊢ W c cleanP (fun _ => Post I c) := by
  rw [clean_phases]
  unfold Pre Post
  iintro ⟨B, ⟨S1, S2⟩, ⟨S3, S4⟩, ⟨S5, S6⟩, X, O⟩
  iapply (useB (spec_pre (I := I) (c := c))) $$ [B S1 S2 O]
  · isplitl [B]; · iexact B
    isplitl [S1]; · iexact S1
    isplitl [S2]; · iexact S2
    iexact O
  iintro %_ ⟨D0, L, A, C⟩
  ihave C := (Ch.open (I := I) (c := c) 1) $$ C
  icases C with ⟨R, C⟩
  iapply (useB (spec_pushU (c := c) (e := env I) (n := 1) (nb := 0) ⟨0, 0, 0⟩ 0 (okA _ _ _ (by decide) (by decide)) rep_mxu0 (fun _ _ => rfl))) $$ R
  iintro %m1 ⟨%h1, R⟩
  ihave A := (LA.first (I := I) (c := c) m1 h1) $$ [A R C]
  · isplitl [A]; · iexact A
    iapply (Ch.close (I := I) (c := c) 1)
    isplitl [R]; · iexact R
    iexact C
  iapply (useB (spec_loopA (I := I) (c := c) m1)) $$ A
  iintro %m2 A
  ihave A := (LA.last (I := I) (c := c) m2) $$ A
  icases A with ⟨%h2, C⟩
  ihave C := (Ch.open (I := I) (c := c) 16) $$ C
  icases C with ⟨R, C1, C2, C3, O⟩
  ihave L := (show late I c ⊢ iprop(Fs2 I c ∗ Fs3 I c ∗ Fs4 I c ∗ Fs5 I c ∗ FsR I c ∗ bigL (FlWB I c) (allF 16) ∗ bigL (FlWQ I c) (allF 12)) from .rfl) $$ L
  icases L with ⟨L2, L3, L4, L5, LR, LB, LQ⟩
  iapply (useB (spec_waitMid (I := I) (c := c))) $$ [L2 L3 L4 L5 LR O]
  · isplitr [O]
    · isplitl [L2]; · iexact L2
      isplitl [L3]; · iexact L3
      isplitl [L4]; · iexact L4
      isplitl [L5]; · iexact L5
      iexact LR
    iexact O
  iintro %_ ⟨D1, V1, V2, V3, O⟩
  iapply (useB (spec_waitB (I := I) (c := c))) $$ [LB O R]
  · isplitr [R]
    · isplitl [LB]; · iexact LB
      iexact O
    iexact R
  iintro %_ ⟨DB, R, O⟩
  ihave T := (Tl.first (I := I) (c := c)) $$ [V3 S3 S4]
  · isplitl [V3]; · iexact V3
    isplitl [S3]; · iexact S3
    iexact S4
  iapply (useB (spec_phA (I := I) (c := c) h2)) $$ [R T]
  · isplitl [R]; · iexact R
    iexact T
  iintro %m3 ⟨%h3, R, T⟩
  iapply (useB (spec_rope I (c := c))) $$ [V1 V2 S5 S6]
  · isplitl [V1]; · iexact V1
    isplitl [V2]; · iexact V2
    isplitl [S5]; · iexact S5
    iexact S6
  iintro %_ V
  iapply (useB (spec_phB (I := I) (c := c) h3)) $$ [R T]
  · isplitl [R]; · iexact R
    iexact T
  iintro %m4 ⟨%h4, R, T⟩
  iapply (useB (spec_phC (I := I) (c := c) h4)) $$ R
  iintro %m5 R
  iapply (useB (spec_each (c := c) (f := waitWQ) (Φ := FlWQ I c) (Ψ := E1WQ I c) (Fr := Ow c) (fun g => spec_waitWQ g) (allF 12))) $$ [LQ O]
  · isplitl [LQ]; · iexact LQ
    iexact O
  iintro %_ ⟨Q, O⟩
  iapply (useB (spec_phD (I := I) (c := c))) $$ [R T]
  · isplitl [R]; · iexact R
    iexact T
  iintro %m6 ⟨%h6, R, T⟩
  ihave T := (Tl.last (I := I) (c := c)) $$ T
  icases T with ⟨⟨T, S⟩, T2⟩
  unfold done1
  icases D1 with ⟨E1, E2, ⟨E3, N, E4⟩, E5, E6, E7⟩
  iapply (useT (spec_phE (c := c) (I := I) h6)) $$ [S N T2 X O]
  · isplitl [S]; · iexact S
    isplitl [N]; · iexact N
    isplitl [T2]; · iexact T2
    isplitl [X]; · iexact X
    iexact O
  iintro %_ ⟨S, ⟨T2, N⟩, O⟩
  isplitl [D0]; · iexact D0
  isplitl [E1 E2 E3 N E4 E5 E6 E7]
  · isplitl [E1]; · iexact E1
    isplitl [E2]; · iexact E2
    isplitl [E3 N E4]
    · isplitl [E3]; · iexact E3
      isplitl [N]; · iexact N
      iexact E4
    isplitl [E5]; · iexact E5
    isplitl [E6]; · iexact E6
    iexact E7
  isplitl [DB]; · iexact DB
  isplitl [Q]; · iexact Q
  isplitl [T S]
  · isplitl [T]; · iexact T
    iexact S
  isplitl [V]; · iexact V
  isplitl [R C1 C2 C3]
  · isplitl [R]; · iexact R
    isplitl [C1]; · iexact C1
    isplitl [C2]; · iexact C2
    iexact C3
  isplitl [T2]; · iexact T2
  iexact O

end Cert.KernelIdeal.Hand
-- ==== Proof.Host.lean ====
module

public import proofs.«01_k».proof.Proof.Main
public import Idealize.ShloMosaic.Lib.Pipeline.BigSepL
public import Idealize.ShloMosaic.Lib.Pipeline.Routed

/-! What the region hands the body, and the run of the whole program. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {c : Dev nD}

/-! ## The cells -/

abbrev osem : DmaSem sig → SemLoc sig := SemLoc.dma
theorem own : Pipeline.OwnSemFacts (cfg0.spec) osem := by decide

/-- All the cells, those of the chunks in the order `u`. -/
def semL (u : List (Fin 16)) : List (DmaSem sig) :=
  [0, 1, 2, 3, 4, 5].map semSmall ++ (u.map (semA 0) ++ (u.map (semA 1) ++ ((allF 16).map semB ++ ([semRes] ++ ((allF 12).map semQ ++ [semOut, semXC, semXS, 67])))))
theorem semL_all : Finset.univ = (semL (allF 16)).toFinset := by decide
theorem semL_upto : Finset.univ = (semL (upto 16)).toFinset := by decide
theorem semL_nodup : (semL (allF 16)).Nodup := by decide
theorem semL_nodup' : (semL (upto 16)).Nodup := by decide

theorem toL {T : Type} (Φ : T → sProp (MM F)) : ∀ l : List T, BI.bigSepL l Φ = bigL Φ l
  | [] => rfl
  | a :: l => by rw [BI.bigSepL_cons, toL Φ l]; rfl

/-- Every cell at zero. -/
def Sems (F : FTy → Type) [FloatOps F] (c : Dev nD) (u : List (Fin 16)) : sProp (MM F) :=
  iprop((Sem0 F c (semSmall 0) ∗ Sem0 F c (semSmall 1) ∗ Sem0 F c (semSmall 2) ∗ Sem0 F c (semSmall 3) ∗ Sem0 F c (semSmall 4) ∗ Sem0 F c (semSmall 5) ∗ emp)
    ∗ bigL (fun g => Sem0 F c (semA 0 g)) u ∗ bigL (fun g => Sem0 F c (semA 1 g)) u ∗ bigL (fun g => Sem0 F c (semB g)) (allF 16)
    ∗ (Sem0 F c semRes ∗ emp) ∗ bigL (fun g => Sem0 F c (semQ g)) (allF 12) ∗ (Sem0 F c semOut ∗ Sem0 F c semXC ∗ Sem0 F c semXS ∗ Sem0 F c 67 ∗ emp))

theorem sems_list (u : List (Fin 16)) : (BI.bigSepL (semL u) fun k => semVal ((c.tc : Thread nD τ), osem k) 0 : sProp (MM F)) = Sems F c u := by
  unfold semL Sems
  simp only [BI.bigSepL_append, BI.bigSepL_map, toL]
  rfl

theorem sems_all : (Pipeline.ownSems0 (Ix := Unit) (Name := ℕ) (U := Pipeline.UC sig nD τ) (Lvl := ℕ) (Val := Elt F) (τ := τ) osem c : sProp (MM F)) = Sems F c (allF 16) := by
  rw [Pipeline.ownSems0_eq_of_list c osem (semL (allF 16)) semL_all semL_nodup, sems_list]
theorem sems_upto : (Pipeline.ownSems0 (Ix := Unit) (Name := ℕ) (U := Pipeline.UC sig nD τ) (Lvl := ℕ) (Val := Elt F) (τ := τ) osem c : sProp (MM F)) = Sems F c (upto 16) := by
  rw [Pipeline.ownSems0_eq_of_list c osem (semL (upto 16)) semL_upto semL_nodup', sems_list]

/-! ## The buffers -/

def R0 : Finset (Ref sig .tc) := {main_v0, main_v1, main_arg2, main_v2, main_v3, main_v4, main_arg6, main_arg7, main_arg8, main_cst, main_v5_0, main_v5_1, main_v5_2}
theorem R0_sub : R0 ⊆ Pipeline.restRefs sig (cfg0.spec) := by decide

/-- The operands and the results. -/
def Hb (I : Inp F) (o : S256x3072.Idx → Elt F .bf16) (o1 : S256x3072.Idx → Elt F .fp8e4m3) (o2 : S2x24x128.Idx → Elt F .f32) (c : Dev nD) : sProp (MM F) :=
  iprop(Is c mH I.h ∗ Is c mHS I.hs ∗ Is c mWD I.wd ∗ Is c mWS I.ws ∗ Is c mRes I.res ∗ Is c mNW I.nw ∗ Is c mWQ I.wq ∗ Is c mQS I.qs ∗ Is c mPos I.pos ∗ Is c mIF I.fr ∗ Is c mOut o ∗ Is c mXC o1 ∗ Is c mXS o2)

/-- What the buffers hold, as the operands of the kernel. -/
def inpOf (W : (b : Ref sig .tc) → Buf (Elt F) ((c.tc : Thread nD τ).loc b)) : Inp F :=
  ⟨W main_v0, W main_v1, W main_arg2, W main_v2, W main_v3, W main_v4, W main_arg6, W main_arg7, W main_arg8, W main_cst⟩

theorem routed_eq (W : (b : Ref sig .tc) → Buf (Elt F) ((c.tc : Thread nD τ).loc b)) :
    (Pipeline.routed R0 c W : sProp (MM F)) = Hb (inpOf W) (W main_v5_0) (W main_v5_1) (W main_v5_2) c := by
  unfold Pipeline.routed R0
  rw [BI.bigSep_eq_bigSepL_of_eq [main_v0, main_v1, main_arg2, main_v2, main_v3, main_v4, main_arg6, main_arg7, main_arg8, main_cst, main_v5_0, main_v5_1, main_v5_2] (by decide) (by decide)]
  rfl

/-- The buffers of the kernel's own. -/
def Sc (F : FTy → Type) [FloatOps F] (c : Dev nD) : sProp (MM F) :=
  iprop(Any F c vH ∗ Any F c vHS ∗ Any F c vHSB ∗ Any F c vHP ∗ Any F c vWA ∗ Any F c vWB ∗ Any F c vRes ∗ Any F c vNW ∗ Any F c vWQ ∗ Any F c vPos ∗ Any F c vIF ∗ Any F c vRO ∗ Any F c vSS ∗ Any F c vRS ∗ Any F c vXP ∗ Any F c vXC ∗ Any F c vSC ∗ Any F c vXS ∗ Any F c vCos ∗ Any F c vSin ∗ Any F c sWS ∗ Any F c sQS)
theorem scoped_eq : (Pipeline.scopedRest (Ix := Unit) (Name := ℕ) (U := Pipeline.UC sig nD τ) (Lvl := ℕ) (Val := Elt F) (cfg0.spec) c : sProp (MM F)) = Sc F c := by
  rw [scopedRest0_eq]
  rfl

/-! ## From the region's hands to the body's and back -/

/-- The cells no copy of the body uses. -/
def Idle (F : FTy → Type) [FloatOps F] (c : Dev nD) : sProp (MM F) := Sem0 F c 67

variable (I : Inp F)

theorem anyOf {sp : Space} {s : Shape} {e : EltTy} (m : Memref sig .tc sp s e) {S : Finset (Idx (m.view.loc (c : Thread nD τ)))} (h : S = Finset.univ)
    (f : Buf (Elt F) (m.view.loc (c : Thread nD τ))) : (m.view.loc (c : Thread nD τ) ↦[S]{fullShare} f) ⊢ Any F c m := by
  subst h
  iintro H; iexists f; iexact H

theorem toPre (o : S256x3072.Idx → Elt F .bf16) (o1 : S256x3072.Idx → Elt F .fp8e4m3) (o2 : S2x24x128.Idx → Elt F .f32) : iprop(Hb I o o1 o2 c ∗ Sems F c (allF 16) ∗ Sc F c ∗ Ow c) ⊢ iprop(Pre I c ∗ Idle F c) := by
  unfold Hb Sems Sc Pre before smalls0 S0 ends0 Idle
  iintro ⟨⟨B0, B1, B2, B3, B4, B5, B6, B7, B8, B9, B10, BC, BX⟩, ⟨⟨Q0, Q1, Q2, Q3, Q4, Q5, -⟩, A0, A1, AB, ⟨QR, -⟩, AQ, QO, QC, QX, X1, -⟩, ⟨S_vH, S_vHS, S_vHSB, S_vHP, S_vWA, S_vWB, S_vRes, S_vNW, S_vWQ, S_vPos, S_vIF, S_vRO, S_vSS, S_vRS, S_vXP, S_vXC, S_vSC, S_vXS, S_vCos, S_vSin, S_sWS, S_sQS⟩, O⟩
  ihave B2 := (cutWD I (c := c)).1 $$ B2
  icases B2 with ⟨C1, C2⟩
  ihave B10 := (anyOf (c := c) mOut rfl o) $$ B10
  ihave BC := (anyOf (c := c) mXC rfl o1) $$ BC
  ihave BX := (anyOf (c := c) mXS rfl o2) $$ BX
  ihave E1 := (cutH I (c := c)) $$ [B0 S_vH A0]
  · isplitl [B0]; · iexact B0
    isplitl [S_vH]; · iexact S_vH
    iexact A0
  ihave E2 := (cutWA I (c := c)) $$ [C1 S_vWA A1]
  · isplitl [C1]; · iexact C1
    isplitl [S_vWA]; · iexact S_vWA
    iexact A1
  ihave E3 := (cutWB I (c := c)) $$ [C2 S_vWB AB]
  · isplitl [C2]; · iexact C2
    isplitl [S_vWB]; · iexact S_vWB
    iexact AB
  ihave E4 := (cutWQ I (c := c)) $$ [B6 S_vWQ AQ]
  · isplitl [B6]; · iexact B6
    isplitl [S_vWQ]; · iexact S_vWQ
    iexact AQ
  isplitr [X1]
  · isplitl [B1 S_vHS Q0 B3 S_sWS Q1 B8 S_vPos Q2 B9 S_vIF Q3 B5 S_vNW Q4 B7 S_sQS Q5 B4 S_vRes QR E1 E2 E3 E4]
    · isplitl [B1 S_vHS Q0 B3 S_sWS Q1 B8 S_vPos Q2 B9 S_vIF Q3 B5 S_vNW Q4 B7 S_sQS Q5 B4 S_vRes QR]
      · isplitl [B1 S_vHS Q0]
        · isplitl [B1]
          · iexact B1
          isplitl [S_vHS]
          · iexact S_vHS
          iexact Q0
        isplitl [B3 S_sWS Q1]
        · isplitl [B3]
          · iexact B3
          isplitl [S_sWS]
          · iexact S_sWS
          iexact Q1
        isplitl [B8 S_vPos Q2]
        · isplitl [B8]
          · iexact B8
          isplitl [S_vPos]
          · iexact S_vPos
          iexact Q2
        isplitl [B9 S_vIF Q3]
        · isplitl [B9]
          · iexact B9
          isplitl [S_vIF]
          · iexact S_vIF
          iexact Q3
        isplitl [B5 S_vNW Q4]
        · isplitl [B5]
          · iexact B5
          isplitl [S_vNW]
          · iexact S_vNW
          iexact Q4
        isplitl [B7 S_sQS Q5]
        · isplitl [B7]
          · iexact B7
          isplitl [S_sQS]
          · iexact S_sQS
          iexact Q5
        isplitl [B4]
        · iexact B4
        isplitl [S_vRes]
        · iexact S_vRes
        iexact QR
      isplitl [E1]
      · iexact E1
      isplitl [E2]
      · iexact E2
      isplitl [E3]
      · iexact E3
      iexact E4
    isplitl [S_vHSB S_vHP]
    · isplitl [S_vHSB]
      · iexact S_vHSB
      iexact S_vHP
    isplitl [S_vRO S_vSS]
    · isplitl [S_vRO]
      · iexact S_vRO
      iexact S_vSS
    isplitl [S_vCos S_vSin]
    · isplitl [S_vCos]
      · iexact S_vCos
      iexact S_vSin
    isplitl [B10 QO BC QC S_vXS BX QX S_vRS S_vXC S_vXP S_vSC]
    · isplitl [B10 QO]
      · isplitl [B10]
        · iexact B10
        iexact QO
      isplitl [BC QC]
      · isplitl [BC]
        · iexact BC
        iexact QC
      isplitl [S_vXS BX QX]
      · isplitl [S_vXS]
        · iexact S_vXS
        isplitl [BX]
        · iexact BX
        iexact QX
      isplitl [S_vRS]
      · iexact S_vRS
      isplitl [S_vXC]
      · iexact S_vXC
      isplitl [S_vXP]
      · iexact S_vXP
      iexact S_vSC
    iexact O
  iexact X1

theorem full_HP : lowHP 16 = Finset.univ := Finset.filter_true_of_mem fun i _ => ((show S16x256x512.Idx from i) 0).isLt
theorem full_A : lowA 16 = Finset.univ := Finset.filter_true_of_mem fun i _ => ((show S16x512x2048.Idx from i) 0).isLt
theorem full_B : lowB 16 = Finset.univ := Finset.filter_true_of_mem fun i _ => ((show S16x512x1024.Idx from i) 0).isLt

theorem Agr.any {cs : CoreSpace} {s : Shape} {e : EltTy} (m : Memref sig .tc cs s e) {P : Idx (m.view.loc (c : Thread nD τ)) → Prop}
    {G : Buf (Elt F) (m.view.loc (c : Thread nD τ))} : Agr c m P G ⊢ Any F c m := by
  unfold Agr
  iintro ⟨%f, -, H⟩
  iexists f; iexact H

theorem ofPost : iprop(Post I c ∗ Idle F c) ⊢ iprop(Hb I (roG I) (xcG I) (xsG I) c ∗ Sems F c (upto 16) ∗ Sc F c ∗ Ow c) := by
  unfold Hb Sems Sc Post done0 done1 doneB turns outs Idle
  iintro ⟨⟨⟨⟨B1, S_vHS, Q0⟩, B3, Q1⟩, ⟨⟨B8, Q2⟩, ⟨B9, Q3⟩, ⟨B5, S_vNW, Q4⟩, ⟨B7, S_sQS, Q5⟩, B4, QR⟩, ⟨C2, AB⟩, WQ, ⟨S_vRes, S_vSS⟩, ⟨S_vPos, S_vIF, S_vCos, S_vSin⟩, ⟨R, S_vH, S_vHSB, L⟩, ⟨⟨S_vRO, B10, QO⟩, ⟨S_vXC, BC, QC⟩, ⟨S_vXS, BX, QX⟩, S_vRS, S_vXP, S_vSC⟩, O⟩, X1⟩
  ihave R := (Res.open (I := I) (c := c) 16 16) $$ R
  icases R with ⟨S_vHP, S_vWA, S_vWB, S_sWS⟩
  ihave L := (joinLeft I (c := c)) $$ L
  icases L with ⟨⟨B0, A0⟩, C1, A1⟩
  ihave WQ := (joinWQ I (c := c)) $$ WQ
  icases WQ with ⟨B6, S_vWQ, AQ⟩
  ihave B2 := (cutWD I (c := c)).2 $$ [C1 C2]
  · isplitl [C1]; · iexact C1
    iexact C2
  ihave S_vHP := (Agr.any (c := c) vHP) $$ S_vHP
  ihave S_vH := (anyOf (c := c) vH full_HP (hB I)) $$ S_vH
  ihave S_vWA := (anyOf (c := c) vWA full_A (waB I)) $$ S_vWA
  ihave S_vWB := (anyOf (c := c) vWB full_B (wbB I)) $$ S_vWB
  ihave S_vHS := (Is.any (c := c) (m := vHS)) $$ S_vHS
  ihave S_vNW := (Is.any (c := c) (m := vNW)) $$ S_vNW
  ihave S_sQS := (Is.any (c := c) (m := sQS)) $$ S_sQS
  ihave S_vRes := (Is.any (c := c) (m := vRes)) $$ S_vRes
  ihave S_vPos := (Is.any (c := c) (m := vPos)) $$ S_vPos
  ihave S_vIF := (Is.any (c := c) (m := vIF)) $$ S_vIF
  ihave S_vHSB := (Is.any (c := c) (m := vHSB)) $$ S_vHSB
  ihave S_vRO := (Is.any (c := c) (m := vRO)) $$ S_vRO
  ihave S_vSS := (Is.any (c := c) (m := vSS)) $$ S_vSS
  ihave S_vRS := (Is.any (c := c) (m := vRS)) $$ S_vRS
  ihave S_vXC := (Is.any (c := c) (m := vXC)) $$ S_vXC
  ihave S_vSC := (Is.any (c := c) (m := vSC)) $$ S_vSC
  ihave S_vXS := (Is.any (c := c) (m := vXS)) $$ S_vXS
  ihave S_sWS := (Is.any (c := c) (m := sWS)) $$ S_sWS
  ihave S_vWQ := (Is.any (c := c) (m := vWQ)) $$ S_vWQ
  isplitl [B0 B1 B2 B3 B4 B5 B6 B7 B8 B9 B10 BC BX]
  · isplitl [B0]
    · iexact B0
    isplitl [B1]
    · iexact B1
    isplitl [B2]
    · iexact B2
    isplitl [B3]
    · iexact B3
    isplitl [B4]
    · iexact B4
    isplitl [B5]
    · iexact B5
    isplitl [B6]
    · iexact B6
    isplitl [B7]
    · iexact B7
    isplitl [B8]
    · iexact B8
    isplitl [B9]
    · iexact B9
    isplitl [B10]
    · iexact B10
    isplitl [BC]
    · iexact BC
    iexact BX
  isplitl [Q0 Q1 Q2 Q3 Q4 Q5 A0 A1 AB QR AQ QO QC QX X1]
  · isplitl [Q0 Q1 Q2 Q3 Q4 Q5]
    · isplitl [Q0]
      · iexact Q0
      isplitl [Q1]
      · iexact Q1
      isplitl [Q2]
      · iexact Q2
      isplitl [Q3]
      · iexact Q3
      isplitl [Q4]
      · iexact Q4
      isplitl [Q5]
      · iexact Q5
      iempintro
    isplitl [A0]
    · iexact A0
    isplitl [A1]
    · iexact A1
    isplitl [AB]
    · iexact AB
    isplitl [QR]
    · isplitl [QR]
      · iexact QR
      iempintro
    isplitl [AQ]
    · iexact AQ
    isplitl [QO]
    · iexact QO
    isplitl [QC]
    · iexact QC
    isplitl [QX]
    · iexact QX
    isplitl [X1]
    · iexact X1
    iempintro
  isplitl [S_vH S_vHS S_vHSB S_vHP S_vWA S_vWB S_vRes S_vNW S_vWQ S_vPos S_vIF S_vRO S_vSS S_vRS S_vXP S_vXC S_vSC S_vXS S_vCos S_vSin S_sWS S_sQS]
  · isplitl [S_vH]
    · iexact S_vH
    isplitl [S_vHS]
    · iexact S_vHS
    isplitl [S_vHSB]
    · iexact S_vHSB
    isplitl [S_vHP]
    · iexact S_vHP
    isplitl [S_vWA]
    · iexact S_vWA
    isplitl [S_vWB]
    · iexact S_vWB
    isplitl [S_vRes]
    · iexact S_vRes
    isplitl [S_vNW]
    · iexact S_vNW
    isplitl [S_vWQ]
    · iexact S_vWQ
    isplitl [S_vPos]
    · iexact S_vPos
    isplitl [S_vIF]
    · iexact S_vIF
    isplitl [S_vRO]
    · iexact S_vRO
    isplitl [S_vSS]
    · iexact S_vSS
    isplitl [S_vRS]
    · iexact S_vRS
    isplitl [S_vXP]
    · iexact S_vXP
    isplitl [S_vXC]
    · iexact S_vXC
    isplitl [S_vSC]
    · iexact S_vSC
    isplitl [S_vXS]
    · iexact S_vXS
    isplitl [S_vCos]
    · iexact S_vCos
    isplitl [S_vSin]
    · iexact S_vSin
    isplitl [S_sWS]
    · iexact S_sWS
    iexact S_sQS
  iexact O

/-! ## The body as the region calls it -/

variable {I}

abbrev Ent (c : Dev nD) (W' : (b : Ref sig .tc) → Buf (Elt F) ((c.tc : Thread nD τ).loc b)) : sProp (MM F) :=
  Pipeline.Ends (cfg0.spec) osem R0 c W'

theorem ent_open (W' : (b : Ref sig .tc) → Buf (Elt F) ((c.tc : Thread nD τ).loc b)) :
    Ent c W' ⊢ iprop(Hb (inpOf W') (W' main_v5_0) (W' main_v5_1) (W' main_v5_2) c ∗ Sems F c (allF 16) ∗ Sc F c ∗ (∃ r, prngReg c r)) := by
  unfold Ent Pipeline.Ends
  rw [routed_eq, sems_all, scoped_eq]
theorem ent_close (W' : (b : Ref sig .tc) → Buf (Elt F) ((c.tc : Thread nD τ).loc b)) :
    iprop(Hb (inpOf W') (W' main_v5_0) (W' main_v5_1) (W' main_v5_2) c ∗ Sems F c (upto 16) ∗ Sc F c ∗ (∃ r, prngReg c r)) ⊢ Ent c W' := by
  unfold Ent Pipeline.Ends
  rw [routed_eq, sems_upto, scoped_eq]

/-- The buffers after the region: the results there, the others as before. -/
def outW (W' : (b : Ref sig .tc) → Buf (Elt F) ((c.tc : Thread nD τ).loc b)) : (b : Ref sig .tc) → Buf (Elt F) ((c.tc : Thread nD τ).loc b) :=
  Function.update (Function.update (Function.update W' main_v5_0 (roG (inpOf W'))) main_v5_1 (xcG (inpOf W'))) main_v5_2 (xsG (inpOf W'))

theorem outW_v0 (W' : (b : Ref sig .tc) → Buf (Elt F) ((c.tc : Thread nD τ).loc b)) : outW W' main_v5_0 = roG (inpOf W') :=
  (Function.update_of_ne (by decide) ..).trans ((Function.update_of_ne (by decide) ..).trans (Function.update_self ..))
theorem outW_v1 (W' : (b : Ref sig .tc) → Buf (Elt F) ((c.tc : Thread nD τ).loc b)) : outW W' main_v5_1 = xcG (inpOf W') :=
  (Function.update_of_ne (by decide) ..).trans (Function.update_self ..)
theorem outW_v2 (W' : (b : Ref sig .tc) → Buf (Elt F) ((c.tc : Thread nD τ).loc b)) : outW W' main_v5_2 = xsG (inpOf W') := Function.update_self ..
theorem outW_ne (W' : (b : Ref sig .tc) → Buf (Elt F) ((c.tc : Thread nD τ).loc b)) {b : Ref sig .tc} (h : b ≠ main_v5_0 ∧ b ≠ main_v5_1 ∧ b ≠ main_v5_2) :
    outW W' b = W' b :=
  (Function.update_of_ne h.2.2 ..).trans ((Function.update_of_ne h.2.1 ..).trans (Function.update_of_ne h.1 ..))
theorem inp_outW (W' : (b : Ref sig .tc) → Buf (Elt F) ((c.tc : Thread nD τ).loc b)) : inpOf (outW W') = inpOf W' := by
  unfold inpOf
  rw [outW_ne W' (b := main_v0) (by decide), outW_ne W' (b := main_v1) (by decide), outW_ne W' (b := main_arg2) (by decide), outW_ne W' (b := main_v2) (by decide),
    outW_ne W' (b := main_v3) (by decide), outW_ne W' (b := main_v4) (by decide), outW_ne W' (b := main_arg6) (by decide), outW_ne W' (b := main_arg7) (by decide),
    outW_ne W' (b := main_arg8) (by decide), outW_ne W' (b := main_cst) (by decide)]

theorem spec_body (W' : (b : Ref sig .tc) → Buf (Elt F) ((c.tc : Thread nD τ).loc b)) :
    iprop(Ent c W' ∗ Ow c) ⊢ W c cleanP (fun _ => iprop(Ent c (outW W') ∗ Ow c)) := by
  iintro ⟨E, O⟩
  ihave E := (ent_open (c := c) W') $$ E
  icases E with ⟨E1, E2, E3, E4⟩
  ihave P := (toPre (c := c) (inpOf W') (W' main_v5_0) (W' main_v5_1) (W' main_v5_2)) $$ [E1 E2 E3 O]
  · isplitl [E1]; · iexact E1
    isplitl [E2]; · iexact E2
    isplitl [E3]; · iexact E3
    iexact O
  icases P with ⟨P, X⟩
  iapply (useT (spec_clean (c := c) (I := inpOf W'))) $$ P
  iintro %_ P
  ihave P := (ofPost (c := c) (inpOf W')) $$ [P X]
  · isplitl [P]; · iexact P
    iexact X
  icases P with ⟨E1, E2, E3, O⟩
  isplitr [O]
  · iapply (ent_close (c := c) (outW W'))
    isplitl [E1]
    · iapply (ofEq (show Hb (inpOf W') (roG (inpOf W')) (xcG (inpOf W')) (xsG (inpOf W')) c = Hb (inpOf (outW W')) (outW W' main_v5_0) (outW W' main_v5_1) (outW W' main_v5_2) c by rw [inp_outW, outW_v0, outW_v1, outW_v2])) $$ E1
    isplitl [E2]; · iexact E2
    isplitl [E3]; · iexact E3
    iexact E4
  iexact O

end Cert.KernelIdeal.Hand
-- ==== Proof.Run.lean ====
module

public import proofs.«01_k».proof.Proof.Host
public import proofs.«01_k».proof.Proof.Gen.KernelIdeal.Frame
public import Idealize.ShloMosaic.Lib.Pipeline.BigSepL
public import Idealize.ShloMosaic.Lib.Pipeline.Routed

/-! The run of the whole program. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {c : Dev nD}

variable (m : (ℓ : Loc nD τ sig) → Buf (Elt F) ℓ) (ρ : Dev nD → PrngReg)

def PhiR (c : Dev nD) (n : Nat) : sProp (MM F) := match n with
  | 0 => Ent c (V m c)
  | _ + 1 => Ent c (outW (V m c))

def dats (p : Fin 1) (c : Dev nD) : Pipeline.Dat τ (Elt F) Unit ℕ (Pipeline.UC sig nD τ) ℕ (cfgs p) c := match p with
  | 0 => { A := fun w => Fin.elim0 w, after := fun w => Fin.elim0 w, Φ := fun t => PhiR m c t.val, q := fun _ => fullShare, owed := fun _ => 0 }
  | ⟨_ + 1, h⟩ => absurd h (Nat.not_lt.2 (Nat.le_add_left _ _))

theorem hmainC (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

theorem none0 {M : Type} [URA M] (Φ : Fin 0 → sProp M) : bigSep Finset.univ Φ = BI.emp :=
  BI.bigSep_eq_bigSepL_of_eq [] (by decide) (by decide) Φ

theorem owes_open (c : Dev nD) (t : Fin (cfg0.N + 1)) : ((dats m 0 c).owesAt () t : sProp (MM F)) ⊢ Ow c := by
  unfold Ow Pipeline.Dat.owesAt Pipeline.owesWithin
  rw [show (dats m 0 c).owed t = 0 from rfl]
  iintro ⟨%w, -, H⟩
  iexists w; iexact H
theorem owes_close (c : Dev nD) (t : Fin (cfg0.N + 1)) : Ow c ⊢ ((dats m 0 c).owesAt () t : sProp (MM F)) := by
  unfold Ow Pipeline.Dat.owesAt Pipeline.owesWithin
  rw [show (dats m 0 c).owed t = 0 from rfl]
  iintro ⟨%w, H⟩
  iexists w
  isplitr; · ipureintro; intro x _; exact Or.inl trivial
  iexact H

theorem defs₀_row (t : Fin cfg0.N) : defs₀ (F := F) .tc cfg0.body (cfg0.bodyArgs t (cfg0.slots t)) = bodyAt0 t := rfl

theorem body_obligation (c : Dev nD) : Pipeline.BodyObligationLoose (dats m 0 c) (defs₀ (F := F)) Variants.none () Set.univ := fun t => by
  obtain rfl := fin_N0 t
  have e0 : (dats m 0 c).Φ (t0_0).castSucc = Ent c (V m c) := rfl
  have e1 : (dats m 0 c).Φ (t0_0).succ = Ent c (outW (V m c)) := rfl
  have hb : bodyAt0 (F := F) t0_0 = cleanP := clean_eq
  have h := spec_body (c := c) (V m c)
  have o0 := owes_open m c (t0_0).castSucc
  have o1 := owes_close m c (t0_0).succ
  rw [none0, none0, defs₀_row, hb, e0, e1]
  have h1 : iprop(Ent c (V m c) ∗ (dats m 0 c).owesAt () (t0_0).castSucc ∗ BI.emp) ⊢ iprop(Ent c (V m c) ∗ Ow c) := by
    iintro ⟨H, O, -⟩
    isplitl [H]; · iexact H
    iapply o0 $$ O
  have h2 : iprop(Ent c (outW (V m c)) ∗ Ow c) ⊢ iprop(Ent c (outW (V m c)) ∗ (dats m 0 c).owesAt () (t0_0).succ ∗ BI.emp) := by
    iintro ⟨H, O⟩
    isplitl [H]; · iexact H
    isplitl [O]; · iapply o1 $$ O
    iempintro
  exact h1.trans (conseq h fun _ => h2)

/-- From any memory the program ends, the results in their buffers, every other buffer of the host as after the host's own
    operations, every cell at zero. -/
theorem run_main : θ_run defs (onTc (τ := τ) (main (F := F))) (s₀ m ρ) (fun r => (∀ c : Dev nD,
      (r.2.mem ((c.tc : Thread nD τ).loc main_v5_0) = roG (inpOf (V m c))
        ∧ r.2.mem ((c.tc : Thread nD τ).loc main_v5_1) = xcG (inpOf (V m c))
        ∧ r.2.mem ((c.tc : Thread nD τ).loc main_v5_2) = xsG (inpOf (V m c)))
      ∧ (∀ b ∈ Pipeline.restRefs sig (cfg0.spec), (b ≠ main_v5_0 ∧ b ≠ main_v5_1 ∧ b ≠ main_v5_2) → r.2.mem ((c.tc : Thread nD τ).loc b) = V m c b)) ∧ r.2.sem = fun _ => 0) :=
  Pipeline.θ_run_frame_routed (Q' := _) cfgs (dats m) (0 : Fin 1) launch0 own defs₀ Variants.none m ρ main
    (hbody := body_obligation m) (hshare := fun c => fun w => Fin.elim0 w) (howed := fun _ _ => rfl) (V := V m) (hmain := hmainC m Variants.none)
    (hA := fun c w => Fin.elim0 w) (R := R0) (hR := R0_sub) (Y := fun c => outW (V m c)) (hin := fun _ => .rfl) (hout := fun _ => .rfl)
    (hQ' := fun r h => ⟨fun c => ⟨⟨((h.1 c).2.1 main_v5_0 (by decide)).trans (outW_v0 _), ((h.1 c).2.1 main_v5_1 (by decide)).trans (outW_v1 _),
      ((h.1 c).2.1 main_v5_2 (by decide)).trans (outW_v2 _)⟩, fun b hb hn => by
      by_cases hr : b ∈ R0
      · exact ((h.1 c).2.1 b hr).trans (outW_ne _ hn)
      · exact (h.1 c).2.2 b (Finset.mem_sdiff.mpr ⟨hb, hr⟩)⟩, h.2⟩)

/-- The same at the arguments. -/
theorem run_args : θ_run defs (onTc (τ := τ) (main (F := F))) ⟨m, fun _ => 0, ρ⟩ (fun r => (∀ c : Dev nD,
      (r.2.mem ((c.tc : Thread nD τ).loc main_v5_0) = roG (inpOf (V m c))
        ∧ r.2.mem ((c.tc : Thread nD τ).loc main_v5_1) = xcG (inpOf (V m c))
        ∧ r.2.mem ((c.tc : Thread nD τ).loc main_v5_2) = xsG (inpOf (V m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨(h.1 c).1,
      ((h.1 c).2 main_arg0 (Pipeline.mem_restRefs_of main_arg0 (by decide) (by decide)) (by decide)).trans (V_main_arg0 m c),
      ((h.1 c).2 main_arg1 (Pipeline.mem_restRefs_of main_arg1 (by decide) (by decide)) (by decide)).trans (V_main_arg1 m c),
      ((h.1 c).2 main_arg2 (Pipeline.mem_restRefs_of main_arg2 (by decide) (by decide)) (by decide)).trans (V_main_arg2 m c),
      ((h.1 c).2 main_arg3 (Pipeline.mem_restRefs_of main_arg3 (by decide) (by decide)) (by decide)).trans (V_main_arg3 m c),
      ((h.1 c).2 main_arg4 (Pipeline.mem_restRefs_of main_arg4 (by decide) (by decide)) (by decide)).trans (V_main_arg4 m c),
      ((h.1 c).2 main_arg5 (Pipeline.mem_restRefs_of main_arg5 (by decide) (by decide)) (by decide)).trans (V_main_arg5 m c),
      ((h.1 c).2 main_arg6 (Pipeline.mem_restRefs_of main_arg6 (by decide) (by decide)) (by decide)).trans (V_main_arg6 m c),
      ((h.1 c).2 main_arg7 (Pipeline.mem_restRefs_of main_arg7 (by decide) (by decide)) (by decide)).trans (V_main_arg7 m c),
      ((h.1 c).2 main_arg8 (Pipeline.mem_restRefs_of main_arg8 (by decide) (by decide)) (by decide)).trans (V_main_arg8 m c)⟩, h.2⟩) (run_main m ρ)

end Cert.KernelIdeal.Hand
-- ==== Proof.Frames.lean ====
module

public import proofs.«01_k».proof.Defs
public import proofs.«01_k».proof.Proof.Run
public import proofs.«01_k».proof.Proof.Gen.Kernel
public import proofs.«01_k».proof.Proof.Gen.ReferenceIdeal.Frame

/-! The frame claims. -/

@[expose] public section

set_option maxRecDepth 65536

noncomputable section

namespace Cert.Proof

open Idealize.ShloMosaic Idealize.ShloMosaic.TcCoe
open Idealize.SL Idealize.SL.Sem

theorem frame_ideal : Cert.quiescent_KernelIdeal (hKernelIdeal := Cert.KernelIdeal.Gen.facts) := fun m g _ =>
  (θ_run _ _ _).mono (fun _ h => ⟨fun c => (h.1 c).2, h.2⟩) (Cert.KernelIdeal.Hand.run_args (F := Ideal) m g)

theorem frame_reference : Cert.quiescent_ReferenceIdeal (hReferenceIdeal := Cert.ReferenceIdeal.Gen.facts) := fun m g _ =>
  Cert.ReferenceIdeal.Gen.frame m g

theorem run_bits (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) ∧ r.2.sem = fun _ => 0) :=
  (θ_run _ _ _).mono (fun _ h => ⟨fun c => (h.1 c).2, h.2⟩) (Cert.KernelIdeal.Hand.run_args (F := Bits) m g)

set_option maxHeartbeats 4000000 in
theorem frame_kernel : Cert.quiescent_Kernel (hKernel := Cert.Kernel.Gen.facts) := fun m g _ => run_bits m g

end Cert.Proof
-- ==== Proof.Spec.lean ====
module

public import Idealize.ShloMosaic.Lib.ValueIdx
public import Idealize.ShloMosaic.PureOps.Ideal

/-! The value of the down projection with the residual added, of its normalised rows, and of their codes and scales, entry by entry. -/

@[expose] public section

noncomputable section

namespace Cert.Spec

open Idealize.ShloMosaic Idealize.ShloMosaic.ValueIdx

/-- The batch of a row, and its place there. -/
def bat (x : Fin 256) : Fin 2 := ⟨x.1 / 128, by have := x.2; omega⟩
def pos (x : Fin 256) : Fin 128 := ⟨x.1 % 128, Nat.mod_lt _ (by decide)⟩
/-- The row of a batch and a place there. -/
def row (b : Fin 2) (p : Fin 128) : Fin 256 := ⟨b.1 * 128 + p.1, by have := b.2; have := p.2; omega⟩
/-- The group of a channel. -/
def grp (k : Fin 8192) : Fin 64 := ⟨k.1 / 128, by have := k.2; omega⟩
/-- The block of a column. -/
def blk (y : Fin 3072) : Fin 24 := ⟨y.1 / 128, by have := y.2; omega⟩
/-- The column of a block and a place there. -/
def col (g : Fin 24) (k : Fin 128) : Fin 3072 := ⟨g.1 * 128 + k.1, by have := g.2; have := k.2; omega⟩

section
variable (h : (⟨3, ![2, 128, 8192]⟩ : Shape).Idx → EReal) (hs : (⟨3, ![2, 128, 64]⟩ : Shape).Idx → EReal)
  (wd : (⟨2, ![8192, 3072]⟩ : Shape).Idx → EReal) (ws : (⟨2, ![64, 24]⟩ : Shape).Idx → EReal)
  (res : (⟨3, ![2, 128, 3072]⟩ : Shape).Idx → EReal)

/-- A scaled activation. -/
def act (x : Fin 256) (k : Fin 8192) : EReal := h (ix3 (bat x) (pos x) k) * hs (ix3 (bat x) (pos x) (grp k))
/-- A scaled weight. -/
def wgt (k : Fin 8192) (y : Fin 3072) : EReal := wd (ix2 k y) * ws (ix2 (grp k) (blk y))
/-- An entry of the result. -/
def out (x : Fin 256) (y : Fin 3072) : EReal := res (ix3 (bat x) (pos x) y) + ∑ k : Fin 8192, act h hs x k * wgt wd ws k y

/-- The result. -/
def outG : (⟨2, ![256, 3072]⟩ : Shape).Idx → EReal := fun i => out h hs wd ws res (i 0) (i 1)
end

/-- What the pattern of a single denotes. -/
abbrev f32 (b : BitVec 32) : EReal := Ideal.ofBits .f32 b

/-- The exponent of a group's scale: none below the least normal number, else one more than the integer part of the logarithm. -/
def expo (y : EReal) : EReal :=
  Scalar.select (Ideal.cmp .olt y (f32 0x00800000#32)) (f32 0x00000000#32)
    (Ideal.liftRound Int.floor (Ideal.div (Ideal.log y) (Ideal.log (f32 0x40000000#32))) + f32 0x3F800000#32)

section
variable (r : (⟨2, ![256, 3072]⟩ : Shape).Idx → EReal) (nw : (⟨1, ![3072]⟩ : Shape).Idx → EReal)

/-- The sum of the squares of a row. -/
def sumsq (x : Fin 256) : EReal := ∑ y : Fin 3072, r (ix2 x y) * r (ix2 x y)
/-- What a row is multiplied by. -/
def rs (x : Fin 256) : EReal := Ideal.rsqrt (sumsq r x * f32 0x39AAAAAB#32 + f32 0x358637BD#32)
/-- A normalised entry. -/
def xn (x : Fin 256) (y : Fin 3072) : EReal := r (ix2 x y) * rs r x * nw (ix1 y)
/-- The greatest magnitude of a group. -/
def amax (x : Fin 256) (g : Fin 24) : EReal :=
  (Finset.univ : Finset (Fin 128)).fold max (f32 0xFF800000#32) fun k => max (xn r nw x (col g k)) (-xn r nw x (col g k))
/-- That over 448. -/
def top (x : Fin 256) (g : Fin 24) : EReal := amax r nw x g * f32 0x3B124925#32
/-- The scale of a group. -/
def scale (x : Fin 256) (g : Fin 24) : EReal := Ideal.exp2 (expo (top r nw x g))
/-- A code. -/
def code (x : Fin 256) (y : Fin 3072) : EReal :=
  min (f32 0x43E00000#32) (max (f32 0xC3E00000#32) (xn r nw x y * Ideal.exp2 (f32 0x00000000#32 - expo (top r nw x (blk y)))))

/-- The codes, and the scales. -/
def codeG : (⟨2, ![256, 3072]⟩ : Shape).Idx → EReal := fun i => code r nw (i 0) (i 1)
def scaleG : (⟨3, ![2, 24, 128]⟩ : Shape).Idx → EReal := fun i => scale r nw (row (i 0) (i 2)) (i 1)
end

end Cert.Spec
-- ==== Proof.Value.lean ====
module

public import proofs.«01_k».proof.Proof.Spec
public import proofs.«01_k».proof.Proof.Phase
public import Idealize.ShloMosaic.Lib.MatmulPlain
public import Idealize.ShloMosaic.Lib.Pipeline.Value

/-! What the kernel's result is over the extended reals. -/

@[expose] public section

set_option maxRecDepth 65536

noncomputable section

namespace Cert.KernelIdeal.Hand

open Cert.KernelIdeal Cert.KernelIdeal.Gen Cert.Spec
open Idealize.ShloMosaic Idealize.ShloMosaic.TcCoe Idealize.ShloMosaic.ValueIdx
open Idealize.SL.Sem

theorem rm2 {a b : Nat} (i : Fin a) (j : Fin b) : ((⟨2, ![a, b]⟩ : Shape).rowMajor (ix2 i j)).val = i.1 * b + j.1 :=
  (Shape.rowMajor_val_two _).trans rfl
theorem rm3 {a b c : Nat} (i : Fin a) (j : Fin b) (k : Fin c) :
    ((⟨3, ![a, b, c]⟩ : Shape).rowMajor (ix3 i j k)).val = (i.1 * b + j.1) * c + k.1 := by
  rw [Shape.rowMajor_val_three]; rfl

/-! ## A tile of the weights -/

/-- A block of 128 by 128 of a tile, scaled. -/
def blkV (codes : FVec Ideal S256x256 .fp8e4m3) (off : Fin 2 → Nat) (h : S256x256.Slices off S128x128) (s : Elt Ideal .f32) :
    FVec Ideal S128x128 .bf16 :=
  shapeCast S128x128 (mulf
    (shapeCast S8x16x128 (extf .bf16 (extractStridedSlice S128x128 off codes h : FVec Ideal S128x128 .fp8e4m3) bitsLt_fp8e4m3_bf16 : FVec Ideal S128x128 .bf16)
      shapeCasts_S128x128_S8x16x128 : FVec Ideal S8x16x128 .bf16)
    (broadcastTo S8x16x128 (shapeCast S1x16x128 (truncf .bf16 (broadcast S16x128 s : FVec Ideal S16x128 .f32) bitsLt_bf16_f32 : FVec Ideal S16x128 .bf16)
      shapeCasts_S16x128_S1x16x128) broadcasts_S1x16x128_S8x16x128 : FVec Ideal S8x16x128 .bf16)) shapeCasts_S8x16x128_S128x128

theorem blkV_apply (codes : FVec Ideal S256x256 .fp8e4m3) (a b : Nat) (h : S256x256.Slices ![a, b] S128x128) (s : Elt Ideal .f32)
    (x y : Fin 128) (X Y : Fin 256) (hX : X.1 = a + x.1) (hY : Y.1 = b + y.1) :
    blkV codes ![a, b] h s (ix2 x y) = codes (ix2 X Y) * s := by
  have hx := x.2
  have hy := y.2
  unfold blkV
  refine (shapeCast_apply _ _ (ix2 x y) (ix3 (⟨x.1 / 16, by omega⟩ : Fin 8) (⟨x.1 % 16, Nat.mod_lt _ (by decide)⟩ : Fin 16) y) ?_).trans ?_
  · refine (rm3 _ _ _).trans (Eq.trans ?_ (rm2 _ _).symm)
    show (x.1 / 16 * 16 + x.1 % 16) * 128 + y.1 = x.1 * 128 + y.1
    omega
  rw [mulf_apply]
  refine congrArg₂ (· * ·) ?_ rfl
  refine (shapeCast_apply _ _ _ (ix2 x y) ?_).trans ?_
  · refine (rm2 _ _).trans (Eq.trans ?_ (rm3 _ _ _).symm)
    show x.1 * 128 + y.1 = (x.1 / 16 * 16 + x.1 % 16) * 128 + y.1
    omega
  rw [extf_apply]
  refine extractStridedSlice_apply _ _ _ (ix2 x y) (ix2 X Y) fun c => ?_
  match c with
  | ⟨0, _⟩ => exact hX
  | ⟨1, _⟩ => exact hY

theorem tileV_eq (codes : Vec Ideal S1x256x256 .fp8e4m3) (s00 s01 s10 s11 : Elt Ideal .f32) :
    tileV codes s00 s01 s10 s11 = concatenate S256x256 0
      [⟨S128x256, concatenate S128x256 1 [⟨S128x128, blkV (k0_pay209 codes) ![0, 0] slices_S256x256_o0_0_S128x128 s00⟩,
          ⟨S128x128, blkV (k0_pay209 codes) ![0, 128] slices_S256x256_o0_128_S128x128 s01⟩] concatenates_S128x128_S128x128_S128x256_d1⟩,
       ⟨S128x256, concatenate S128x256 1 [⟨S128x128, blkV (k0_pay209 codes) ![128, 0] slices_S256x256_o128_0_S128x128 s10⟩,
          ⟨S128x128, blkV (k0_pay209 codes) ![128, 128] slices_S256x256_o128_128_S128x128 s11⟩] concatenates_S128x128_S128x128_S128x256_d1⟩]
      concatenates_S128x256_S128x256_S256x256_d0 := rfl

theorem cat1_apply (l r : FVec Ideal S128x128 .bf16) (x : Fin 128) (y : Fin 256) :
    concatenate S128x256 1 [⟨S128x128, l⟩, ⟨S128x128, r⟩] concatenates_S128x128_S128x128_S128x256_d1 (ix2 x y)
      = if h : y.1 < 128 then l (ix2 x (⟨y.1, h⟩ : Fin 128)) else r (ix2 x (⟨y.1 - 128, by have := y.2; omega⟩ : Fin 128)) := by
  have hy := y.2
  split
  · refine concatenate_pair_apply_left 1 l r _ (ix2 x y) rfl _ fun b => ?_
    match b with
    | ⟨0, _⟩ => rfl
    | ⟨1, _⟩ => rfl
  · rename_i h
    refine concatenate_pair_apply_right 1 l r _ (ix2 x y) rfl rfl _ (fun b hb => ?_) ?_
    · match b with
      | ⟨0, _⟩ => rfl
      | ⟨1, _⟩ => exact absurd rfl hb
    · show y.1 - 128 + 128 = y.1; omega

theorem cat0_apply (l r : FVec Ideal S128x256 .bf16) (x y : Fin 256) :
    concatenate S256x256 0 [⟨S128x256, l⟩, ⟨S128x256, r⟩] concatenates_S128x256_S128x256_S256x256_d0 (ix2 x y)
      = if h : x.1 < 128 then l (ix2 (⟨x.1, h⟩ : Fin 128) y) else r (ix2 (⟨x.1 - 128, by have := x.2; omega⟩ : Fin 128) y) := by
  have hx := x.2
  split
  · refine concatenate_pair_apply_left 0 l r _ (ix2 x y) rfl _ fun b => ?_
    match b with
    | ⟨0, _⟩ => rfl
    | ⟨1, _⟩ => rfl
  · rename_i h
    refine concatenate_pair_apply_right 0 l r _ (ix2 x y) rfl rfl _ (fun b hb => ?_) ?_
    · match b with
      | ⟨0, _⟩ => exact absurd rfl hb
      | ⟨1, _⟩ => rfl
    · show x.1 - 128 + 128 = x.1; omega

theorem tileV_apply (codes : Vec Ideal S1x256x256 .fp8e4m3) (s00 s01 s10 s11 : Elt Ideal .f32) (x y : Fin 256) :
    tileV codes s00 s01 s10 s11 (ix2 x y)
      = codes (ix3 (0 : Fin 1) x y) * (if x.1 < 128 then (if y.1 < 128 then s00 else s01) else (if y.1 < 128 then s10 else s11)) := by
  have hc : k0_pay209 codes (ix2 x y) = codes (ix3 (0 : Fin 1) x y) := shapeCast_1ab_ab_apply codes _ x y
  rw [tileV_eq, cat0_apply]
  by_cases hx : x.1 < 128 <;> by_cases hy : y.1 < 128 <;>
    simp only [hx, hy, dif_pos, dif_neg, if_pos, if_neg, cat1_apply, not_false_eq_true] <;>
    rw [← hc] <;>
    exact blkV_apply _ _ _ _ _ _ _ x y (by dsimp only; omega) (by dsimp only; omega)

/-! ## Places -/

/-- The channel `k` of the chunk `n`. -/
def chK (n : Fin 32) (k : Fin 256) : Fin 8192 := ⟨n.1 * 256 + k.1, by have := n.2; have := k.2; omega⟩
/-- The column `y` of the tile `t`. -/
def colT (t : Fin 12) (y : Fin 256) : Fin 3072 := ⟨t.1 * 256 + y.1, by have := t.2; have := y.2; omega⟩
def nG (n : Fin 32) : Fin 16 := ⟨n.1 / 2 % 16, Nat.mod_lt _ (by decide)⟩
def nK (n : Fin 32) : Fin 2 := ⟨n.1 % 2, Nat.mod_lt _ (by decide)⟩

variable (I : Inp Ideal)

/-- A scaled activation, and a scaled weight. -/
def actI (x : Fin 256) (k : Fin 8192) : EReal := I.h (ix2 x k) * I.hs (ix3 (bat x) (grp k) (pos x))
def wgtI (k : Fin 8192) (y : Fin 3072) : EReal := I.wd (ix2 k y) * I.ws (ix2 (blk y) (grp k))

theorem codesG_apply (t : Fin 12) (n : Fin 32) (x y : Fin 256) :
    codesG (env I) t (nG n) (nK n) (ix3 (0 : Fin 1) x y) = I.wd (ix2 (chK n x) (colT t y)) := by
  have hn := n.2
  have ht := t.2
  have hy := y.2
  unfold codesG
  split
  · show I.wd (ix2 ⟨(n.1 / 2 % 16 + 1 * 0) * 512 + (n.1 % 2 * 256 + 1 * x.1), _⟩ ⟨t.1 * 256 + 1 * y.1, _⟩) = _
    refine congrArg I.wd (congrArg₂ ix2 (Fin.ext ?_) (Fin.ext ?_))
    · show (n.1 / 2 % 16 + 1 * 0) * 512 + (n.1 % 2 * 256 + 1 * x.1) = n.1 * 256 + x.1; omega
    · show t.1 * 256 + 1 * y.1 = t.1 * 256 + y.1; omega
  · show I.wd (ix2 ⟨(n.1 / 2 % 16 + 1 * 0) * 512 + (n.1 % 2 * 256 + 1 * x.1), _⟩ ⟨2048 + ((t.1 - 8) * 256 + 1 * y.1), _⟩) = _
    refine congrArg I.wd (congrArg₂ ix2 (Fin.ext ?_) (Fin.ext ?_))
    · show (n.1 / 2 % 16 + 1 * 0) * 512 + (n.1 % 2 * 256 + 1 * x.1) = n.1 * 256 + x.1; omega
    · show 2048 + ((t.1 - 8) * 256 + 1 * y.1) = t.1 * 256 + y.1; omega

theorem scaleG_apply (r : Fin 24) (k : Fin 64) : scaleG (env I) r k = I.ws (ix2 r k) := by
  show I.ws _ = _
  refine congrArg I.ws (funext fun a => Fin.ext ?_)
  match a with
  | ⟨0, _⟩ => rfl
  | ⟨1, _⟩ => rfl

theorem tileG_apply (t : Fin 12) (n : Fin 32) (x y : Fin 256) :
    tileG (env I) t (nG n) (nK n) (ix2 x y) = wgtI I (chK n x) (colT t y) := by
  have hn := n.2
  have ht := t.2
  have hx := x.2
  have hy := y.2
  unfold tileG
  rw [tileV_apply, codesG_apply]
  simp only [scaleG_apply]
  unfold wgtI
  refine congrArg (_ * ·) ?_
  have key : ∀ (r : Fin 24) (k : Fin 64), r.1 = (t.1 * 256 + y.1) / 128 → k.1 = (n.1 * 256 + x.1) / 128 →
      I.ws (ix2 r k) = I.ws (ix2 (blk (colT t y)) (grp (chK n x))) := fun r k hr hk =>
    congrArg I.ws (congrArg₂ ix2 (Fin.ext hr) (Fin.ext hk))
  have e : (nG n).1 * 2 + (nK n).1 = n.1 := by show n.1 / 2 % 16 * 2 + n.1 % 2 = n.1; omega
  split <;> split <;> exact key _ _ (by simp only []; omega) (by simp only [e]; omega)

/-! ## The activations -/

theorem pay386_apply (v : Vec Ideal S1x64x128 .f32) (x y : Fin 128) (hy : y.1 < 64) :
    k0_pay407 v (ix2 x y) = v (ix3 (0 : Fin 1) (⟨y.1, hy⟩ : Fin 64) x) := by
  unfold k0_pay407
  rw [shapeCast_self, truncf_apply]
  refine (transpose_ix2_apply _ _ x y).trans ?_
  refine (concatenate_pair_apply_left 0 (shapeCast S64x128 v shapeCasts_S1x64x128_S64x128) _ _ (ix2 y x) rfl (ix2 (⟨y.1, hy⟩ : Fin 64) x) fun b => ?_).trans ?_
  · match b with
    | ⟨0, _⟩ => rfl
    | ⟨1, _⟩ => rfl
  exact shapeCast_1ab_ab_apply v _ _ _

theorem hsbG_apply (x : Fin 256) (q : Fin 64) :
    hsbG I (ix2 x (⟨q.1, by have := q.2; omega⟩ : Fin 128)) = I.hs (ix3 (bat x) q (pos x)) := by
  have hx := x.2
  have hq := q.2
  show hsbV I (decide (x.1 < 128)) ⟨x.1 % 128, _⟩ ⟨q.1, _⟩ = _
  unfold hsbV
  by_cases h : x.1 < 128
  · rw [if_pos (by simpa using h)]
    refine (pay386_apply _ _ _ hq).trans ?_
    show I.hs _ = _
    refine congrArg I.hs (funext fun a => Fin.ext ?_)
    match a with
    | ⟨0, _⟩ => show 0 + 1 * 0 = x.1 / 128; omega
    | ⟨1, _⟩ => show 0 + 1 * q.1 = q.1; omega
    | ⟨2, _⟩ => show 0 + 1 * (x.1 % 128) = x.1 % 128; omega
  · rw [if_neg (by simpa using h)]
    refine (pay386_apply _ _ _ hq).trans ?_
    show I.hs _ = _
    refine congrArg I.hs (funext fun a => Fin.ext ?_)
    match a with
    | ⟨0, _⟩ => show 1 + 1 * 0 = x.1 / 128; omega
    | ⟨1, _⟩ => show 0 + 1 * q.1 = q.1; omega
    | ⟨2, _⟩ => show 0 + 1 * (x.1 % 128) = x.1 % 128; omega

theorem gath_idx : ∀ (g : Fin 16) (kg : Fin 4),
    (Scalar.select (IntOp.cmpi .slt (BitVec.ofNat 32 (g.1 * 4 + kg.1)) 0#32) (BitVec.ofNat 32 (g.1 * 4 + kg.1) + 128#32)
      (BitVec.ofNat 32 (g.1 * 4 + kg.1))).toNat % 128 = g.1 * 4 + kg.1 := by
  decide +kernel

theorem gath_apply (hsb : Vec Ideal S256x128 .bf16) (g m : Fin 16) (kg : Fin 4) (x : Fin 16) (y : Fin 128) (X : Fin 256) (Q : Fin 128)
    (hX : X.1 = m.1 * 16 + x.1) (hQ : Q.1 = g.1 * 4 + kg.1) :
    gath (F := Ideal) hsb (BitVec.ofNat 32 (g.1 * 4 + kg.1)) m (ix2 x y) = hsb (ix2 X Q) := by
  unfold gath
  rw [truncf_apply]
  unfold dynamicGather
  refine (extractStridedSlice_apply _ _ _ _ (ix2 X Q) fun c => ?_)
  match c with
  | ⟨0, _⟩ => exact hX
  | ⟨1, _⟩ =>
    rw [shapeCast_shapeCast]
    exact hQ.trans ((gath_idx g kg).symm.trans (Nat.zero_add _).symm)

theorem hpV_apply (g m : Fin 16) (kg : Fin 4) (x : Fin 16) (y : Fin 128) (X : Fin 256) (K : Fin 8192)
    (hX : X.1 = m.1 * 16 + x.1) (hK : K.1 = g.1 * 512 + kg.1 * 128 + y.1) : hpV I g m kg x y = actI I X K := by
  have hg := g.2
  have hkg := kg.2
  have hy := y.2
  unfold hpV hpPay actI
  refine (shapeCast_ab_1ab_apply _ _ 0 x y).trans ?_
  rw [mulf_apply]
  refine congrArg₂ (· * ·) ?_ ?_
  · refine (extractStridedSlice_apply _ _ _ (ix2 x y) (ix2 X y) fun c => ?_).trans ?_
    · match c with
      | ⟨0, _⟩ => exact hX
      | ⟨1, _⟩ => exact (Nat.zero_add _).symm
    rw [extf_apply]
    refine (shapeCast_1ab_ab_apply _ _ X y).trans ?_
    show I.h (ix2 ⟨0 + 1 * X.1, _⟩ ⟨(g.1 + 1 * 0) * 512 + (kg.1 * 128 + 1 * y.1), _⟩) = _
    refine congrArg I.h (congrArg₂ ix2 (Fin.ext ?_) (Fin.ext ?_))
    · show 0 + 1 * X.1 = X.1; omega
    · show (g.1 + 1 * 0) * 512 + (kg.1 * 128 + 1 * y.1) = K.1; omega
  · refine (gath_apply _ g m kg x y X ⟨(grp K).1, by have := (grp K).2; omega⟩ hX (by show K.1 / 128 = _; omega)).trans ?_
    refine Eq.trans ?_ (hsbG_apply I X (grp K))
    show hsbG I _ = _
    refine congrArg (hsbG I) (funext fun a => Fin.ext ?_)
    match a with
    | ⟨0, _⟩ => show 0 + 1 * X.1 = X.1; omega
    | ⟨1, _⟩ => show 0 + 1 * (K.1 / 128) = K.1 / 128; omega

theorem lhsG_apply (n : Fin 32) (x k : Fin 256) : lhsG (env I) (nG n) (nK n) (ix2 x k) = actI I x (chK n k) := by
  have hn := n.2
  have hx := x.2
  have hk := k.2
  unfold lhsG lhsV k0_pay208
  refine (shapeCast_1ab_ab_apply _ _ x k).trans ?_
  show hpV I ⟨n.1 / 2 % 16 + 1 * 0, _⟩ ⟨(0 + 1 * x.1) / 16, _⟩ ⟨(n.1 % 2 * 256 + 1 * k.1) / 128, _⟩ ⟨(0 + 1 * x.1) % 16, _⟩
    ⟨(n.1 % 2 * 256 + 1 * k.1) % 128, _⟩ = _
  refine hpV_apply I _ _ _ _ _ x (chK n k) ?_ ?_
  · show x.1 = (0 + 1 * x.1) / 16 * 16 + (0 + 1 * x.1) % 16; omega
  · show n.1 * 256 + k.1 = (n.1 / 2 % 16 + 1 * 0) * 512 + (n.1 % 2 * 256 + 1 * k.1) / 128 * 128 + (n.1 % 2 * 256 + 1 * k.1) % 128; omega

/-! ## The sums -/

theorem passV_apply (l v : FVec Ideal S256x256 .bf16) (x y : Fin 256) : passV l v (ix2 x y) = ∑ k : Fin 256, l (ix2 x k) * v (ix2 k y) := by
  refine (zero_add _).symm.trans ((Ideal.matmul_plain_apply none l v (fun _ => 0) x y).trans (zero_add _))

theorem passT_apply (t : Fin 12) (n : Fin 32) (x y : Fin 256) :
    passT (env I) t n.1 (ix2 x y) = ∑ k : Fin 256, actI I x (chK n k) * wgtI I (chK n k) (colT t y) := by
  show passV (lhsG (env I) (nG n) (nK n)) (tileG (env I) t (nG n) (nK n)) (ix2 x y) = _
  rw [passV_apply]
  exact Finset.sum_congr rfl fun k _ => by rw [lhsG_apply, tileG_apply]

theorem part_apply (e : Env Ideal) (t : Fin 12) : ∀ n, ∃ p, part e t (n + 1) = some p ∧ ∀ j, p j = ∑ i ∈ Finset.range (n + 1), passT e t i j
  | 0 => ⟨_, rfl, fun j => by rw [Finset.sum_range_one]; rfl⟩
  | n + 1 => by
    obtain ⟨p, hp, h⟩ := part_apply e t n
    refine ⟨_, rfl, fun j => ?_⟩
    rw [hp, Finset.sum_range_succ, ← h]
    rfl

theorem full_apply (t : Fin 12) (x y : Fin 256) :
    full (env I) t (ix2 x y) = ∑ K : Fin 8192, actI I x K * wgtI I K (colT t y) := by
  obtain ⟨p, hp, h⟩ := part_apply (env I) t 31
  have hf : full (env I) t = p := Option.some.inj ((part_full (env I) t).symm.trans hp)
  rw [hf, h, Finset.sum_range]
  refine (Finset.sum_congr rfl fun n _ => passT_apply I t n x y).trans ?_
  rw [← Fintype.sum_prod_type' (f := fun (n : Fin 32) (k : Fin 256) => actI I x (chK n k) * wgtI I (chK n k) (colT t y))]
  refine Fintype.sum_equiv (finProdFinEquiv : Fin 32 × Fin 256 ≃ Fin 8192) _ _ fun q => ?_
  have e : chK q.1 q.2 = (finProdFinEquiv : Fin 32 × Fin 256 ≃ Fin 8192) q := by
    refine Fin.ext ?_
    show q.1.1 * 256 + q.2.1 = q.2.1 + 256 * q.1.1
    omega
  rw [e]

theorem roG_apply (x : Fin 256) (y : Fin 3072) : roG I (ix2 x y) = I.res (ix2 x y) + ∑ K : Fin 8192, actI I x K * wgtI I K y := by
  have hy := y.2
  show roT I ⟨y.1 / 256, _⟩ x ⟨y.1 % 256, _⟩ = _
  unfold roT roV k0_pay628 k0_pay627
  rw [shapeCast_self, truncf_apply, addf_apply, extf_apply, full_apply]
  have e : ∀ h h', colT ⟨y.1 / 256, h⟩ ⟨y.1 % 256, h'⟩ = y := fun _ _ => Fin.ext (by show y.1 / 256 * 256 + y.1 % 256 = y.1; omega)
  rw [e]
  refine congrArg (· + _) ?_
  show I.res _ = _
  refine congrArg I.res (funext fun a => Fin.ext ?_)
  match a with
  | ⟨0, _⟩ => show 0 + 1 * x.1 = x.1; omega
  | ⟨1, _⟩ => show y.1 / 256 * 256 + 1 * (y.1 % 256) = y.1; omega

end Cert.KernelIdeal.Hand
-- ==== Proof.KSum.lean ====
module

public import proofs.«01_k».proof.Proof.Quant
public import proofs.«01_k».proof.Proof.Value
public import proofs.«01_k».proof.Proof.Spec
public import Idealize.ShloMosaic.Lib.Pointwise.Reduce

/-! The kernel's root mean square over the extended reals. -/

@[expose] public section

set_option maxRecDepth 65536

noncomputable section

namespace Cert.KernelIdeal.Hand

open Cert.KernelIdeal Cert.KernelIdeal.Gen Cert.Spec
open Idealize.ShloMosaic hiding ix1 ix2 ix3 ix4
open Idealize.ShloMosaic.TcCoe Idealize.ShloMosaic.ValueIdx
open Idealize.SL.Sem

variable (I : Inp Ideal)

/-! ## The sums of squares -/

theorem ro_tile (t : Fin 12) (x y : Fin 256) :
    k0_pay627 (F := Ideal) (full (env I) t) ((vRes.access (rRO t)).read (Elt Ideal) I.res) (ix2 x y) = roG I (ix2 x (colT t y)) := by
  refine Eq.trans ?_ (roG_apply I x (colT t y)).symm
  unfold k0_pay627
  rw [truncf_apply, addf_apply, extf_apply, full_apply]
  refine congrArg (· + _) ?_
  show I.res _ = _
  refine congrArg I.res (funext fun a => Fin.ext ?_)
  match a with
  | ⟨0, _⟩ => show 0 + 1 * x.1 = x.1; omega
  | ⟨1, _⟩ => show t.1 * 256 + 1 * y.1 = t.1 * 256 + y.1; omega

/-- The square of an entry of a tile. -/
def sqT (x : Fin 256) (t : Fin 12) (y : Fin 256) : EReal := roG I (ix2 x (colT t y)) * roG I (ix2 x (colT t y))

def lo (l : Fin 128) : Fin 256 := ⟨l.1, by have := l.2; omega⟩
def hi (l : Fin 128) : Fin 256 := ⟨128 + l.1, by have := l.2; omega⟩

/-- The two halves of a tile squared and added. -/
def halves (w : FVec Ideal S256x256 .bf16) : FVec Ideal S256x128 .f32 :=
  addf (extractStridedSlice S256x128 ![0, 0] (mulf (extf .f32 w bitsLt_bf16_f32) (extf .f32 w bitsLt_bf16_f32) : FVec Ideal S256x256 .f32) slices_S256x256_o0_0_S256x128)
    (extractStridedSlice S256x128 ![0, 128] (mulf (extf .f32 w bitsLt_bf16_f32) (extf .f32 w bitsLt_bf16_f32) : FVec Ideal S256x256 .f32) slices_S256x256_o0_128_S256x128)

theorem halves_apply (w : FVec Ideal S256x256 .bf16) (x : Fin 256) (l : Fin 128) :
    halves w (ix2 x l) = w (ix2 x (lo l)) * w (ix2 x (lo l)) + w (ix2 x (hi l)) * w (ix2 x (hi l)) := by
  unfold halves
  rw [addf_apply]
  refine congrArg₂ (· + ·) ?_ ?_
  · refine (extractStridedSlice_apply _ _ _ (ix2 x l) (ix2 x (lo l)) fun c => ?_).trans rfl
    match c with
    | ⟨0, _⟩ => exact (Nat.zero_add _).symm
    | ⟨1, _⟩ => exact (Nat.zero_add _).symm
  · refine (extractStridedSlice_apply _ _ _ (ix2 x l) (ix2 x (hi l)) fun c => ?_).trans rfl
    match c with
    | ⟨0, _⟩ => exact (Nat.zero_add _).symm
    | ⟨1, _⟩ => rfl

theorem pay629_eq (f : FVec Ideal S256x256 .f32) (r : FVec Ideal S256x256 .bf16) : k0_pay629 (F := Ideal) f r = halves (k0_pay627 (F := Ideal) f r) := by
  refine Eq.trans (b := shapeCast S256x128 (halves (k0_pay627 (F := Ideal) f r)) shapeCasts_S256x128_S256x128) rfl ?_
  rw [shapeCast_self]

theorem pay632_eq (f : FVec Ideal S256x256 .f32) (r : FVec Ideal S256x256 .bf16) (v : FVec Ideal S256x128 .f32) :
    k0_pay632 (F := Ideal) f r v = addf v (halves (k0_pay627 (F := Ideal) f r)) := by
  unfold k0_pay632 halves
  rfl

theorem halves_tile (t : Fin 12) (x : Fin 256) (l : Fin 128) :
    halves (k0_pay627 (F := Ideal) (full (env I) t) ((vRes.access (rRO t)).read (Elt Ideal) I.res)) (ix2 x l) = sqT I x t (lo l) + sqT I x t (hi l) := by
  rw [halves_apply, ro_tile, ro_tile]
  rfl

theorem ssF_succ (n : Nat) : ssF I (n + 1) = addf (ssF I n)
    (halves (k0_pay627 (F := Ideal) (full (env I) (tn (n + 1))) ((vRes.access (rRO (tn (n + 1)))).read (Elt Ideal) I.res))) := by
  rw [ssF, shapeCast_self]
  exact pay632_eq _ _ _

theorem ssF_zero : ssF I 0 = halves (k0_pay627 (F := Ideal) (full (env I) 0) ((vRes.access (rRO 0)).read (Elt Ideal) I.res)) := by
  rw [ssF]
  exact pay629_eq _ _

theorem ssF_apply (x : Fin 256) (l : Fin 128) (n : Nat) :
    ssF I n (ix2 x l) = ∑ i ∈ Finset.range (n + 1), (sqT I x (tn i) (lo l) + sqT I x (tn i) (hi l)) := by
  induction n with
  | zero =>
    rw [Finset.sum_range_one, ssF_zero]
    exact halves_tile I 0 x l
  | succ n ih =>
    rw [Finset.sum_range_succ, ← ih, ssF_succ, addf_apply, halves_tile]

theorem lanes_sum (x : Fin 256) : ∑ l : Fin 128, ssF I 11 (ix2 x l) = sumsq (roG I) x := by
  have e1 : ∀ l, ssF I 11 (ix2 x l) = ∑ t : Fin 12, (sqT I x t (lo l) + sqT I x t (hi l)) := fun l => by
    rw [ssF_apply, Finset.sum_range]
    exact Finset.sum_congr rfl fun t _ => by rw [tn_of t t.1 rfl]
  rw [Finset.sum_congr rfl fun l _ => e1 l, Finset.sum_comm]
  have e2 : ∀ t, ∑ l : Fin 128, (sqT I x t (lo l) + sqT I x t (hi l)) = ∑ y : Fin 256, sqT I x t y := fun t => by
    rw [Finset.sum_add_distrib]
    exact (Fin.sum_univ_add (a := 128) (b := 128) (fun y : Fin (128 + 128) => sqT I x t y)).symm
  rw [Finset.sum_congr rfl fun t _ => e2 t]
  rw [← Fintype.sum_prod_type' (f := fun (t : Fin 12) (y : Fin 256) => sqT I x t y)]
  refine Fintype.sum_equiv (finProdFinEquiv : Fin 12 × Fin 256 ≃ Fin 3072) _ _ fun q => ?_
  have e : colT q.1 q.2 = (finProdFinEquiv : Fin 12 × Fin 256 ≃ Fin 3072) q := by
    refine Fin.ext ?_
    show q.1.1 * 256 + q.2.1 = q.2.1 + 256 * q.1.1
    omega
  unfold sqT
  rw [e]

theorem rm1 {a : Nat} (i : Fin a) : ((⟨1, ![a]⟩ : Shape).rowMajor (ix1 i)).val = i.1 := (Shape.rowMajor_val_one _).trans rfl

theorem colCast (v : FVec Ideal S256 .f32) (h : S256.ShapeCasts S256x1) (x : Fin 256) :
    shapeCast S256x1 v h (ix2 x (0 : Fin 1)) = v (ix1 x) := by
  refine shapeCast_apply _ _ _ _ ?_
  refine (rm1 _).trans (Eq.trans ?_ (rm2 _ _).symm)
  show x.1 = x.1 * 1 + 0
  omega

theorem colBcast (v : FVec Ideal S256x1 .f32) (h : S256x1.Broadcasts S256x128) (x : Fin 256) (l : Fin 128) :
    broadcastTo S256x128 v h (ix2 x l) = v (ix2 x (0 : Fin 1)) := by
  refine broadcastTo_apply _ _ _ _ fun a => ?_
  match a with
  | ⟨0, _⟩ => rfl
  | ⟨1, _⟩ => rfl

theorem rowBcast (v : FVec Ideal S1x128 .f32) (h : S1x128.Broadcasts S256x128) (x : Fin 256) (l : Fin 128) :
    broadcastTo S256x128 v h (ix2 x l) = v (ix2 (0 : Fin 1) l) := by
  refine broadcastTo_apply _ _ _ _ fun a => ?_
  match a with
  | ⟨0, _⟩ => rfl
  | ⟨1, _⟩ => rfl

theorem rsG_apply (x : Fin 256) (l : Fin 128) : rsG I (ix2 x l) = rs (roG I) x := by
  unfold rsG k0_pay928
  rw [shapeCast_self, colBcast, shapeCast_self]
  unfold rs
  refine congrArg Ideal.rsqrt (congrArg (· + _) (congrArg (· * _) ?_))
  refine (colCast _ _ x).trans ?_
  exact (Ideal.reduceAdd_r2_a1 reduces_S256x128_S256 (ssF I 11) (ix1 x)).trans (lanes_sum I x)

end Cert.KernelIdeal.Hand
-- ==== Proof.Ladder.lean ====
module

public import proofs.«01_k».proof.Proof.Spec
public import Idealize.ShloMosaic.PureOps.Reduce
public import Mathlib.Data.EReal.Operations

/-! The power of two above a number, found bit by bit and by its logarithm. -/

@[expose] public section

noncomputable section

namespace Cert.Spec

open Idealize.ShloMosaic Idealize.ShloMosaic.ValueIdx

/-- A normal number of a given exponent and significand. -/
theorem f32_val (b : BitVec 32) (ex fr : Nat) (h1 : (b.extractLsb' 31 1 == 1#1) = false) (h2 : (b.extractLsb' 23 8).toNat = ex)
    (h3 : (b.extractLsb' 0 23).toNat = fr) (h0 : ex ≠ 0) (h4 : ex ≠ 255) :
    f32 b = (((2 ^ 23 + fr : Nat) : ℝ) * (2 : ℝ) ^ ((ex : Int) - 150) : ℝ) := by
  show Ideal.ieee 8 23 b = _
  unfold Ideal.ieee
  rw [show 8 + 23 = 31 from rfl, h1, h2, h3]
  dsimp only
  rw [if_neg (by show ex ≠ 2 ^ 8 - 1; omega), if_neg h0]
  norm_num
  rw [show ((ex : Int) - 127 - 23) = (ex : Int) - 150 by ring]

/-- The word of an exponent. -/
abbrev xw (E : Nat) : BitVec 32 := BitVec.ofNat 32 (E * 8388608)

theorem wd_fields : ∀ E : Fin 256, ((xw E.1).extractLsb' 31 1 == 1#1) = false ∧ ((xw E.1).extractLsb' 23 8).toNat = E.1
    ∧ ((xw E.1).extractLsb' 0 23).toNat = 0 := by decide +kernel

theorem f32_wd (E : Nat) (h0 : E ≠ 0) (h : E < 255) : f32 (xw E) = ((2 : ℝ) ^ ((E : Int) - 127) : ℝ) := by
  obtain ⟨h1, h2, h3⟩ := wd_fields ⟨E, by omega⟩
  rw [f32_val (xw E) E 0 h1 h2 h3 h0 (by omega)]
  congr 1
  rw [show ((E : Int) - 127) = 23 + ((E : Int) - 150) by ring, zpow_add₀ (by norm_num)]
  norm_num

theorem f32_wd0 : f32 (xw 0) = 0 := by
  show Ideal.ieee 8 23 (0#32) = 0
  simp [Ideal.ieee]
theorem f32_wd255 : f32 (xw 255) = ⊤ := by
  show Ideal.ieee 8 23 (2139095040#32) = ⊤
  simp [Ideal.ieee]

/-- A step of the search. -/
def stp (y : EReal) (b e : BitVec 32) : BitVec 32 := Scalar.select (Ideal.cmp .olt y (f32 (e + b))) e (e + b)
def stpN (N b E : Nat) : Nat := if N < E + b then E else E + b

theorem sel_olt {α : Type} (a b : EReal) (x y : α) : Scalar.select (Ideal.cmp .olt a b) x y = if a < b then x else y := by
  unfold Ideal.cmp
  by_cases h : a < b <;> simp [Scalar.select, h]

theorem stpN_le (N b E : Nat) : stpN N b E ≤ E + b := by unfold stpN; split <;> omega

theorem stp_eq (y : EReal) (N b E : Nat) (hN : ∀ E, E ≤ 255 → (y < f32 (xw E) ↔ N < E)) (h : E + b ≤ 255) :
    stp y (xw b) (xw E) = xw (stpN N b E) := by
  have e : xw E + xw b = xw (E + b) := by
    unfold xw
    rw [Nat.add_mul]
    exact (BitVec.ofNat_add _ _).symm
  unfold stp stpN
  rw [e, sel_olt]
  by_cases c : N < E + b
  · rw [if_pos ((hN _ h).mpr c), if_pos c]
  · rw [if_neg (fun q => c ((hN _ h).mp q)), if_neg c]

/-- The search, and the word of the scale it gives. -/
def lad (y : EReal) : BitVec 32 :=
  stp y 8388608#32 (stp y 16777216#32 (stp y 33554432#32 (stp y 67108864#32 (stp y 134217728#32 (stp y 268435456#32 (stp y 536870912#32 (stp y 1073741824#32 0#32)))))))
def scW (y : EReal) : BitVec 32 := Scalar.select (IntOp.cmpi .eq (lad y) 0#32) 1065353216#32 (lad y + 8388608#32)
def ladN (N : Nat) : Nat := stpN N 1 (stpN N 2 (stpN N 4 (stpN N 8 (stpN N 16 (stpN N 32 (stpN N 64 (stpN N 128 0)))))))
theorem ladN_eq : ∀ N : Fin 256, ladN N.1 = N.1 := by decide +kernel

theorem lad_eq (y : EReal) (N : Nat) (h : N ≤ 255) (hN : ∀ E, E ≤ 255 → (y < f32 (xw E) ↔ N < E)) : lad y = xw N := by
  have l1 := stpN_le N 128 0
  have l2 := stpN_le N 64 (stpN N 128 0)
  have l3 := stpN_le N 32 (stpN N 64 (stpN N 128 0))
  have l4 := stpN_le N 16 (stpN N 32 (stpN N 64 (stpN N 128 0)))
  have l5 := stpN_le N 8 (stpN N 16 (stpN N 32 (stpN N 64 (stpN N 128 0))))
  have l6 := stpN_le N 4 (stpN N 8 (stpN N 16 (stpN N 32 (stpN N 64 (stpN N 128 0)))))
  have l7 := stpN_le N 2 (stpN N 4 (stpN N 8 (stpN N 16 (stpN N 32 (stpN N 64 (stpN N 128 0))))))
  have s1 : stp y 1073741824#32 0#32 = xw (stpN N 128 0) := stp_eq y N 128 0 hN (by omega)
  have s2 := stp_eq y N 64 _ hN (show stpN N 128 0 + 64 ≤ 255 by omega)
  have s3 := stp_eq y N 32 _ hN (show stpN N 64 (stpN N 128 0) + 32 ≤ 255 by omega)
  have s4 := stp_eq y N 16 _ hN (show stpN N 32 (stpN N 64 (stpN N 128 0)) + 16 ≤ 255 by omega)
  have s5 := stp_eq y N 8 _ hN (show stpN N 16 (stpN N 32 (stpN N 64 (stpN N 128 0))) + 8 ≤ 255 by omega)
  have s6 := stp_eq y N 4 _ hN (show stpN N 8 (stpN N 16 (stpN N 32 (stpN N 64 (stpN N 128 0)))) + 4 ≤ 255 by omega)
  have s7 := stp_eq y N 2 _ hN (show stpN N 4 (stpN N 8 (stpN N 16 (stpN N 32 (stpN N 64 (stpN N 128 0))))) + 2 ≤ 255 by omega)
  have s8 := stp_eq y N 1 _ hN (show stpN N 2 (stpN N 4 (stpN N 8 (stpN N 16 (stpN N 32 (stpN N 64 (stpN N 128 0)))))) + 1 ≤ 255 by omega)
  have key : lad y = xw (ladN N) := by
    unfold lad ladN
    rw [s1]
    refine Eq.trans ?_ s8
    refine congrArg (stp y _) (Eq.trans ?_ s7)
    refine congrArg (stp y _) (Eq.trans ?_ s6)
    refine congrArg (stp y _) (Eq.trans ?_ s5)
    refine congrArg (stp y _) (Eq.trans ?_ s4)
    refine congrArg (stp y _) (Eq.trans ?_ s3)
    exact congrArg (stp y _) s2
  rw [key, ladN_eq ⟨N, by omega⟩]

theorem scW_zero (y : EReal) (h : lad y = xw 0) : scW y = xw 127 ∧ 2130706432#32 - scW y = xw 127 := by
  unfold scW
  rw [h]
  decide
theorem scW_words : ∀ N : Fin 253, N.1 ≠ 0 → Scalar.select (IntOp.cmpi .eq (xw N.1) 0#32) 1065353216#32 (xw N.1 + 8388608#32) = xw (N.1 + 1)
    ∧ 2130706432#32 - xw (N.1 + 1) = xw (253 - N.1) := by decide +kernel

theorem lt_zpow (y : ℝ) (hy : 0 < y) (z : ℤ) : y < (2 : ℝ) ^ z ↔ ⌊Real.log y / Real.log 2⌋ < z := by
  have h2 : 0 < Real.log 2 := Real.log_pos (by norm_num)
  rw [Int.floor_lt, div_lt_iff₀ h2, ← Real.log_zpow, Real.log_lt_log_iff hy (by positivity)]

theorem expo_small (y : EReal) (h : y < f32 (xw 1)) : expo y = 0 := by
  unfold expo
  rw [sel_olt, if_pos h]
  exact f32_wd0

theorem expo_big (y : ℝ) (hy : 0 < y) (h : ¬ (y : EReal) < f32 (xw 1)) : expo y = ((⌊Real.log y / Real.log 2⌋ + 1 : ℤ) : ℝ) := by
  have h2 : Real.log 2 ≠ 0 := (Real.log_pos (by norm_num)).ne'
  unfold expo
  rw [sel_olt, if_neg h, show f32 0x40000000#32 = ((2 : ℝ) : EReal) from (f32_wd 128 (by decide) (by decide)).trans (by norm_num),
    show f32 0x3F800000#32 = ((1 : ℝ) : EReal) from (f32_wd 127 (by decide) (by decide)).trans (by norm_num)]
  have e1 : Ideal.log ((2 : ℝ) : EReal) = ((Real.log 2 : ℝ) : EReal) := if_neg (by norm_num)
  have e2 : Ideal.log (y : EReal) = ((Real.log y : ℝ) : EReal) := if_neg (not_le.mpr hy)
  have e3 : Ideal.div ((Real.log y : ℝ) : EReal) ((Real.log 2 : ℝ) : EReal) = ((Real.log y / Real.log 2 : ℝ) : EReal) := by
    unfold Ideal.div
    rw [if_neg (by simpa using h2), ← EReal.coe_inv, ← EReal.coe_mul, div_eq_mul_inv]
  rw [e1, e2, e3]
  show (((⌊Real.log y / Real.log 2⌋ : ℤ) : ℝ) : EReal) + _ = _
  rw [← EReal.coe_add]
  push_cast
  rfl

theorem exp2_int (z : ℤ) : Ideal.exp2 (((z : ℤ) : ℝ) : EReal) = ((2 : ℝ) ^ z : ℝ) := by
  show ((Real.rpow 2 (z : ℝ) : ℝ) : EReal) = _
  exact congrArg _ (Real.rpow_intCast 2 z)

/-- The word the search gives is the power of two the logarithm gives, and the word taken from it its inverse. -/
theorem scW_val (y : ℝ) (hy : 0 ≤ y) (hb : y < (2 : ℝ) ^ (126 : ℤ)) :
    f32 (scW y) = Ideal.exp2 (expo y) ∧ f32 (2130706432#32 - scW y) = Ideal.exp2 (f32 0x00000000#32 - expo y) := by
  have hz : f32 0x00000000#32 = ((0 : ℝ) : EReal) := f32_wd0
  have w1 : f32 (xw 1) = (((2 : ℝ) ^ (-126 : ℤ) : ℝ) : EReal) := (f32_wd 1 (by decide) (by decide)).trans (by norm_num)
  by_cases h : (y : EReal) < f32 (xw 1)
  · have hl : lad y = xw 0 := lad_eq y 0 (by decide) fun E hE => by
      rcases Nat.eq_zero_or_pos E with rfl | hp
      · rw [f32_wd0]; simp [hy]
      · refine ⟨fun _ => hp, fun _ => lt_of_lt_of_le h ?_⟩
        rcases Nat.lt_or_eq_of_le hE with h5 | rfl
        · rw [w1, f32_wd E (by omega) h5]
          exact EReal.coe_le_coe_iff.mpr (zpow_le_zpow_right₀ (by norm_num) (by omega))
        · rw [f32_wd255]; exact le_top
    obtain ⟨a, b⟩ := scW_zero _ hl
    have o : f32 (xw 127) = ((2 : ℝ) ^ (0 : ℤ) : ℝ) := f32_wd 127 (by decide) (by decide)
    rw [b, a, expo_small _ h, o, hz]
    have e := exp2_int 0
    constructor
    · rw [← e]; norm_num
    · rw [← e]; norm_num
  · have h' : (2 : ℝ) ^ (-126 : ℤ) ≤ y := by
      rw [w1] at h
      exact not_lt.mp fun q => h (EReal.coe_lt_coe_iff.mpr q)
    have hp : 0 < y := lt_of_lt_of_le (by positivity) h'
    have hL := fun z => lt_zpow y hp z
    have u := (hL 126).mp hb
    have l : -126 ≤ ⌊Real.log y / Real.log 2⌋ := by
      by_contra c
      exact absurd ((hL (-126)).mpr (by omega)) (not_lt.mpr h')
    rw [expo_big y hp h]
    generalize ⌊Real.log y / Real.log 2⌋ = L at hL u l ⊢
    obtain ⟨N, hN⟩ : ∃ N : ℕ, (N : ℤ) = L + 127 := ⟨(L + 127).toNat, by omega⟩
    have hl : lad y = xw N := lad_eq y N (by omega) fun E hE => by
      rcases Nat.eq_zero_or_pos E with rfl | hq
      · rw [f32_wd0]; simp [hy]
      · rcases Nat.lt_or_eq_of_le hE with h5 | rfl
        · rw [f32_wd E (by omega) h5, EReal.coe_lt_coe_iff, hL]; omega
        · rw [f32_wd255]; exact ⟨fun _ => by omega, fun _ => EReal.coe_lt_top _⟩
    obtain ⟨a, b⟩ := scW_words ⟨N, by omega⟩ (by dsimp only; omega)
    have s : scW y = xw (N + 1) := by unfold scW; rw [hl]; exact a
    rw [s, hz, ← EReal.coe_sub]
    dsimp only at b
    rw [b, f32_wd (N + 1) (by omega) (by omega), f32_wd (253 - N) (by omega) (by omega), exp2_int,
      show (0 : ℝ) - ((L + 1 : ℤ) : ℝ) = ((-(L + 1) : ℤ) : ℝ) by push_cast; ring, exp2_int]
    refine ⟨?_, ?_⟩
    · congr 2; push_cast; omega
    · congr 2; omega

end Cert.Spec
-- ==== Proof.Bound.lean ====
module

public import proofs.«01_k».proof.Proof.Ladder

/-! The greatest magnitude of a group is below what the search covers. -/

@[expose] public section

noncomputable section

namespace Cert.Spec

open Idealize.ShloMosaic Idealize.ShloMosaic.ValueIdx

theorem f32_D : f32 0x39AAAAAB#32 = ((11184811 * (2 : ℝ) ^ (-35 : ℤ) : ℝ) : EReal) :=
  (f32_val _ 115 2796203 (by decide) (by decide) (by decide) (by decide) (by decide)).trans (by norm_num)
theorem f32_E : ∃ e : ℝ, 0 < e ∧ f32 0x358637BD#32 = (e : EReal) :=
  ⟨_, by positivity, f32_val _ 107 407485 (by decide) (by decide) (by decide) (by decide) (by decide)⟩
theorem f32_Q : f32 0x3B124925#32 = ((9586981 * (2 : ℝ) ^ (-32 : ℤ) : ℝ) : EReal) :=
  (f32_val _ 118 1198373 (by decide) (by decide) (by decide) (by decide) (by decide)).trans (by norm_num)
theorem f32_M : f32 0x7F7FFFFF#32 = ((16777215 * (2 : ℝ) ^ (104 : ℤ) : ℝ) : EReal) :=
  (f32_val _ 254 8388607 (by decide) (by decide) (by decide) (by decide) (by decide)).trans (by norm_num)
theorem f32_bot : f32 0xFF800000#32 = ⊥ := by
  show Ideal.ieee 8 23 (0xFF800000#32) = ⊥
  simp [Ideal.ieee]

theorem sq_nonneg' : ∀ a : EReal, 0 ≤ a * a := by
  intro a
  induction a using EReal.rec with
  | bot => simp
  | coe a => rw [← EReal.coe_mul]; exact EReal.coe_nonneg.mpr (mul_self_nonneg a)
  | top => simp

variable (r : (⟨2, ![256, 3072]⟩ : Shape).Idx → EReal) (nw : (⟨1, ![3072]⟩ : Shape).Idx → EReal)

/-- A row divided by its root mean square is at most 56. -/
theorem scaled_le (x : Fin 256) (y : Fin 3072) : ∃ a : ℝ, r (ix2 x y) * rs r x = (a : EReal) ∧ |a| ≤ 56 := by
  obtain ⟨e, he, hE⟩ := f32_E
  have hle : r (ix2 x y) * r (ix2 x y) ≤ sumsq r x :=
    Finset.single_le_sum (f := fun y => r (ix2 x y) * r (ix2 x y)) (fun y _ => sq_nonneg' _) (Finset.mem_univ y)
  have h0 : 0 ≤ sumsq r x := le_trans (sq_nonneg' _) hle
  unfold rs
  rw [f32_D, hE]
  generalize sumsq r x = S at hle h0 ⊢
  generalize r (ix2 x y) = v at hle ⊢
  induction S using EReal.rec with
  | bot => exact absurd h0 (by simp)
  | top =>
    refine ⟨0, ?_, by norm_num⟩
    rw [EReal.top_mul_coe_of_pos (by positivity), EReal.top_add_coe]
    show v * 0 = _
    rw [mul_zero]; rfl
  | coe s =>
    have hs : 0 ≤ s := EReal.coe_nonneg.mp h0
    induction v using EReal.rec with
    | bot => exact absurd hle (by simp)
    | top => exact absurd hle (by simp)
    | coe v =>
      rw [← EReal.coe_mul] at hle
      have hv : v * v ≤ s := EReal.coe_le_coe_iff.mp hle
      rw [← EReal.coe_mul, ← EReal.coe_add]
      generalize hq : s * (11184811 * (2 : ℝ) ^ (-35 : ℤ)) + e = q
      have hq' : v * v ≤ 3136 * q := by
        rw [← hq]
        have : s ≤ 3136 * (s * (11184811 * (2 : ℝ) ^ (-35 : ℤ))) := by norm_num; linarith
        linarith
      have qp : 0 < q := by rw [← hq]; positivity
      have er : Ideal.rsqrt (q : EReal) = (((Real.sqrt q)⁻¹ : ℝ) : EReal) := by
        show (if q < 0 then _ else if q = 0 then _ else _) = _
        rw [if_neg (not_lt.mpr qp.le), if_neg qp.ne']
      refine ⟨v * (Real.sqrt q)⁻¹, by rw [er, EReal.coe_mul], ?_⟩
      have sp : 0 < Real.sqrt q := Real.sqrt_pos.mpr qp
      rw [abs_mul, abs_of_pos (inv_pos.mpr sp), ← div_eq_mul_inv, div_le_iff₀ sp]
      refine abs_le_of_sq_le_sq (a := v) ?_ (by positivity)
      rw [mul_pow, Real.sq_sqrt qp.le]
      nlinarith

theorem xn_le (hw : ∀ y : Fin 3072, max (nw (ix1 y)) (-nw (ix1 y)) ≤ f32 0x7F7FFFFF#32) (x : Fin 256) (y : Fin 3072) :
    ∃ a : ℝ, max (xn r nw x y) (-xn r nw x y) = (a : EReal) ∧ 0 ≤ a ∧ a ≤ 56 * (16777215 * (2 : ℝ) ^ (104 : ℤ)) := by
  obtain ⟨a, ha, hb⟩ := scaled_le r x y
  have h := hw y
  unfold xn
  rw [ha]
  rw [f32_M] at h
  generalize nw (ix1 y) = w at h ⊢
  induction w using EReal.rec with
  | bot => exact absurd h (not_le.mpr (lt_of_lt_of_le (EReal.coe_lt_top _) (le_max_right _ _)))
  | top => exact absurd h (not_le.mpr (lt_of_lt_of_le (EReal.coe_lt_top _) (le_max_left _ _)))
  | coe w =>
    have hc : |w| ≤ 16777215 * (2 : ℝ) ^ (104 : ℤ) := by
      have h1 := EReal.coe_le_coe_iff.mp (le_trans (le_max_left _ _) h)
      have h2 := EReal.coe_le_coe_iff.mp (le_trans (le_max_right (w : EReal) (-w)) h)
      exact abs_le.mpr ⟨by linarith, h1⟩
    refine ⟨|a * w|, ?_, abs_nonneg _, ?_⟩
    · rw [← EReal.coe_mul, ← EReal.coe_neg]; exact (EReal.coe_strictMono.monotone.map_max).symm
    · rw [abs_mul]; exact mul_le_mul hb hc (abs_nonneg _) (by norm_num)

theorem fold_le (B : ℝ) (f : Fin 128 → EReal) (hf : ∀ k, ∃ a : ℝ, f k = (a : EReal) ∧ 0 ≤ a ∧ a ≤ B) :
    ∃ a : ℝ, (Finset.univ : Finset (Fin 128)).fold max ⊥ f = (a : EReal) ∧ 0 ≤ a ∧ a ≤ B := by
  have hu : (Finset.univ : Finset (Fin 128)).fold max ⊥ f ≤ (B : EReal) := Finset.fold_max_le _ |>.mpr ⟨bot_le, fun k _ => by
    obtain ⟨a, h, -, h2⟩ := hf k; rw [h]; exact EReal.coe_le_coe_iff.mpr h2⟩
  have hl : ((0 : ℝ) : EReal) ≤ (Finset.univ : Finset (Fin 128)).fold max ⊥ f := Finset.le_fold_max _ |>.mpr (Or.inr ⟨0, Finset.mem_univ _, by
    obtain ⟨a, h, h1, -⟩ := hf 0; rw [h]; exact EReal.coe_le_coe_iff.mpr h1⟩)
  generalize (Finset.univ : Finset (Fin 128)).fold max ⊥ f = m at hu hl ⊢
  induction m using EReal.rec with
  | bot => exact absurd hl (by simp)
  | top => exact absurd hu (by simp)
  | coe a => exact ⟨a, rfl, EReal.coe_le_coe_iff.mp hl, EReal.coe_le_coe_iff.mp hu⟩

theorem top_lt (hw : ∀ y : Fin 3072, max (nw (ix1 y)) (-nw (ix1 y)) ≤ f32 0x7F7FFFFF#32) (x : Fin 256) (g : Fin 24) :
    ∃ a : ℝ, top r nw x g = (a : EReal) ∧ 0 ≤ a ∧ a < (2 : ℝ) ^ (126 : ℤ) := by
  obtain ⟨a, h, h0, h1⟩ := fold_le _ (fun k => max (xn r nw x (col g k)) (-xn r nw x (col g k))) fun k => xn_le r nw hw x (col g k)
  refine ⟨a * (9586981 * (2 : ℝ) ^ (-32 : ℤ)), ?_, by positivity, ?_⟩
  · unfold top amax
    rw [f32_bot, h, f32_Q, ← EReal.coe_mul]
  · norm_num at h1 ⊢
    linarith

/-- The scale of a group and its inverse, by the search. -/
theorem search_val (hw : ∀ y : Fin 3072, max (nw (ix1 y)) (-nw (ix1 y)) ≤ f32 0x7F7FFFFF#32) (x : Fin 256) (g : Fin 24) :
    f32 (scW (top r nw x g)) = scale r nw x g
      ∧ f32 (2130706432#32 - scW (top r nw x g)) = Ideal.exp2 (f32 0x00000000#32 - expo (top r nw x g)) := by
  obtain ⟨a, h, h0, h1⟩ := top_lt r nw hw x g
  unfold scale
  rw [h]
  exact scW_val a h0 h1

end Cert.Spec
-- ==== Proof.KVal.lean ====
module

public import proofs.«01_k».proof.Proof.Quant
public import proofs.«01_k».proof.Proof.KSum
public import proofs.«01_k».proof.Proof.Bound
public import Idealize.ShloMosaic.Lib.Pointwise.Reduce

/-! What the kernel's codes and scales are over the extended reals. -/

@[expose] public section

set_option maxRecDepth 65536

noncomputable section

namespace Cert.KernelIdeal.Hand

open Cert.KernelIdeal Cert.KernelIdeal.Gen Cert.Spec
open Idealize.ShloMosaic hiding ix1 ix2 ix3 ix4
open Idealize.ShloMosaic.TcCoe Idealize.ShloMosaic.ValueIdx
open Idealize.SL.Sem

variable (I : Inp Ideal)

/-! ## A group -/

/-- The weights of the norm, in one row. -/
def nwI : (⟨1, ![3072]⟩ : Shape).Idx → EReal := fun i =>
  I.nw (ix2 (blk (i 0)) (⟨(i 0).val % 128, Nat.mod_lt _ (by decide)⟩ : Fin 128))

theorem nwR_apply (g : Fin 24) (l : Fin 128) : nwR I g (ix2 (0 : Fin 1) l) = nwI I (ix1 (col g l)) := by
  have hl := l.2
  show I.nw _ = I.nw _
  refine congrArg I.nw (funext fun a => Fin.ext ?_)
  match a with
  | ⟨0, _⟩ => show g.1 + 1 * 0 = (g.1 * 128 + l.1) / 128; omega
  | ⟨1, _⟩ => show 0 + 1 * l.1 = (g.1 * 128 + l.1) % 128; omega

theorem roR_apply (g : Fin 24) (x : Fin 256) (l : Fin 128) : roR I g (ix2 x l) = roG I (ix2 x (col g l)) := by
  show roG I _ = roG I _
  refine congrArg (roG I) (funext fun a => Fin.ext ?_)
  match a with
  | ⟨0, _⟩ => show 0 + 1 * x.1 = x.1; omega
  | ⟨1, _⟩ => show g.1 * 128 + 1 * l.1 = g.1 * 128 + l.1; omega

theorem pay930_apply (g : Fin 24) (x : Fin 256) (l : Fin 128) :
    k0_pay930 (F := Ideal) (nwR I g) (roR I g) (rsG I) (ix2 x l) = xn (roG I) (nwI I) x (col g l) := by
  unfold k0_pay930
  rw [mulf_apply, mulf_apply, extf_apply, rowBcast, nwR_apply, rsG_apply, roR_apply]
  rfl

theorem pay931_apply (g : Fin 24) (x : Fin 256) (l : Fin 128) :
    k0_pay931 (F := Ideal) (nwR I g) (roR I g) (rsG I) (ix2 x l) = Spec.top (roG I) (nwI I) x g := by
  unfold k0_pay931
  rw [mulf_apply, colBcast, shapeCast_self]
  unfold Spec.top amax
  refine congrArg (· * _) ?_
  refine (colCast _ _ x).trans ?_
  refine (multiReduction_maximumf_eq_fold _ _ reduces_S256x128_S256 (.inl rfl) rfl (ix1 x)).trans ?_
  refine (reduces_S256x128_S256.fold_fiber_r2_a1 (ix1 x) _ _ _).trans ?_
  refine congrArg (Finset.fold _ _ · _) (funext fun k => ?_)
  show max (k0_pay930 (F := Ideal) (nwR I g) (roR I g) (rsG I) (ix2 x k)) (-k0_pay930 (F := Ideal) (nwR I g) (roR I g) (rsG I) (ix2 x k)) = _
  rw [pay930_apply]

/-- A step of the exponent's search, on a tile. -/
def vstp (y : FVec Ideal S256x128 .f32) (b : BitVec 32) (e : IVec S256x128 32) : IVec S256x128 32 :=
  select (cmpf .olt y (bitcastToFloat .f32 (addi e (broadcast S256x128 b)) : FVec Ideal S256x128 .f32)) e (addi e (broadcast S256x128 b))

theorem vstp_apply (y : FVec Ideal S256x128 .f32) (b : BitVec 32) (e : IVec S256x128 32) (j : S256x128.Idx) :
    vstp y b e j = stp (y j) b (e j) := rfl

/-- The steps after the first. -/
def vlad (y : FVec Ideal S256x128 .f32) (e : IVec S256x128 32) : IVec S256x128 32 :=
  vstp y 8388608#32 (vstp y 16777216#32 (vstp y 33554432#32 (vstp y 67108864#32 (vstp y 134217728#32 (vstp y 268435456#32 (vstp y 536870912#32 e))))))

theorem pay932_eq (nw : FVec Ideal S1x128 .f32) (ro : FVec Ideal S256x128 .bf16) (rs : FVec Ideal S256x128 .f32) :
    k0_pay932 (F := Ideal) nw ro rs = vstp (k0_pay931 (F := Ideal) nw ro rs) 1073741824#32 (broadcast S256x128 0#32) := by
  unfold k0_pay932 vstp
  rfl
theorem pay933_eq (nw : FVec Ideal S1x128 .f32) (ro : FVec Ideal S256x128 .bf16) (rs : FVec Ideal S256x128 .f32) :
    k0_pay933 (F := Ideal) nw ro rs = addi (k0_pay932 (F := Ideal) nw ro rs) (broadcast S256x128 536870912#32) := rfl
theorem pay934_eq (y : FVec Ideal S256x128 .f32) (e : IVec S256x128 32) :
    k0_pay934 (F := Ideal) y e (addi e (broadcast S256x128 536870912#32)) =
      select (cmpi .eq (vlad y e) (broadcast S256x128 0#32)) (broadcast S256x128 1065353216#32) (addi (vlad y e) (broadcast S256x128 8388608#32)) := rfl

theorem word_bc (b : BitVec 32) (j : S256x128.Idx) : (broadcast S256x128 b : IVec S256x128 32) j = b := rfl

theorem vlad_apply (y : FVec Ideal S256x128 .f32) (j : S256x128.Idx) :
    vlad y (vstp y 1073741824#32 (broadcast S256x128 0#32)) j = lad (y j) := by
  unfold vlad lad
  rw [vstp_apply, vstp_apply, vstp_apply, vstp_apply, vstp_apply, vstp_apply, vstp_apply, vstp_apply, word_bc]

theorem word_sel (a b c : BitVec 32) (E : IVec S256x128 32) (j : S256x128.Idx) :
    (select (cmpi .eq E (broadcast S256x128 a)) (broadcast S256x128 b) (addi E (broadcast S256x128 c)) : IVec S256x128 32) j
      = Scalar.select (IntOp.cmpi .eq (E j) a) b (E j + c) := rfl

/-- The scale's word, on a tile. -/
def wordV (g : Fin 24) : IVec S256x128 32 :=
  k0_pay934 (F := Ideal) (k0_pay931 (nwR I g) (roR I g) (rsG I)) (k0_pay932 (nwR I g) (roR I g) (rsG I)) (k0_pay933 (nwR I g) (roR I g) (rsG I))

theorem word_apply (g : Fin 24) (x : Fin 256) (l : Fin 128) : wordV I g (ix2 x l) = scW (Spec.top (roG I) (nwI I) x g) := by
  unfold wordV
  rw [← pay931_apply I g x l, pay933_eq, pay932_eq, pay934_eq, word_sel, vlad_apply, scW]

theorem bits_apply (w : IVec S256x128 32) (j : S256x128.Idx) : (bitcastToFloat .f32 w : FVec Ideal S256x128 .f32) j = f32 (w j) := rfl

theorem pay935_eq (y : FVec Ideal S256x128 .f32) (e e' : IVec S256x128 32) :
    k0_pay935 (F := Ideal) y e e' = bitcastToFloat .f32 (k0_pay934 (F := Ideal) y e e') := rfl

theorem scV_eq (g : Fin 24) : scV I g = bitcastToFloat .f32 (wordV I g) := by
  unfold scV qSc wordV
  exact pay935_eq _ _ _

theorem scV_apply (hw : ∀ y : Fin 3072, max (nwI I (ix1 y)) (-nwI I (ix1 y)) ≤ f32 0x7F7FFFFF#32) (g : Fin 24) (x : Fin 256) (l : Fin 128) :
    scV I g (ix2 x l) = scale (roG I) (nwI I) x g := by
  rw [scV_eq, bits_apply, word_apply]
  exact (search_val (roG I) (nwI I) hw x g).1

/-- A code from its entry and the scale's word. -/
def clipV (v : FVec Ideal S256x128 .f32) (w : IVec S256x128 32) : FVec Ideal S256x128 .f32 :=
  minimumf (broadcast S256x128 (Scalar.ofBits .f32 0x43E00000#32 : Ideal .f32)) (maximumf (broadcast S256x128 (Scalar.ofBits .f32 0xC3E00000#32 : Ideal .f32))
    (mulf v (bitcastToFloat .f32 (subi (broadcast S256x128 2130706432#32) w))))

theorem clip_at (a b c : BitVec 32) (v : FVec Ideal S256x128 .f32) (w : IVec S256x128 32) (j : S256x128.Idx) :
    (minimumf (broadcast S256x128 (Scalar.ofBits .f32 a : Ideal .f32)) (maximumf (broadcast S256x128 (Scalar.ofBits .f32 b : Ideal .f32))
      (mulf v (bitcastToFloat .f32 (subi (broadcast S256x128 c) w)))) : FVec Ideal S256x128 .f32) j = min (f32 a) (max (f32 b) (v j * f32 (c - w j))) := rfl

theorem clipV_apply (v : FVec Ideal S256x128 .f32) (w : IVec S256x128 32) (j : S256x128.Idx) :
    clipV v w j = min (f32 0x43E00000#32) (max (f32 0xC3E00000#32) (v j * f32 (2130706432#32 - w j))) := by
  unfold clipV
  exact clip_at _ _ _ v w j

theorem pay936_eq (v y : FVec Ideal S256x128 .f32) (e e' : IVec S256x128 32) :
    k0_pay936 (F := Ideal) v y e e' = clipV v (k0_pay934 (F := Ideal) y e e') := by
  unfold k0_pay936 clipV
  rfl

theorem pay938_apply (v : FVec Ideal S256x128 .f32) (j : S256x128.Idx) : k0_pay938 (F := Ideal) v j = v j := by
  unfold k0_pay938
  rw [shapeCast_self]
  rfl

theorem qCl_eq (g : Fin 24) : qCl (nwR I g) (roR I g) (rsG I) = clipV (k0_pay930 (F := Ideal) (nwR I g) (roR I g) (rsG I)) (wordV I g) := by
  unfold qCl wordV
  exact pay936_eq _ _ _ _

theorem clT_apply (hw : ∀ y : Fin 3072, max (nwI I (ix1 y)) (-nwI I (ix1 y)) ≤ f32 0x7F7FFFFF#32) (g : Fin 24) (x : Fin 256) (l : Fin 128) :
    clT I g x l = code (roG I) (nwI I) x (col g l) := by
  have hl := l.2
  have hb : blk (col g l) = g := Fin.ext (by show (g.1 * 128 + l.1) / 128 = g.1; omega)
  unfold code
  rw [hb, ← (search_val (roG I) (nwI I) hw x g).2, ← word_apply I g x l, ← pay930_apply]
  unfold clT
  rw [qCl_eq]
  exact (pay938_apply _ _).trans (clipV_apply _ _ _)

/-- The codes are those of the result's rows. -/
theorem xcG_value (hw : ∀ y : Fin 3072, max (nwI I (ix1 y)) (-nwI I (ix1 y)) ≤ f32 0x7F7FFFFF#32) : xcG I = codeG (roG I) (nwI I) := by
  funext j
  obtain ⟨x, y, rfl⟩ : ∃ (x : Fin 256) (y : Fin 3072), j = ix2 x y := ⟨j 0, j 1, ValueIdx.eq_ix2 (n0 := 256) (n1 := 3072) j⟩
  have hy := y.2
  show clT I ⟨y.1 / 128, by omega⟩ x ⟨y.1 % 128, Nat.mod_lt _ (by decide)⟩ = code (roG I) (nwI I) x y
  rw [clT_apply I hw]
  refine congrArg (code _ _ x) (Fin.ext ?_)
  show y.1 / 128 * 128 + y.1 % 128 = y.1
  omega

/-! ## The scales in their lanes -/

theorem lane_word : ∀ (l : Fin 128) (g : Fin 24), IntOp.cmpi .eq (BitVec.ofNat 32 (0 * 128 + l.1)) (BitVec.ofNat 32 g.1) = BitVec.ofBool (decide (l.1 = g.1)) := by
  decide +kernel

theorem qSel_apply (g : Fin 24) (sc s : FVec Ideal S256x128 .f32) (x : Fin 256) (l : Fin 128) :
    qSel (F := Ideal) lane g sc s (ix2 x l) = if l.1 = g.1 then sc (ix2 x l) else s (ix2 x l) := by
  have hx := x.2
  unfold qSel k0_pay955
  rw [shapeCast_self, select_apply]
  have e : ∀ h1 h2 h3 h4, shapeCast S256x128 (broadcastTo S32x8x128 (shapeCast S1x8x128 (shapeCast S1x8x128
      (cmpi .eq lane (broadcast S8x128 (BitVec.ofNat 32 g.1)) : IVec S8x128 1) h1 : IVec S1x8x128 1) h2 : IVec S1x8x128 1) h3 : IVec S32x8x128 1) h4 (ix2 x l)
      = BitVec.ofBool (decide (l.1 = g.1)) := fun h1 h2 h3 h4 => by
    refine (shapeCast_apply _ h4 (ix2 x l) (ix3 (⟨x.1 / 8, by omega⟩ : Fin 32) (⟨x.1 % 8, Nat.mod_lt _ (by decide)⟩ : Fin 8) l) ?_).trans ?_
    · refine (rm3 _ _ _).trans (Eq.trans ?_ (rm2 _ _).symm)
      show (x.1 / 8 * 8 + x.1 % 8) * 128 + l.1 = x.1 * 128 + l.1
      omega
    refine (broadcastTo_apply _ h3 _ (ix3 (0 : Fin 1) (⟨x.1 % 8, Nat.mod_lt _ (by decide)⟩ : Fin 8) l) fun a => ?_).trans ?_
    · match a with
      | ⟨0, _⟩ => rfl
      | ⟨1, _⟩ => rfl
      | ⟨2, _⟩ => rfl
    rw [shapeCast_self]
    refine (shapeCast_apply _ h1 _ (ix2 (⟨x.1 % 8, Nat.mod_lt _ (by decide)⟩ : Fin 8) l) ?_).trans ?_
    · refine (rm2 _ _).trans (Eq.trans ?_ (rm3 _ _ _).symm)
      show x.1 % 8 * 128 + l.1 = (0 * 8 + x.1 % 8) * 128 + l.1
      omega
    exact lane_word l g
  rw [e]
  by_cases h : l.1 = g.1 <;> simp [Scalar.select, h]

theorem scN_apply (hw : ∀ y : Fin 3072, max (nwI I (ix1 y)) (-nwI I (ix1 y)) ≤ f32 0x7F7FFFFF#32) (x : Fin 256) (l : Fin 128) (g : Fin 24) (hg : l.1 = g.1) :
    ∀ n, n ≤ 24 → g.1 < n → scN I n (ix2 x l) = scale (roG I) (nwI I) x g
  | 0, _, h => absurd h (Nat.not_lt_zero _)
  | n + 1, hn, h => by
    have hf : gf n = ⟨n, hn⟩ := Fin.ext (Nat.mod_eq_of_lt hn)
    show qSel lane (gf n) (scV I (gf n)) (scN I n) (ix2 x l) = _
    rw [qSel_apply, hf]
    by_cases q : g.1 = n
    · rw [if_pos (by rw [hg, q]), scV_apply I hw]
      exact congrArg (scale _ _ x) (Fin.ext q.symm)
    · rw [if_neg (by rw [hg]; exact q)]
      exact scN_apply hw x l g hg n (by omega) (by omega)

theorem turn_apply (v : FVec Ideal S128x128 .f32) (x : Fin 24) (y : Fin 128) (l : Fin 128) (hl : l.1 = x.1) :
    k0_pay956 (F := Ideal) v (ix2 x y) = v (ix2 y l) := by
  unfold k0_pay956
  refine (extractStridedSlice_apply _ _ _ (ix2 x y) (ix2 l y) fun c => ?_).trans (transpose_ix2_apply _ _ l y)
  match c with
  | ⟨0, _⟩ => exact hl.trans (Nat.zero_add _).symm
  | ⟨1, _⟩ => exact (Nat.zero_add _).symm

theorem out0_apply (w : FVec Ideal S256x128 .f32) (x : Fin 24) (y : Fin 128) (X : Fin 256) (l : Fin 128) (hX : X.1 = y.1) (hl : l.1 = x.1) :
    k0_pay1 (F := Ideal) (k0_pay956 ((vSC.access rSh0).read (Elt Ideal) w)) (ix3 (0 : Fin 1) x y) = w (ix2 X l) := by
  unfold k0_pay1
  refine (shapeCast_ab_1ab_apply _ _ 0 x y).trans ((turn_apply _ x y l hl).trans ?_)
  show w _ = w _
  refine congrArg w (funext fun a => Fin.ext ?_)
  match a with
  | ⟨0, _⟩ => show 0 + 1 * y.1 = X.1; omega
  | ⟨1, _⟩ => show 0 + 1 * l.1 = l.1; omega

theorem out1_apply (w : FVec Ideal S256x128 .f32) (x : Fin 24) (y : Fin 128) (X : Fin 256) (l : Fin 128) (hX : X.1 = 128 + y.1) (hl : l.1 = x.1) :
    k0_pay2 (F := Ideal) ((vSC.access rSh1).read (Elt Ideal) w) (ix3 (0 : Fin 1) x y) = w (ix2 X l) := by
  unfold k0_pay2
  refine (shapeCast_ab_1ab_apply _ _ 0 x y).trans ((turn_apply _ x y l hl).trans ?_)
  show w _ = w _
  refine congrArg w (funext fun a => Fin.ext ?_)
  match a with
  | ⟨0, _⟩ => show 128 + 1 * y.1 = X.1; omega
  | ⟨1, _⟩ => show 0 + 1 * l.1 = l.1; omega

/-- The scales are those of the result's rows. -/
theorem xsG_value (hw : ∀ y : Fin 3072, max (nwI I (ix1 y)) (-nwI I (ix1 y)) ≤ f32 0x7F7FFFFF#32) : xsG I = Spec.scaleG (roG I) (nwI I) := by
  funext j
  obtain ⟨b, x, y, rfl⟩ : ∃ (b : Fin 2) (x : Fin 24) (y : Fin 128), j = ix3 b x y := ⟨j 0, j 1, j 2, ValueIdx.eq_ix3 (n0 := 2) (n1 := 24) (n2 := 128) j⟩
  have hx := x.2
  have hb := b.2
  show xsV I (decide (b.1 < 1)) x y = scale (roG I) (nwI I) (row b y) x
  rw [← scN_apply I hw (row b y) ⟨x.1, by omega⟩ x rfl 24 le_rfl hx]
  unfold xsV
  by_cases h : b.1 < 1
  · rw [if_pos (by simpa using h)]
    exact out0_apply _ x y _ _ (by show b.1 * 128 + y.1 = y.1; omega) rfl
  · rw [if_neg (by simpa using h)]
    exact out1_apply _ x y _ _ (by show b.1 * 128 + y.1 = 128 + y.1; omega) rfl

end Cert.KernelIdeal.Hand
-- ==== Proof.RefValue.lean ====
module

public import proofs.«01_k».proof.Proof.Spec
public import proofs.«01_k».proof.Proof.Gen.ReferenceIdeal.Frame
public import Idealize.ShloMosaic.Lib.Pointwise.Reduce
public import Idealize.ShloMosaic.Lib.MatmulPlain
public import Idealize.ShloMosaic.Lib.Pipeline.Value
public import Idealize.ShloMosaic.Lib.Pipeline.ValueKit.Basic

/-! What the reference returns. -/

@[expose] public section

set_option maxRecDepth 65536

noncomputable section

namespace Cert.ReferenceIdeal.RefValue

open Cert.ReferenceIdeal Cert.ReferenceIdeal.Gen Cert.Spec
open Idealize.ShloMosaic hiding ix1 ix2 ix3 ix4
open Idealize.ShloMosaic.TcCoe Idealize.ShloMosaic.ValueIdx
open Idealize.SL.Sem

theorem rm2 {a b : Nat} (i : Fin a) (j : Fin b) : ((⟨2, ![a, b]⟩ : Shape).rowMajor (ix2 i j)).val = i.1 * b + j.1 :=
  (Shape.rowMajor_val_two _).trans rfl
theorem rm3 {a b c : Nat} (i : Fin a) (j : Fin b) (k : Fin c) :
    ((⟨3, ![a, b, c]⟩ : Shape).rowMajor (ix3 i j k)).val = (i.1 * b + j.1) * c + k.1 := by
  rw [Shape.rowMajor_val_three]; rfl

theorem rm4 {a b c d : Nat} (i : Fin a) (j : Fin b) (k : Fin c) (l : Fin d) :
    ((⟨4, ![a, b, c, d]⟩ : Shape).rowMajor (ix4 i j k l)).val = ((i.1 * b + j.1) * c + k.1) * d + l.1 := by
  rw [Shape.rowMajor_val_four]; rfl

/-- The place of a channel in its group, and of a column in its block. -/
def inG (k : Fin 8192) : Fin 128 := ⟨k.1 % 128, Nat.mod_lt _ (by decide)⟩
def inB (y : Fin 3072) : Fin 128 := ⟨y.1 % 128, Nat.mod_lt _ (by decide)⟩

section
variable (v0 : Vec Ideal S2x128x8192 .fp8e4m3) (v3 : Vec Ideal S2x128x64 .f32) (v10 : Vec Ideal S8192x3072 .fp8e4m3)
  (v13 : Vec Ideal S64x24 .f32) (v20 : Vec Ideal S2x128x3072 .bf16)

def actF : FVec Ideal S256x8192 .bf16 :=
  shapeCast S256x8192 (mulf (shapeCast S256x64x128 (extf .bf16 (show FVec Ideal S2x128x8192 .fp8e4m3 from v0) bitsLt_fp8e4m3_bf16 : FVec Ideal S2x128x8192 .bf16) shapeCasts_S2x128x8192_S256x64x128 : FVec Ideal S256x64x128 .bf16)
    (broadcastTo S256x64x128 (shapeCast S256x64x1 (shapeCast S256x64 (truncf .bf16 (show FVec Ideal S2x128x64 .f32 from v3) bitsLt_bf16_f32 : FVec Ideal S2x128x64 .bf16) shapeCasts_S2x128x64_S256x64)
      shapeCasts_S256x64_S256x64x1) broadcasts_S256x64x1_S256x64x128 : FVec Ideal S256x64x128 .bf16)) shapeCasts_S256x64x128_S256x8192

def wgtF : FVec Ideal S8192x3072 .bf16 :=
  shapeCast S8192x3072 (mulf (shapeCast S64x128x24x128 (extf .bf16 (show FVec Ideal S8192x3072 .fp8e4m3 from v10) bitsLt_fp8e4m3_bf16 : FVec Ideal S8192x3072 .bf16) shapeCasts_S8192x3072_S64x128x24x128 : FVec Ideal S64x128x24x128 .bf16)
    (broadcastTo S64x128x24x128 (shapeCast S64x1x24x1 (truncf .bf16 (show FVec Ideal S64x24 .f32 from v13) bitsLt_bf16_f32 : FVec Ideal S64x24 .bf16) shapeCasts_S64x24_S64x1x24x1)
      broadcasts_S64x1x24x1_S64x128x24x128 : FVec Ideal S64x128x24x128 .bf16)) shapeCasts_S64x128x24x128_S8192x3072

theorem pay_eq : k0_pay5 (F := Ideal) v0 v3 v10 v13 v20 =
    truncf .bf16 (addf (extf .f32 (shapeCast S256x3072 v20 shapeCasts_S2x128x3072_S256x3072 : FVec Ideal S256x3072 .bf16) bitsLt_bf16_f32)
      (FloatOps.matmul (DotDims.plain 256 8192 3072) none (actF v0 v3) (wgtF v10 v13) (constant S256x3072 .f32 0x00000000#32) : FVec Ideal S256x3072 .f32)) bitsLt_bf16_f32 := rfl

theorem act_apply (x : Fin 256) (k : Fin 8192) : actF v0 v3 (ix2 x k) = act v0 v3 x k := by
  have hx := x.2
  have hk := k.2
  unfold actF
  refine (shapeCast_apply _ _ (ix2 x k) (ix3 x (grp k) (inG k)) ?_).trans ?_
  · refine (rm3 _ _ _).trans (Eq.trans ?_ (rm2 _ _).symm)
    show (x.1 * 64 + k.1 / 128) * 128 + k.1 % 128 = x.1 * 8192 + k.1
    omega
  rw [mulf_apply]
  refine congrArg₂ (· * ·) ?_ ?_
  · refine (shapeCast_apply _ _ (ix3 x (grp k) (inG k)) (ix3 (bat x) (pos x) k) ?_).trans rfl
    refine (rm3 _ _ _).trans (Eq.trans ?_ (rm3 _ _ _).symm)
    show (x.1 / 128 * 128 + x.1 % 128) * 8192 + k.1 = (x.1 * 64 + k.1 / 128) * 128 + k.1 % 128
    omega
  · refine (broadcastTo_apply _ _ (ix3 x (grp k) (inG k)) (ix3 x (grp k) (0 : Fin 1)) ?_).trans ?_
    · intro a
      match a with
      | ⟨0, _⟩ => rfl
      | ⟨1, _⟩ => rfl
      | ⟨2, _⟩ => rfl
    refine (shapeCast_apply _ _ (ix3 x (grp k) (0 : Fin 1)) (ix2 x (grp k)) ?_).trans ?_
    · refine (rm2 _ _).trans (Eq.trans ?_ (rm3 _ _ _).symm)
      show x.1 * 64 + k.1 / 128 = (x.1 * 64 + k.1 / 128) * 1 + 0
      omega
    refine (shapeCast_apply _ _ (ix2 x (grp k)) (ix3 (bat x) (pos x) (grp k)) ?_).trans rfl
    refine (rm3 _ _ _).trans (Eq.trans ?_ (rm2 _ _).symm)
    show (x.1 / 128 * 128 + x.1 % 128) * 64 + k.1 / 128 = x.1 * 64 + k.1 / 128
    omega

theorem wgt_apply (k : Fin 8192) (y : Fin 3072) : wgtF v10 v13 (ix2 k y) = wgt v10 v13 k y := by
  have hy := y.2
  have hk := k.2
  unfold wgtF
  refine (shapeCast_apply _ _ (ix2 k y) (ix4 (grp k) (inG k) (blk y) (inB y)) ?_).trans ?_
  · refine (rm4 _ _ _ _).trans (Eq.trans ?_ (rm2 _ _).symm)
    show ((k.1 / 128 * 128 + k.1 % 128) * 24 + y.1 / 128) * 128 + y.1 % 128 = k.1 * 3072 + y.1
    omega
  rw [mulf_apply]
  refine congrArg₂ (· * ·) ?_ ?_
  · refine (shapeCast_apply _ _ (ix4 (grp k) (inG k) (blk y) (inB y)) (ix2 k y) ?_).trans rfl
    refine (rm2 _ _).trans (Eq.trans ?_ (rm4 _ _ _ _).symm)
    show k.1 * 3072 + y.1 = ((k.1 / 128 * 128 + k.1 % 128) * 24 + y.1 / 128) * 128 + y.1 % 128
    omega
  · refine (broadcastTo_apply _ _ (ix4 (grp k) (inG k) (blk y) (inB y)) (ix4 (grp k) (0 : Fin 1) (blk y) (0 : Fin 1)) ?_).trans ?_
    · intro a
      match a with
      | ⟨0, _⟩ => rfl
      | ⟨1, _⟩ => rfl
      | ⟨2, _⟩ => rfl
      | ⟨3, _⟩ => rfl
    refine (shapeCast_apply _ _ (ix4 (grp k) (0 : Fin 1) (blk y) (0 : Fin 1)) (ix2 (grp k) (blk y)) ?_).trans rfl
    refine (rm2 _ _).trans (Eq.trans ?_ (rm4 _ _ _ _).symm)
    show k.1 / 128 * 24 + y.1 / 128 = ((k.1 / 128 * 1 + 0) * 24 + y.1 / 128) * 1 + 0
    omega

theorem pay_apply : k0_pay5 (F := Ideal) v0 v3 v10 v13 v20 = outG v0 v3 v10 v13 v20 := by
  funext j
  obtain ⟨x, y, rfl⟩ : ∃ (x : Fin 256) (y : Fin 3072), j = ix2 x y := ⟨j 0, j 1, ValueIdx.eq_ix2 (n0 := 256) (n1 := 3072) j⟩
  rw [pay_eq, truncf_apply, addf_apply, extf_apply]
  refine congrArg₂ (· + ·) ?_ ?_
  · have hx := x.2
    refine (shapeCast_apply _ _ (ix2 x y) (ix3 (bat x) (pos x) y) ?_)
    refine (rm3 _ _ _).trans (Eq.trans ?_ (rm2 _ _).symm)
    show (x.1 / 128 * 128 + x.1 % 128) * 3072 + y.1 = x.1 * 3072 + y.1
    omega
  · refine (Ideal.matmul_plain_apply none (actF v0 v3) (wgtF v10 v13) _ x y).trans ?_
    rw [constant_apply, Ideal.ofBits_zero_f32, zero_add]
    exact Finset.sum_congr rfl fun k _ => by rw [act_apply, wgt_apply]
end

/-! ## The norm and the quantiser -/

section
variable (r : FVec Ideal S256x3072 .bf16) (w : FVec Ideal S3072 .f32)

theorem rm1 {a : Nat} (i : Fin a) : ((⟨1, ![a]⟩ : Shape).rowMajor (ix1 i)).val = i.1 := (Shape.rowMajor_val_one _).trans rfl

/-- The rows over their root mean squares. -/
def normV : FVec Ideal S256x3072 .f32 :=
  mulf (extf .f32 r bitsLt_bf16_f32) (broadcastTo S256x3072 (rsqrt (addf (mulf (shapeCast S256x1 (multiReduction .add [1] S256
    (mulf (extf .f32 r bitsLt_bf16_f32) (extf .f32 r bitsLt_bf16_f32) : FVec Ideal S256x3072 .f32) 0x00000000#32 reduces_S256x3072_S256 (.inl rfl) rfl : FVec Ideal S256 .f32) shapeCasts_S256_S256x1)
    (broadcast S256x1 (Scalar.ofBits .f32 0x39AAAAAB#32 : Ideal .f32))) (broadcast S256x1 (Scalar.ofBits .f32 0x358637BD#32 : Ideal .f32))) : FVec Ideal S256x1 .f32) broadcasts_S256x1_S256x3072)

theorem pay6_eq (v0 : Vec Ideal S2x128x8192 .fp8e4m3) (v3 : Vec Ideal S2x128x64 .f32) (v10 : Vec Ideal S8192x3072 .fp8e4m3)
    (v13 : Vec Ideal S64x24 .f32) (v20 : Vec Ideal S2x128x3072 .bf16) : k0_pay6 (F := Ideal) v0 v3 v10 v13 v20 = normV (k0_pay5 (F := Ideal) v0 v3 v10 v13 v20) := by
  unfold k0_pay6 normV
  rfl

theorem normV_apply (x : Fin 256) (y : Fin 3072) : normV r (ix2 x y) = r (ix2 x y) * rs r x := by
  unfold normV rs
  rw [mulf_apply, extf_apply]
  refine congrArg (_ * ·) ?_
  refine (broadcastTo_apply _ _ (ix2 x y) (ix2 x (0 : Fin 1)) fun a => ?_).trans ?_
  · match a with
    | ⟨0, _⟩ => rfl
    | ⟨1, _⟩ => rfl
  refine congrArg Ideal.rsqrt (congrArg (· + _) (congrArg (· * _) ?_))
  refine (shapeCast_apply _ _ (ix2 x (0 : Fin 1)) (ix1 x) ?_).trans ?_
  · refine (rm1 _).trans (Eq.trans ?_ (rm2 _ _).symm)
    show x.1 = x.1 * 1 + 0
    omega
  exact Ideal.reduceAdd_r2_a1 reduces_S256x3072_S256 _ (ix1 x)

theorem pay7_apply (y : Fin 3072) : k0_pay7 (F := Ideal) w (ix2 (0 : Fin 1) y) = w (ix1 y) := by
  unfold k0_pay7
  refine shapeCast_apply _ _ (ix2 (0 : Fin 1) y) (ix1 y) ?_
  refine (rm1 _).trans (Eq.trans ?_ (rm2 _ _).symm)
  show y.1 = 0 * 3072 + y.1
  omega

theorem pay1_apply (x : Fin 256) (g : Fin 24) (k : Fin 128) :
    k0_pay1 (F := Ideal) (normV r) (k0_pay7 (F := Ideal) w) (ix3 x g k) = xn r w x (col g k) := by
  unfold k0_pay1
  refine (shapeCast_apply _ _ (ix3 x g k) (ix2 x (col g k)) ?_).trans ?_
  · refine (rm2 _ _).trans (Eq.trans ?_ (rm3 _ _ _).symm)
    show x.1 * 3072 + (g.1 * 128 + k.1) = (x.1 * 24 + g.1) * 128 + k.1
    omega
  rw [mulf_apply, normV_apply]
  refine congrArg (_ * ·) ((broadcastTo_apply _ _ (ix2 x (col g k)) (ix2 (0 : Fin 1) (col g k)) fun a => ?_).trans (pay7_apply w _))
  match a with
  | ⟨0, _⟩ => rfl
  | ⟨1, _⟩ => rfl

/-- A group's largest magnitude over the code's. -/
def topV (v : FVec Ideal S256x24x128 .f32) : FVec Ideal S256x24 .f32 :=
  mulf (multiReduction .maximumf [2] S256x24 (absf v) 0xFF800000#32 reduces_S256x24x128_S256x24 (.inl rfl) rfl) (broadcast S256x24 (Scalar.ofBits .f32 0x3B124925#32 : Ideal .f32))

def expoV (y : FVec Ideal S256x24 .f32) : FVec Ideal S256x24 .f32 :=
  select (cmpf .olt y (broadcast S256x24 (Scalar.ofBits .f32 0x00800000#32 : Ideal .f32))) (broadcast S256x24 (Scalar.ofBits .f32 0x00000000#32 : Ideal .f32))
    (addf (floor (divf (log y) (log (broadcast S256x24 (Scalar.ofBits .f32 0x40000000#32 : Ideal .f32) : FVec Ideal S256x24 .f32)))) (broadcast S256x24 (Scalar.ofBits .f32 0x3F800000#32 : Ideal .f32)))

theorem expoV_apply (y : FVec Ideal S256x24 .f32) (j : S256x24.Idx) : expoV y j = expo (y j) := rfl

theorem pay2_eq (a : FVec Ideal S256x3072 .f32) (b : FVec Ideal S1x3072 .f32) : k0_pay2 (F := Ideal) a b = expoV (topV (k0_pay1 (F := Ideal) a b)) := by
  unfold k0_pay2 expoV topV
  rfl

theorem const_at {s : Shape} (b : BitVec 32) (j : s.Idx) : (broadcast s (Scalar.ofBits .f32 b : Ideal .f32) : FVec Ideal s .f32) j = f32 b := rfl

theorem topV_apply (x : Fin 256) (g : Fin 24) : topV (k0_pay1 (F := Ideal) (normV r) (k0_pay7 (F := Ideal) w)) (ix2 x g) = Spec.top r w x g := by
  unfold topV Spec.top
  rw [mulf_apply, const_at]
  refine congrArg (fun z : EReal => z * f32 0x3B124925#32) ?_
  unfold amax
  refine (multiReduction_maximumf_eq_fold _ _ reduces_S256x24x128_S256x24 (.inl rfl) rfl (ix2 x g)).trans ?_
  refine (reduces_S256x24x128_S256x24.fold_fiber_r3_a2 (ix2 x g) _ _ _).trans ?_
  refine congrArg (Finset.fold _ _ · _) (funext fun k => ?_)
  show max (k0_pay1 (F := Ideal) (normV r) (k0_pay7 (F := Ideal) w) (ix3 x g k)) (-k0_pay1 (F := Ideal) (normV r) (k0_pay7 (F := Ideal) w) (ix3 x g k)) = _
  rw [pay1_apply]

theorem pay2_apply (x : Fin 256) (g : Fin 24) : k0_pay2 (F := Ideal) (normV r) (k0_pay7 (F := Ideal) w) (ix2 x g) = expo (Spec.top r w x g) := by
  rw [pay2_eq, expoV_apply, topV_apply]

theorem exp2_at {s : Shape} (v : FVec Ideal s .f32) (j : s.Idx) : (exp2 v : FVec Ideal s .f32) j = Ideal.exp2 (v j) := rfl
theorem subf_at {s : Shape} (b : BitVec 32) (v : FVec Ideal s .f32) (j : s.Idx) :
    (subf (broadcast s (Scalar.ofBits .f32 b : Ideal .f32)) v : FVec Ideal s .f32) j = f32 b - v j := rfl

def clipV (v : FVec Ideal S256x24x128 .f32) : FVec Ideal S256x24x128 .fp8e4m3 :=
  truncf .fp8e4m3 (minimumf (broadcast S256x24x128 (Scalar.ofBits .f32 0x43E00000#32 : Ideal .f32)) (maximumf (broadcast S256x24x128 (Scalar.ofBits .f32 0xC3E00000#32 : Ideal .f32)) v) : FVec Ideal S256x24x128 .f32) bitsLt_fp8e4m3_f32

theorem clipV_apply (v : FVec Ideal S256x24x128 .f32) (j : S256x24x128.Idx) : clipV v j = min (f32 0x43E00000#32) (max (f32 0xC3E00000#32) (v j)) := rfl

theorem pay3_eq (a : FVec Ideal S256x3072 .f32) (b : FVec Ideal S1x3072 .f32) : k0_pay3 (F := Ideal) a b =
    shapeCast S256x3072 (clipV (mulf (k0_pay1 (F := Ideal) a b) (broadcastTo S256x24x128 (shapeCast S256x24x1
      (exp2 (subf (broadcast S256x24 (Scalar.ofBits .f32 0x00000000#32 : Ideal .f32)) (k0_pay2 (F := Ideal) a b)) : FVec Ideal S256x24 .f32) shapeCasts_S256x24_S256x24x1) broadcasts_S256x24x1_S256x24x128)))
      shapeCasts_S256x24x128_S256x3072 := by
  unfold k0_pay3 clipV
  rfl

theorem group_at (v : FVec Ideal S256x24 .f32) (x : Fin 256) (g : Fin 24) (k : Fin 128) :
    broadcastTo S256x24x128 (shapeCast S256x24x1 v shapeCasts_S256x24_S256x24x1) broadcasts_S256x24x1_S256x24x128 (ix3 x g k) = v (ix2 x g) := by
  refine (broadcastTo_apply _ _ (ix3 x g k) (ix3 x g (0 : Fin 1)) fun a => ?_).trans ?_
  · match a with
    | ⟨0, _⟩ => rfl
    | ⟨1, _⟩ => rfl
    | ⟨2, _⟩ => rfl
  refine shapeCast_apply _ _ (ix3 x g (0 : Fin 1)) (ix2 x g) ?_
  refine (rm2 _ _).trans (Eq.trans ?_ (rm3 _ _ _).symm)
  show x.1 * 24 + g.1 = (x.1 * 24 + g.1) * 1 + 0
  omega

theorem pay3_apply : k0_pay3 (F := Ideal) (normV r) (k0_pay7 (F := Ideal) w) = codeG r w := by
  funext j
  obtain ⟨x, y, rfl⟩ : ∃ (x : Fin 256) (y : Fin 3072), j = ix2 x y := ⟨j 0, j 1, ValueIdx.eq_ix2 (n0 := 256) (n1 := 3072) j⟩
  have hy := y.2
  have hc : col (blk y) (inB y) = y := Fin.ext (by show y.1 / 128 * 128 + y.1 % 128 = y.1; omega)
  show _ = code r w x y
  unfold code
  rw [pay3_eq]
  refine (shapeCast_apply _ _ (ix2 x y) (ix3 x (blk y) (inB y)) ?_).trans ?_
  · refine (rm3 _ _ _).trans (Eq.trans ?_ (rm2 _ _).symm)
    show (x.1 * 24 + y.1 / 128) * 128 + y.1 % 128 = x.1 * 3072 + y.1
    omega
  rw [clipV_apply, mulf_apply, pay1_apply, hc, group_at, exp2_at, subf_at, pay2_apply]

theorem pay4_apply : k0_pay4 (F := Ideal) (normV r) (k0_pay7 (F := Ideal) w) = scaleG r w := by
  funext j
  obtain ⟨b, g, p, rfl⟩ : ∃ (b : Fin 2) (g : Fin 24) (p : Fin 128), j = ix3 b g p := ⟨j 0, j 1, j 2, ValueIdx.eq_ix3 (n0 := 2) (n1 := 24) (n2 := 128) j⟩
  show _ = scale r w (row b p) g
  unfold k0_pay4 scale
  refine (transpose_apply _ _ _ _ (ix3 b p g) fun a => ?_).trans ?_
  · match a with
    | ⟨0, _⟩ => rfl
    | ⟨1, _⟩ => rfl
    | ⟨2, _⟩ => rfl
  refine (shapeCast_apply _ _ (ix3 b p g) (ix2 (row b p) g) ?_).trans ?_
  · refine (rm2 _ _).trans (Eq.trans ?_ (rm3 _ _ _).symm)
    show (b.1 * 128 + p.1) * 24 + g.1 = (b.1 * 128 + p.1) * 24 + g.1
    rfl
  rw [exp2_at, pay2_apply]
end

/-! ## The run -/

variable (m : (ℓ : Loc nD τ sig) → Buf (Elt Ideal) ℓ) (ρ : Dev nD → PrngReg)

abbrev resultOf (c : Dev nD) : Buf (Elt Ideal) ((c : Thread nD τ).loc main_v0_0) :=
  outG (m ((c : Thread nD τ).loc main_arg0)) (m ((c : Thread nD τ).loc main_arg1)) (m ((c : Thread nD τ).loc main_arg2))
    (m ((c : Thread nD τ).loc main_arg3)) (m ((c : Thread nD τ).loc main_arg4))
abbrev codesOf (c : Dev nD) : Buf (Elt Ideal) ((c : Thread nD τ).loc main_v0_1) := codeG (resultOf m c) (m ((c : Thread nD τ).loc main_arg5))
abbrev scalesOf (c : Dev nD) : Buf (Elt Ideal) ((c : Thread nD τ).loc main_v0_2) := scaleG (resultOf m c) (m ((c : Thread nD τ).loc main_arg5))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem out_eq6 (x0 : Vec Ideal S2x128x8192 .fp8e4m3) (x1 x2 x3 x4 x5) : out0_6 (F := Ideal) x0 x1 x2 x3 x4 x5 = k0_pay5 x0 x1 x2 x3 x4 := by
  unfold out0_6
  rw [View.canon_unit_zero hz2, View.ld_unit_zero hz3, View.ld_unit_zero hz3, View.ld_unit_zero hz2, View.ld_unit_zero hz2, View.ld_unit_zero hz3]
theorem pay8_eq (x0 : Vec Ideal S2x128x8192 .fp8e4m3) (x1 x2 x3 x4 x5) : k0_pay8 (F := Ideal) x0 x1 x2 x3 x4 x5 = k0_pay6 x0 x1 x2 x3 x4 := by
  unfold k0_pay8
  rw [View.ld_unit_zero hz3, View.ld_unit_zero hz3, View.ld_unit_zero hz2, View.ld_unit_zero hz2, View.ld_unit_zero hz3]
theorem pay9_eq (x0 : Vec Ideal S2x128x8192 .fp8e4m3) (x1 x2 x3 x4 x5) : k0_pay9 (F := Ideal) x0 x1 x2 x3 x4 x5 = k0_pay7 x5 := by
  unfold k0_pay9
  rw [View.ld_unit_zero hz1]
theorem out_eq7 (x0 : Vec Ideal S2x128x8192 .fp8e4m3) (x1 x2 x3 x4 x5) : out0_7 (F := Ideal) x0 x1 x2 x3 x4 x5 = k0_pay3 (k0_pay6 x0 x1 x2 x3 x4) (k0_pay7 x5) := by
  unfold out0_7
  rw [View.canon_unit_zero hz2, pay8_eq, pay9_eq]
theorem out_eq8 (x0 : Vec Ideal S2x128x8192 .fp8e4m3) (x1 x2 x3 x4 x5) : out0_8 (F := Ideal) x0 x1 x2 x3 x4 x5 = k0_pay4 (k0_pay6 x0 x1 x2 x3 x4) (k0_pay7 x5) := by
  unfold out0_8
  rw [View.canon_unit_zero hz3, pay8_eq, pay9_eq]

theorem emb0 (t : Fin cfg0.N) (j : S2x128x8192.Idx) : ((cfg0.win 0).blk t).view.emb j = j := by
  funext a; apply Fin.ext
  match a with
  | ⟨0, _⟩ => show 0 * 2 + 1 * (j 0).val = (j 0).val; omega
  | ⟨1, _⟩ => show 0 * 128 + 1 * (j 1).val = (j 1).val; omega
  | ⟨2, _⟩ => show 0 * 8192 + 1 * (j 2).val = (j 2).val; omega
theorem emb1 (t : Fin cfg0.N) (j : S2x128x64.Idx) : ((cfg0.win 1).blk t).view.emb j = j := by
  funext a; apply Fin.ext
  match a with
  | ⟨0, _⟩ => show 0 * 2 + 1 * (j 0).val = (j 0).val; omega
  | ⟨1, _⟩ => show 0 * 128 + 1 * (j 1).val = (j 1).val; omega
  | ⟨2, _⟩ => show 0 * 64 + 1 * (j 2).val = (j 2).val; omega
theorem emb2 (t : Fin cfg0.N) (j : S8192x3072.Idx) : ((cfg0.win 2).blk t).view.emb j = j := by
  funext a; apply Fin.ext
  match a with
  | ⟨0, _⟩ => show 0 * 8192 + 1 * (j 0).val = (j 0).val; omega
  | ⟨1, _⟩ => show 0 * 3072 + 1 * (j 1).val = (j 1).val; omega
theorem emb3 (t : Fin cfg0.N) (j : S64x24.Idx) : ((cfg0.win 3).blk t).view.emb j = j := by
  funext a; apply Fin.ext
  match a with
  | ⟨0, _⟩ => show 0 * 64 + 1 * (j 0).val = (j 0).val; omega
  | ⟨1, _⟩ => show 0 * 24 + 1 * (j 1).val = (j 1).val; omega
theorem emb4 (t : Fin cfg0.N) (j : S2x128x3072.Idx) : ((cfg0.win 4).blk t).view.emb j = j := by
  funext a; apply Fin.ext
  match a with
  | ⟨0, _⟩ => show 0 * 2 + 1 * (j 0).val = (j 0).val; omega
  | ⟨1, _⟩ => show 0 * 128 + 1 * (j 1).val = (j 1).val; omega
  | ⟨2, _⟩ => show 0 * 3072 + 1 * (j 2).val = (j 2).val; omega
theorem emb5 (t : Fin cfg0.N) (j : S3072.Idx) : ((cfg0.win 5).blk t).view.emb j = j := by
  funext a; apply Fin.ext
  match a with
  | ⟨0, _⟩ => show 0 * 3072 + 1 * (j 0).val = (j 0).val; omega
theorem emb6 (t : Fin cfg0.N) (j : S256x3072.Idx) : ((cfg0.win 6).blk t).view.emb j = j := by
  funext a; apply Fin.ext
  match a with
  | ⟨0, _⟩ => show 0 * 256 + 1 * (j 0).val = (j 0).val; omega
  | ⟨1, _⟩ => show 0 * 3072 + 1 * (j 1).val = (j 1).val; omega
theorem emb7 (t : Fin cfg0.N) (j : S256x3072.Idx) : ((cfg0.win 7).blk t).view.emb j = j := by
  funext a; apply Fin.ext
  match a with
  | ⟨0, _⟩ => show 0 * 256 + 1 * (j 0).val = (j 0).val; omega
  | ⟨1, _⟩ => show 0 * 3072 + 1 * (j 1).val = (j 1).val; omega
theorem emb8 (t : Fin cfg0.N) (j : S2x24x128.Idx) : ((cfg0.win 8).blk t).view.emb j = j := by
  funext a; apply Fin.ext
  match a with
  | ⟨0, _⟩ => show 0 * 2 + 1 * (j 0).val = (j 0).val; omega
  | ⟨1, _⟩ => show 0 * 24 + 1 * (j 1).val = (j 1).val; omega
  | ⟨2, _⟩ => show 0 * 128 + 1 * (j 2).val = (j 2).val; omega

/-- An input's block is its array. -/
theorem iblk0 (c : Dev nD) (t : Fin cfg0.N) : iblk m c 0 t = m ((c : Thread nD τ).loc main_arg0) :=
  funext fun j => congrArg (m ((c : Thread nD τ).loc main_arg0)) (emb0 t j)
theorem iblk1 (c : Dev nD) (t : Fin cfg0.N) : iblk m c 1 t = m ((c : Thread nD τ).loc main_arg1) :=
  funext fun j => congrArg (m ((c : Thread nD τ).loc main_arg1)) (emb1 t j)
theorem iblk2 (c : Dev nD) (t : Fin cfg0.N) : iblk m c 2 t = m ((c : Thread nD τ).loc main_arg2) :=
  funext fun j => congrArg (m ((c : Thread nD τ).loc main_arg2)) (emb2 t j)
theorem iblk3 (c : Dev nD) (t : Fin cfg0.N) : iblk m c 3 t = m ((c : Thread nD τ).loc main_arg3) :=
  funext fun j => congrArg (m ((c : Thread nD τ).loc main_arg3)) (emb3 t j)
theorem iblk4 (c : Dev nD) (t : Fin cfg0.N) : iblk m c 4 t = m ((c : Thread nD τ).loc main_arg4) :=
  funext fun j => congrArg (m ((c : Thread nD τ).loc main_arg4)) (emb4 t j)

theorem iblk5 (c : Dev nD) (t : Fin cfg0.N) : iblk m c 5 t = m ((c : Thread nD τ).loc main_arg5) :=
  funext fun j => congrArg (m ((c : Thread nD τ).loc main_arg5)) (emb5 t j)

theorem flushed_eq6 (c : Dev nD) (t : Fin cfg0.N) :
    (dats m 0 c).flushed 6 t = ((cfg0.win 6).blk t).view.read (Elt Ideal) (resultOf m c) := by
  show (cfg0.win 6).cut (grid0.coords t) ((dats m 0 c).after 6 t) = _
  rw [after0_6, out_eq6, iblk0, iblk1, iblk2, iblk3, iblk4, pay_apply]
  exact funext fun j => (congrArg (resultOf m c) (emb6 t j)).symm

theorem covered6 (i : S256x3072.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem final6 (c : Dev nD) : (dats m 0 c).arrAt 6 cfg0.N = resultOf m c :=
  (dats m 0 c).arrAt_eq_of_cover 6 (resultOf m c) (fun t _ => flushed_eq6 m c t) covered6

theorem flushed_eq7 (c : Dev nD) (t : Fin cfg0.N) :
    (dats m 0 c).flushed 7 t = ((cfg0.win 7).blk t).view.read (Elt Ideal) (codesOf m c) := by
  show (cfg0.win 7).cut (grid0.coords t) ((dats m 0 c).after 7 t) = _
  rw [after0_7, out_eq7, iblk0, iblk1, iblk2, iblk3, iblk4, iblk5, pay6_eq, pay_apply, pay3_apply]
  exact funext fun j => (congrArg (codesOf m c) (emb7 t j)).symm

theorem covered7 (i : S256x3072.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

theorem final7 (c : Dev nD) : (dats m 0 c).arrAt 7 cfg0.N = codesOf m c :=
  (dats m 0 c).arrAt_eq_of_cover 7 (codesOf m c) (fun t _ => flushed_eq7 m c t) covered7

theorem flushed_eq8 (c : Dev nD) (t : Fin cfg0.N) :
    (dats m 0 c).flushed 8 t = ((cfg0.win 8).blk t).view.read (Elt Ideal) (scalesOf m c) := by
  show (cfg0.win 8).cut (grid0.coords t) ((dats m 0 c).after 8 t) = _
  rw [after0_8, out_eq8, iblk0, iblk1, iblk2, iblk3, iblk4, iblk5, pay6_eq, pay_apply, pay4_apply]
  exact funext fun j => (congrArg (scalesOf m c) (emb8 t j)).symm

theorem covered8 (i : S2x24x128.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩

theorem final8 (c : Dev nD) : (dats m 0 c).arrAt 8 cfg0.N = scalesOf m c :=
  (dats m 0 c).arrAt_eq_of_cover 8 (scalesOf m c) (fun t _ => flushed_eq8 m c t) covered8

/-- The reference returns its results and keeps its arguments. -/
theorem run : θ_run (defs (F := Ideal)) (onTc (τ := τ) (main (F := Ideal))) ⟨m, fun _ => 0, ρ⟩ (fun r => ∀ c : Dev nD,
      r.2.mem ((c.tc : Thread nD τ).loc main_v0_0) = resultOf m c
      ∧ r.2.mem ((c.tc : Thread nD τ).loc main_v0_1) = codesOf m c
      ∧ r.2.mem ((c.tc : Thread nD τ).loc main_v0_2) = scalesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 6).trans (final6 m c), ((h.1 c).1 7).trans (final7 m c), ((h.1 c).1 8).trans (final8 m c), h.2 c⟩)
    (θ_run_and (run_main m ρ) (unchanged m ρ))

end Cert.ReferenceIdeal.RefValue
-- ==== Proof.Algebraic.lean ====
module

public import proofs.«01_k».proof.Proof.Frames
public import proofs.«01_k».proof.Proof.KVal
public import proofs.«01_k».proof.Proof.RefValue
public import Idealize.ShloMosaic.Lib.StableHlo.RunRead
public import Idealize.ShloMosaic.Lib.ReduceAll

/-! The kernel's results are the reference's, over the extended reals. -/

@[expose] public section

set_option maxRecDepth 65536

noncomputable section

namespace Cert.KernelIdeal.Hand

open Cert.KernelIdeal Cert.KernelIdeal.Gen Cert.Spec
open Idealize.ShloMosaic hiding ix1 ix2 ix3 ix4
open Idealize.ShloMosaic.TcCoe Idealize.ShloMosaic.ValueIdx
open Idealize.SL.Sem

variable (m : (ℓ : Loc nD τ sig) → Buf (Elt Ideal) ℓ) (c : Dev nD)

/-! ## What the kernel is given -/

theorem V_v0 : (V m c main_v0 : FVec Ideal S256x8192 .fp8e4m3)
    = shapeCast S256x8192 (m ((c.tc : Thread nD τ).loc main_arg0) : FVec Ideal S2x128x8192 .fp8e4m3) shapeCasts_S2x128x8192_S256x8192 := by
  after_reads_simp
  rfl
theorem V_v1 : (V m c main_v1 : FVec Ideal S2x64x128 .f32)
    = transpose S2x64x128 [0, 2, 1] (m ((c.tc : Thread nD τ).loc main_arg1) : FVec Ideal S2x128x64 .f32) transposes_S2x128x64_S2x64x128_0_2_1 := by
  after_reads_simp
theorem V_v2 : (V m c main_v2 : FVec Ideal S24x64 .f32)
    = transpose S24x64 [1, 0] (m ((c.tc : Thread nD τ).loc main_arg3) : FVec Ideal S64x24 .f32) transposes_S64x24_S24x64_1_0 := by
  after_reads_simp
theorem V_v3 : (V m c main_v3 : FVec Ideal S256x3072 .bf16)
    = shapeCast S256x3072 (m ((c.tc : Thread nD τ).loc main_arg4) : FVec Ideal S2x128x3072 .bf16) shapeCasts_S2x128x3072_S256x3072 := by
  after_reads_simp
  rfl

theorem V_v4 : (V m c main_v4 : FVec Ideal S24x128 .f32)
    = shapeCast S24x128 (m ((c.tc : Thread nD τ).loc main_arg5) : FVec Ideal S3072 .f32) shapeCasts_S3072_S24x128 := by
  after_reads_simp
  rfl

/-- The norm's weights, in one row, are the argument. -/
theorem nw_value : nwI (inpOf (V m c)) = m ((c.tc : Thread nD τ).loc main_arg5) := by
  funext j
  obtain ⟨y, rfl⟩ : ∃ y : Fin 3072, j = ix1 y := ⟨j 0, ValueIdx.eq_ix1 (n := 3072) j⟩
  have hy := y.2
  show V m c main_v4 (ix2 (blk y) (⟨y.1 % 128, Nat.mod_lt _ (by decide)⟩ : Fin 128)) = _
  refine (congrFun (V_v4 m c) _).trans (shapeCast_apply _ _ _ (ix1 y) ?_)
  refine (rm1 _).trans (Eq.trans ?_ (rm2 _ _).symm)
  show y.1 = y.1 / 128 * 128 + y.1 % 128
  omega

/-- The kernel's first result, as a function of the arguments. -/
theorem ro_value : roG (inpOf (V m c)) = outG (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  funext j
  obtain ⟨x, y, rfl⟩ : ∃ (x : Fin 256) (y : Fin 3072), j = ix2 x y := ⟨j 0, j 1, ValueIdx.eq_ix2 (n0 := 256) (n1 := 3072) j⟩
  have hx := x.2
  refine (roG_apply _ x y).trans ?_
  show _ = out _ _ _ _ _ x y
  unfold out
  refine congrArg₂ (· + ·) ?_ (Finset.sum_congr rfl fun K _ => congrArg₂ (· * ·) (congrArg₂ (· * ·) ?_ ?_) (congrArg₂ (· * ·) ?_ ?_))
  · refine (congrFun (V_v3 m c) _).trans (shapeCast_apply _ _ _ (ix3 (bat x) (pos x) y) ?_)
    refine (rm3 _ _ _).trans (Eq.trans ?_ (rm2 _ _).symm)
    show (x.1 / 128 * 128 + x.1 % 128) * 3072 + y.1 = x.1 * 3072 + y.1
    omega
  · refine (congrFun (V_v0 m c) _).trans (shapeCast_apply _ _ _ (ix3 (bat x) (pos x) K) ?_)
    refine (rm3 _ _ _).trans (Eq.trans ?_ (rm2 _ _).symm)
    show (x.1 / 128 * 128 + x.1 % 128) * 8192 + K.1 = x.1 * 8192 + K.1
    omega
  · refine (congrFun (V_v1 m c) _).trans (transpose_apply _ _ _ _ (ix3 (bat x) (pos x) (grp K)) fun a => ?_)
    match a with
    | ⟨0, _⟩ => rfl
    | ⟨1, _⟩ => rfl
    | ⟨2, _⟩ => rfl
  · exact congrFun (V_main_arg2 m c) _
  · exact (congrFun (V_v2 m c) _).trans (transpose_ix2_apply _ _ (blk y) (grp K))

end Cert.KernelIdeal.Hand

namespace Cert.Proof

open Idealize.ShloMosaic Idealize.ShloMosaic.TcCoe
open Idealize.SL Idealize.SL.Sem

instance facts_pre : Cert.Pre_finite_norm_w.Facts := ⟨by decide, by decide, by decide⟩

/-- The precondition says that no weight of the norm exceeds the largest finite number. -/
theorem pre_le (m : (ℓ : Loc Cert.KernelIdeal.nD Cert.KernelIdeal.τ Cert.KernelIdeal.sig) → Buf (Elt Ideal) ℓ)
    (h : Cert.Pre_KernelIdeal_finite_norm_w m) (c : Dev Cert.KernelIdeal.nD) (i : (⟨1, ![3072]⟩ : Shape).Idx) :
    max (show EReal from m ((c.tc : Thread Cert.KernelIdeal.nD Cert.KernelIdeal.τ).loc Cert.KernelIdeal.main_arg5) i)
      (-(show EReal from m ((c.tc : Thread Cert.KernelIdeal.nD Cert.KernelIdeal.τ).loc Cert.KernelIdeal.main_arg5) i)) ≤ Cert.Spec.f32 0x7F7FFFFF#32 := by
  have e := Host.reduce_andi_all _ _ _ _ _ (congrFun (h c) (fun a => a.elim0)) i
  replace e : Ideal.cmp .ole (max (show EReal from m ((c.tc : Thread Cert.KernelIdeal.nD Cert.KernelIdeal.τ).loc Cert.KernelIdeal.main_arg5) i)
      (-(show EReal from m ((c.tc : Thread Cert.KernelIdeal.nD Cert.KernelIdeal.τ).loc Cert.KernelIdeal.main_arg5) i))) (Cert.Spec.f32 0x7F7FFFFF#32) = 1#1 := e
  unfold Ideal.cmp at e
  by_contra hn
  simp [hn] at e

theorem algebraic : Cert.algebraic_KernelIdeal_ReferenceIdeal_pre_finite_norm_w (hKernelIdeal := Cert.KernelIdeal.Gen.facts)
    (hReferenceIdeal := Cert.ReferenceIdeal.Gen.facts) (hPre_finite_norm_w := facts_pre) := by
  intro m g m' g' hp hm
  have hw : ∀ c (y : Fin 3072), max (Cert.KernelIdeal.Hand.nwI (Cert.KernelIdeal.Hand.inpOf (Cert.KernelIdeal.Gen.V m c)) (ValueIdx.ix1 y))
      (-Cert.KernelIdeal.Hand.nwI (Cert.KernelIdeal.Hand.inpOf (Cert.KernelIdeal.Gen.V m c)) (ValueIdx.ix1 y)) ≤ Cert.Spec.f32 0x7F7FFFFF#32 := fun c y => by
    rw [Cert.KernelIdeal.Hand.nw_value]
    exact pre_le m hp c (ValueIdx.ix1 y)
  have hr : ∀ c, Cert.ReferenceIdeal.RefValue.resultOf m' c = Cert.KernelIdeal.Hand.roG (Cert.KernelIdeal.Hand.inpOf (Cert.KernelIdeal.Gen.V m c)) := fun c => by
    obtain ⟨h0, h1, h2, h3, h4, -⟩ := hm c
    refine Eq.trans ?_ (Cert.KernelIdeal.Hand.ro_value m c).symm
    unfold Cert.ReferenceIdeal.RefValue.resultOf
    rw [h0, h1, h2, h3, h4]
  have h5 := fun c => (hm c).2.2.2.2.2.1
  refine ⟨fun c => Cert.KernelIdeal.Hand.roG (Cert.KernelIdeal.Hand.inpOf (Cert.KernelIdeal.Gen.V m c)),
    fun c => Cert.KernelIdeal.Hand.xcG (Cert.KernelIdeal.Hand.inpOf (Cert.KernelIdeal.Gen.V m c)),
    fun c => Cert.KernelIdeal.Hand.xsG (Cert.KernelIdeal.Hand.inpOf (Cert.KernelIdeal.Gen.V m c)), ?_, ?_⟩
  · exact (θ_run _ _ _).mono (fun _ h c => ⟨(h.1 c).1.1, (h.1 c).1.2.1, (h.1 c).1.2.2, (h.1 c).2⟩) (Cert.KernelIdeal.Hand.run_args (F := Ideal) m g)
  · refine (θ_run _ _ _).mono (fun _ h c => ⟨(h c).1.trans (hr c), (h c).2.1.trans ?_, (h c).2.2.1.trans ?_, (h c).2.2.2⟩) (Cert.ReferenceIdeal.RefValue.run m' g')
    · refine Eq.trans ?_ (Cert.KernelIdeal.Hand.xcG_value _ (hw c)).symm
      rw [Cert.KernelIdeal.Hand.nw_value, ← hr c]
      unfold Cert.ReferenceIdeal.RefValue.codesOf
      rw [h5 c]
    · refine Eq.trans ?_ (Cert.KernelIdeal.Hand.xsG_value _ (hw c)).symm
      rw [Cert.KernelIdeal.Hand.nw_value, ← hr c]
      unfold Cert.ReferenceIdeal.RefValue.scalesOf
      rw [h5 c]

end Cert.Proof
-- ==== Proof.lean ====
module

public import proofs.«01_k».proof.Proof.Algebraic

/-! The claims, put together. -/

@[expose] public section

noncomputable section

theorem Cert.Proof.claim : Cert.Claim :=
  ⟨Cert.Kernel.Gen.facts, Cert.KernelIdeal.Gen.facts, Cert.ReferenceIdeal.Gen.facts, Cert.Proof.facts_pre,
    Cert.Proof.frame_kernel, Cert.Proof.frame_ideal, fun m g _ => Cert.Proof.frame_ideal m g trivial,
    Cert.Proof.frame_reference, fun m g _ => Cert.Proof.frame_reference m g trivial, trivial, Cert.Proof.algebraic⟩
